-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v26)) (v4 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_v29) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v37)) (v1 : (c : Dev Cert.Kernel2Ideal.nD) → Buf (Elt Ideal) ((c.tc : Thread Cert.Kernel2Ideal.nD Cert.Kernel2Ideal.τ).loc Cert.Kernel2Ideal.main_v33)) (v2 : (c : Dev Cert.Kernel2Ideal.nD) → Buf (Elt Ideal) ((c.tc : Thread Cert.Kernel2Ideal.nD Cert.Kernel2Ideal.τ).loc Cert.Kernel2Ideal.main_v35)) (v3 : (c : Dev Cert.Kernel2Ideal.nD) → Buf (Elt Ideal) ((c.tc : Thread Cert.Kernel2Ideal.nD Cert.Kernel2Ideal.τ).loc Cert.Kernel2Ideal.main_v38)) (v4 : (c : Dev Cert.Kernel2Ideal.nD) → Buf (Elt Ideal) ((c.tc : Thread Cert.Kernel2Ideal.nD Cert.Kernel2Ideal.τ).loc Cert.Kernel2Ideal.main_v39)) (v5 : (c : Dev Cert.Kernel2Ideal.nD) → Buf (Elt Ideal) ((c.tc : Thread Cert.Kernel2Ideal.nD Cert.Kernel2Ideal.τ).loc Cert.Kernel2Ideal.main_v40)) (v6 : (c : Dev Cert.Kernel2Ideal.nD) → Buf (Elt Ideal) ((c.tc : Thread Cert.Kernel2Ideal.nD Cert.Kernel2Ideal.τ).loc Cert.Kernel2Ideal.main_v41)) (v7 : (c : Dev Cert.Kernel2Ideal.nD) → Buf (Elt Ideal) ((c.tc : Thread Cert.Kernel2Ideal.nD Cert.Kernel2Ideal.τ).loc Cert.Kernel2Ideal.main_v42)) (v8 : (c : Dev Cert.Kernel2Ideal.nD) → Buf (Elt Ideal) ((c.tc : Thread Cert.Kernel2Ideal.nD Cert.Kernel2Ideal.τ).loc Cert.Kernel2Ideal.main_v43)) (v9 : (c : Dev Cert.Kernel2Ideal.nD) → Buf (Elt Ideal) ((c.tc : Thread Cert.Kernel2Ideal.nD Cert.Kernel2Ideal.τ).loc Cert.Kernel2Ideal.main_v30)) (v10 : (c : Dev Cert.Kernel2Ideal.nD) → Buf (Elt Ideal) ((c.tc : Thread Cert.Kernel2Ideal.nD Cert.Kernel2Ideal.τ).loc Cert.Kernel2Ideal.main_v31)) (v11 : (c : Dev Cert.Kernel2Ideal.nD) → Buf (Elt Ideal) ((c.tc : Thread Cert.Kernel2Ideal.nD Cert.Kernel2Ideal.τ).loc Cert.Kernel2Ideal.main_v44)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37) = v0 c
          ∧ r.2.mem ((c.tc : Thread Cert.Kernel2Ideal.nD Cert.Kernel2Ideal.τ).loc Cert.Kernel2Ideal.main_v33) = v1 c
          ∧ r.2.mem ((c.tc : Thread Cert.Kernel2Ideal.nD Cert.Kernel2Ideal.τ).loc Cert.Kernel2Ideal.main_v35) = v2 c
          ∧ r.2.mem ((c.tc : Thread Cert.Kernel2Ideal.nD Cert.Kernel2Ideal.τ).loc Cert.Kernel2Ideal.main_v38) = v3 c
          ∧ r.2.mem ((c.tc : Thread Cert.Kernel2Ideal.nD Cert.Kernel2Ideal.τ).loc Cert.Kernel2Ideal.main_v39) = v4 c
          ∧ r.2.mem ((c.tc : Thread Cert.Kernel2Ideal.nD Cert.Kernel2Ideal.τ).loc Cert.Kernel2Ideal.main_v40) = v5 c
          ∧ r.2.mem ((c.tc : Thread Cert.Kernel2Ideal.nD Cert.Kernel2Ideal.τ).loc Cert.Kernel2Ideal.main_v41) = v6 c
          ∧ r.2.mem ((c.tc : Thread Cert.Kernel2Ideal.nD Cert.Kernel2Ideal.τ).loc Cert.Kernel2Ideal.main_v42) = v7 c
          ∧ r.2.mem ((c.tc : Thread Cert.Kernel2Ideal.nD Cert.Kernel2Ideal.τ).loc Cert.Kernel2Ideal.main_v43) = v8 c
          ∧ r.2.mem ((c.tc : Thread Cert.Kernel2Ideal.nD Cert.Kernel2Ideal.τ).loc Cert.Kernel2Ideal.main_v30) = v9 c
          ∧ r.2.mem ((c.tc : Thread Cert.Kernel2Ideal.nD Cert.Kernel2Ideal.τ).loc Cert.Kernel2Ideal.main_v31) = v10 c
          ∧ r.2.mem ((c.tc : Thread Cert.Kernel2Ideal.nD Cert.Kernel2Ideal.τ).loc Cert.Kernel2Ideal.main_v44) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v127) = v0 c
          ∧ r.2.mem ((c.tc : Thread Cert.Reference2Ideal.nD Cert.Reference2Ideal.τ).loc Cert.Reference2Ideal.main_v129) = v1 c
          ∧ r.2.mem ((c.tc : Thread Cert.Reference2Ideal.nD Cert.Reference2Ideal.τ).loc Cert.Reference2Ideal.main_v131) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v86) = v4 c
          ∧ r.2.mem ((c.tc : Thread Cert.Reference2Ideal.nD Cert.Reference2Ideal.τ).loc Cert.Reference2Ideal.main_v89) = v5 c
          ∧ r.2.mem ((c.tc : Thread Cert.Reference2Ideal.nD Cert.Reference2Ideal.τ).loc Cert.Reference2Ideal.main_v59) = v6 c
          ∧ r.2.mem ((c.tc : Thread Cert.Reference2Ideal.nD Cert.Reference2Ideal.τ).loc Cert.Reference2Ideal.main_v60) = v7 c
          ∧ r.2.mem ((c.tc : Thread Cert.Reference2Ideal.nD Cert.Reference2Ideal.τ).loc Cert.Reference2Ideal.main_v61) = v8 c
          ∧ r.2.mem ((c.tc : Thread Cert.Reference2Ideal.nD Cert.Reference2Ideal.τ).loc Cert.Reference2Ideal.main_v90) = v9 c
          ∧ r.2.mem ((c.tc : Thread Cert.Reference2Ideal.nD Cert.Reference2Ideal.τ).loc Cert.Reference2Ideal.main_v91) = v10 c
          ∧ r.2.mem ((c.tc : Thread Cert.Reference2Ideal.nD Cert.Reference2Ideal.τ).loc Cert.Reference2Ideal.main_v64) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v15)) (v1 : (c : Dev Cert.Kernel3Ideal.nD) → Buf (Elt Ideal) ((c.tc : Thread Cert.Kernel3Ideal.nD Cert.Kernel3Ideal.τ).loc Cert.Kernel3Ideal.main_v17)) (v2 : (c : Dev Cert.Kernel3Ideal.nD) → Buf (Elt Ideal) ((c.tc : Thread Cert.Kernel3Ideal.nD Cert.Kernel3Ideal.τ).loc Cert.Kernel3Ideal.main_v19)) (v3 : (c : Dev Cert.Kernel3Ideal.nD) → Buf (Elt Ideal) ((c.tc : Thread Cert.Kernel3Ideal.nD Cert.Kernel3Ideal.τ).loc Cert.Kernel3Ideal.main_v22)) (v4 : (c : Dev Cert.Kernel3Ideal.nD) → Buf (Elt Ideal) ((c.tc : Thread Cert.Kernel3Ideal.nD Cert.Kernel3Ideal.τ).loc Cert.Kernel3Ideal.main_v23)) (v5 : (c : Dev Cert.Kernel3Ideal.nD) → Buf (Elt Ideal) ((c.tc : Thread Cert.Kernel3Ideal.nD Cert.Kernel3Ideal.τ).loc Cert.Kernel3Ideal.main_v24)) (v6 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_v17) = v1 c
          ∧ r.2.mem ((c.tc : Thread Cert.Kernel3Ideal.nD Cert.Kernel3Ideal.τ).loc Cert.Kernel3Ideal.main_v19) = v2 c
          ∧ r.2.mem ((c.tc : Thread Cert.Kernel3Ideal.nD Cert.Kernel3Ideal.τ).loc Cert.Kernel3Ideal.main_v22) = v3 c
          ∧ r.2.mem ((c.tc : Thread Cert.Kernel3Ideal.nD Cert.Kernel3Ideal.τ).loc Cert.Kernel3Ideal.main_v23) = v4 c
          ∧ r.2.mem ((c.tc : Thread Cert.Kernel3Ideal.nD Cert.Kernel3Ideal.τ).loc Cert.Kernel3Ideal.main_v24) = v5 c
          ∧ r.2.mem ((c.tc : Thread Cert.Kernel3Ideal.nD Cert.Kernel3Ideal.τ).loc Cert.Kernel3Ideal.main_v25) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v22) = v3 c
          ∧ r.2.mem ((c.tc : Thread Cert.Reference3Ideal.nD Cert.Reference3Ideal.τ).loc Cert.Reference3Ideal.main_v3) = v4 c
          ∧ r.2.mem ((c.tc : Thread Cert.Reference3Ideal.nD Cert.Reference3Ideal.τ).loc Cert.Reference3Ideal.main_v4) = v5 c
          ∧ r.2.mem ((c.tc : Thread Cert.Reference3Ideal.nD Cert.Reference3Ideal.τ).loc Cert.Reference3Ideal.main_v7) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v40)) (v1 : (c : Dev Cert.Kernel4Ideal.nD) → Buf (Elt Ideal) ((c.tc : Thread Cert.Kernel4Ideal.nD Cert.Kernel4Ideal.τ).loc Cert.Kernel4Ideal.main_v35)) (v2 : (c : Dev Cert.Kernel4Ideal.nD) → Buf (Elt Ideal) ((c.tc : Thread Cert.Kernel4Ideal.nD Cert.Kernel4Ideal.τ).loc Cert.Kernel4Ideal.main_v39)) (v3 : (c : Dev Cert.Kernel4Ideal.nD) → Buf (Elt Ideal) ((c.tc : Thread Cert.Kernel4Ideal.nD Cert.Kernel4Ideal.τ).loc Cert.Kernel4Ideal.main_v41)) (v4 : (c : Dev Cert.Kernel4Ideal.nD) → Buf (Elt Ideal) ((c.tc : Thread Cert.Kernel4Ideal.nD Cert.Kernel4Ideal.τ).loc Cert.Kernel4Ideal.main_v42)) (v5 : (c : Dev Cert.Kernel4Ideal.nD) → Buf (Elt Ideal) ((c.tc : Thread Cert.Kernel4Ideal.nD Cert.Kernel4Ideal.τ).loc Cert.Kernel4Ideal.main_v43)) (v6 : (c : Dev Cert.Kernel4Ideal.nD) → Buf (Elt Ideal) ((c.tc : Thread Cert.Kernel4Ideal.nD Cert.Kernel4Ideal.τ).loc Cert.Kernel4Ideal.main_v44)) (v7 : (c : Dev Cert.Kernel4Ideal.nD) → Buf (Elt Ideal) ((c.tc : Thread Cert.Kernel4Ideal.nD Cert.Kernel4Ideal.τ).loc Cert.Kernel4Ideal.main_v45)) (v8 : (c : Dev Cert.Kernel4Ideal.nD) → Buf (Elt Ideal) ((c.tc : Thread Cert.Kernel4Ideal.nD Cert.Kernel4Ideal.τ).loc Cert.Kernel4Ideal.main_v46)) (v9 : (c : Dev Cert.Kernel4Ideal.nD) → Buf (Elt Ideal) ((c.tc : Thread Cert.Kernel4Ideal.nD Cert.Kernel4Ideal.τ).loc Cert.Kernel4Ideal.main_v47)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40) = v0 c
          ∧ r.2.mem ((c.tc : Thread Cert.Kernel4Ideal.nD Cert.Kernel4Ideal.τ).loc Cert.Kernel4Ideal.main_v35) = v1 c
          ∧ r.2.mem ((c.tc : Thread Cert.Kernel4Ideal.nD Cert.Kernel4Ideal.τ).loc Cert.Kernel4Ideal.main_v39) = v2 c
          ∧ r.2.mem ((c.tc : Thread Cert.Kernel4Ideal.nD Cert.Kernel4Ideal.τ).loc Cert.Kernel4Ideal.main_v41) = v3 c
          ∧ r.2.mem ((c.tc : Thread Cert.Kernel4Ideal.nD Cert.Kernel4Ideal.τ).loc Cert.Kernel4Ideal.main_v42) = v4 c
          ∧ r.2.mem ((c.tc : Thread Cert.Kernel4Ideal.nD Cert.Kernel4Ideal.τ).loc Cert.Kernel4Ideal.main_v43) = v5 c
          ∧ r.2.mem ((c.tc : Thread Cert.Kernel4Ideal.nD Cert.Kernel4Ideal.τ).loc Cert.Kernel4Ideal.main_v44) = v6 c
          ∧ r.2.mem ((c.tc : Thread Cert.Kernel4Ideal.nD Cert.Kernel4Ideal.τ).loc Cert.Kernel4Ideal.main_v45) = v7 c
          ∧ r.2.mem ((c.tc : Thread Cert.Kernel4Ideal.nD Cert.Kernel4Ideal.τ).loc Cert.Kernel4Ideal.main_v46) = v8 c
          ∧ r.2.mem ((c.tc : Thread Cert.Kernel4Ideal.nD Cert.Kernel4Ideal.τ).loc Cert.Kernel4Ideal.main_v47) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v114) = v0 c
          ∧ r.2.mem ((c.tc : Thread Cert.Reference4Ideal.nD Cert.Reference4Ideal.τ).loc Cert.Reference4Ideal.main_v116) = v1 c
          ∧ r.2.mem ((c.tc : Thread Cert.Reference4Ideal.nD Cert.Reference4Ideal.τ).loc Cert.Reference4Ideal.main_v118) = v2 c
          ∧ r.2.mem ((c.tc : Thread Cert.Reference4Ideal.nD Cert.Reference4Ideal.τ).loc Cert.Reference4Ideal.main_v51) = v3 c
          ∧ r.2.mem ((c.tc : Thread Cert.Reference4Ideal.nD Cert.Reference4Ideal.τ).loc Cert.Reference4Ideal.main_v120) = v4 c
          ∧ r.2.mem ((c.tc : Thread Cert.Reference4Ideal.nD Cert.Reference4Ideal.τ).loc Cert.Reference4Ideal.main_v121) = v5 c
          ∧ r.2.mem ((c.tc : Thread Cert.Reference4Ideal.nD Cert.Reference4Ideal.τ).loc Cert.Reference4Ideal.main_v53) = v6 c
          ∧ r.2.mem ((c.tc : Thread Cert.Reference4Ideal.nD Cert.Reference4Ideal.τ).loc Cert.Reference4Ideal.main_v54) = v7 c
          ∧ r.2.mem ((c.tc : Thread Cert.Reference4Ideal.nD Cert.Reference4Ideal.τ).loc Cert.Reference4Ideal.main_v55) = v8 c
          ∧ r.2.mem ((c.tc : Thread Cert.Reference4Ideal.nD Cert.Reference4Ideal.τ).loc Cert.Reference4Ideal.main_v58) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2048x1024 : Shape := ⟨3, ![8, 2048, 1024]⟩
abbrev S16x1024 : Shape := ⟨2, ![16, 1024]⟩
abbrev S1x1024x3080 : Shape := ⟨3, ![1, 1024, 3080]⟩
abbrev S1x8 : Shape := ⟨2, ![1, 8]⟩
abbrev S_ : Shape := ⟨0, ![]⟩

class Facts : Prop where
  bcast_S_S8x2048x1024 : S_.BroadcastsInDim S8x2048x1024 (![] : Fin 0 → Fin S8x2048x1024.rank)
  bcast_S_S16x1024 : S_.BroadcastsInDim S16x1024 (![] : Fin 0 → Fin S16x1024.rank)
  bcast_S_S1x1024x3080 : S_.BroadcastsInDim S1x1024x3080 (![] : Fin 0 → Fin S1x1024x3080.rank)
  bcast_S_S1x8 : S_.BroadcastsInDim S1x8 (![] : Fin 0 → Fin S1x8.rank)

variable [Facts]

def fn {F : FTy → Type} [FloatOps F] (main_arg0 : FVec F S8x2048x1024 .f32) (main_arg1 : FVec F S16x1024 .f32) (main_arg2 : FVec F S1x1024x3080 .f32) (main_arg3 : FVec F S1x8 .f32) : IVec S8x2048x1024 1 × IVec S16x1024 1 × IVec S1x1024x3080 1 × IVec S1x8 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1x1024x3080 .f32 := Host.absf main_arg2
  let main_cst_1 : FVec F S_ .f32 := constant S_ .f32 0x7F800000#32
  let main_v7 : FVec F S1x1024x3080 .f32 := broadcastInDim S1x1024x3080 ![] bcast_S_S1x1024x3080 main_cst_1
  let main_v8 : IVec S1x1024x3080 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  (main_v2, main_v5, main_v8, main_v11)
-- ==== Kernel.lean ====
abbrev S8x2048x1024 : Shape := ⟨3, ![8, 2048, 1024]⟩
abbrev S16x1024 : Shape := ⟨2, ![16, 1024]⟩
abbrev S1x1024x3080 : Shape := ⟨3, ![1, 1024, 3080]⟩
abbrev S1x8 : Shape := ⟨2, ![1, 8]⟩
abbrev S_ : Shape := ⟨0, ![]⟩
abbrev S8x112x1024 : Shape := ⟨3, ![8, 112, 1024]⟩
abbrev S8x16x1024 : Shape := ⟨3, ![8, 16, 1024]⟩
abbrev S8x2176x1024 : Shape := ⟨3, ![8, 2176, 1024]⟩
abbrev S17408x1024 : Shape := ⟨2, ![17408, 1024]⟩
abbrev S1024x3080 : Shape := ⟨2, ![1024, 3080]⟩
abbrev S1024x3072 : Shape := ⟨2, ![1024, 3072]⟩
abbrev S1024x8 : Shape := ⟨2, ![1024, 8]⟩
abbrev S1024x128 : Shape := ⟨2, ![1024, 128]⟩
abbrev S8 : Shape := ⟨1, ![8]⟩
abbrev S1x128 : Shape := ⟨2, ![1, 128]⟩
abbrev S17408x512 : Shape := ⟨2, ![17408, 512]⟩
abbrev S17408x128 : Shape := ⟨2, ![17408, 128]⟩
abbrev S544x1024 : Shape := ⟨2, ![544, 1024]⟩
abbrev S544x512 : Shape := ⟨2, ![544, 512]⟩
abbrev S544x128 : Shape := ⟨2, ![544, 128]⟩
abbrev S1024x512 : Shape := ⟨2, ![1024, 512]⟩
abbrev S2176x128 : Shape := ⟨2, ![2176, 128]⟩
abbrev S128x128 : Shape := ⟨2, ![128, 128]⟩
abbrev S128x512 : Shape := ⟨2, ![128, 512]⟩
abbrev S2176x512 : Shape := ⟨2, ![2176, 512]⟩
abbrev S256x1 : Shape := ⟨2, ![256, 1]⟩
abbrev S1x384 : Shape := ⟨2, ![1, 384]⟩
abbrev S256x384 : Shape := ⟨2, ![256, 384]⟩
abbrev S384x128 : Shape := ⟨2, ![384, 128]⟩
abbrev S128x256 : Shape := ⟨2, ![128, 256]⟩
abbrev S256x256 : Shape := ⟨2, ![256, 256]⟩
abbrev S384x256 : Shape := ⟨2, ![384, 256]⟩
abbrev S256 : Shape := ⟨1, ![256]⟩
abbrev S256x128 : Shape := ⟨2, ![256, 128]⟩
abbrev S1x640 : Shape := ⟨2, ![1, 640]⟩
abbrev S256x640 : Shape := ⟨2, ![256, 640]⟩
abbrev S640x128 : Shape := ⟨2, ![640, 128]⟩
abbrev S640x256 : Shape := ⟨2, ![640, 256]⟩
abbrev S1x896 : Shape := ⟨2, ![1, 896]⟩
abbrev S256x896 : Shape := ⟨2, ![256, 896]⟩
abbrev S896x128 : Shape := ⟨2, ![896, 128]⟩
abbrev S896x256 : Shape := ⟨2, ![896, 256]⟩
abbrev S1x1152 : Shape := ⟨2, ![1, 1152]⟩
abbrev S256x1152 : Shape := ⟨2, ![256, 1152]⟩
abbrev S1152x128 : Shape := ⟨2, ![1152, 128]⟩
abbrev S1152x256 : Shape := ⟨2, ![1152, 256]⟩
abbrev S1x1408 : Shape := ⟨2, ![1, 1408]⟩
abbrev S256x1408 : Shape := ⟨2, ![256, 1408]⟩
abbrev S1408x128 : Shape := ⟨2, ![1408, 128]⟩
abbrev S1408x256 : Shape := ⟨2, ![1408, 256]⟩
abbrev S1x1664 : Shape := ⟨2, ![1, 1664]⟩
abbrev S256x1664 : Shape := ⟨2, ![256, 1664]⟩
abbrev S1664x128 : Shape := ⟨2, ![1664, 128]⟩
abbrev S1664x256 : Shape := ⟨2, ![1664, 256]⟩
abbrev S1x1920 : Shape := ⟨2, ![1, 1920]⟩
abbrev S256x1920 : Shape := ⟨2, ![256, 1920]⟩
abbrev S1920x128 : Shape := ⟨2, ![1920, 128]⟩
abbrev S1920x256 : Shape := ⟨2, ![1920, 256]⟩
abbrev S1x2176 : Shape := ⟨2, ![1, 2176]⟩
abbrev S256x2176 : Shape := ⟨2, ![256, 2176]⟩
abbrev S2176x256 : Shape := ⟨2, ![2176, 256]⟩
abbrev S8x2176x512 : Shape := ⟨3, ![8, 2176, 512]⟩
abbrev S8x2064x512 : Shape := ⟨3, ![8, 2064, 512]⟩
abbrev S8x15x512 : Shape := ⟨3, ![8, 15, 512]⟩
abbrev S1x8x15x512 : Shape := ⟨4, ![1, 8, 15, 512]⟩
abbrev S8x2176x8x64 : Shape := ⟨4, ![8, 2176, 8, 64]⟩
abbrev S8x2064x8x64 : Shape := ⟨4, ![8, 2064, 8, 64]⟩
abbrev S1x8x2064x8x64 : Shape := ⟨5, ![1, 8, 2064, 8, 64]⟩
abbrev S8x2176x128 : Shape := ⟨3, ![8, 2176, 128]⟩
abbrev S8x2064x8 : Shape := ⟨3, ![8, 2064, 8]⟩
abbrev S1x8x2064x8 : Shape := ⟨4, ![1, 8, 2064, 8]⟩

abbrev nBuf : Space → Nat
  | .hbm => 46
  | .vmem => 39
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024x3080, .f32⟩
  | .hbm, ⟨3, _⟩ => ⟨S1x8, .f32⟩
  | .hbm, ⟨4, _⟩ => ⟨S_, .f32⟩
  | .hbm, ⟨5, _⟩ => ⟨S8x112x1024, .f32⟩
  | .hbm, ⟨6, _⟩ => ⟨S8x16x1024, .f32⟩
  | .hbm, ⟨7, _⟩ => ⟨S8x2176x1024, .f32⟩
  | .hbm, ⟨8, _⟩ => ⟨S17408x1024, .f32⟩
  | .hbm, ⟨9, _⟩ => ⟨S1024x3080, .f32⟩
  | .hbm, ⟨10, _⟩ => ⟨S1024x3072, .f32⟩
  | .hbm, ⟨11, _⟩ => ⟨S1024x3072, .bf16⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S8, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S17408x512, .f32⟩
  | .hbm, ⟨23, _⟩ => ⟨S17408x512, .f32⟩
  | .hbm, ⟨24, _⟩ => ⟨S17408x512, .f32⟩
  | .hbm, ⟨25, _⟩ => ⟨S17408x512, .f32⟩
  | .hbm, ⟨26, _⟩ => ⟨S17408x512, .f32⟩
  | .hbm, ⟨27, _⟩ => ⟨S17408x512, .f32⟩
  | .hbm, ⟨28, _⟩ => ⟨S17408x128, .f32⟩
  | .hbm, ⟨29, _⟩ => ⟨S17408x128, .f32⟩
  | .hbm, ⟨30, _⟩ => ⟨S17408x128, .f32⟩
  | .hbm, ⟨31, _⟩ => ⟨S17408x512, .bf16⟩
  | .hbm, ⟨32, _⟩ => ⟨S8x2176x512, .bf16⟩
  | .hbm, ⟨33, _⟩ => ⟨S8x2064x512, .bf16⟩
  | .hbm, ⟨34, _⟩ => ⟨S8x2176x512, .f32⟩
  | .hbm, ⟨35, _⟩ => ⟨S8x15x512, .f32⟩
  | .hbm, ⟨36, _⟩ => ⟨S1x8x15x512, .f32⟩
  | .hbm, ⟨37, _⟩ => ⟨S8x2176x8x64, .f32⟩
  | .hbm, ⟨38, _⟩ => ⟨S8x2064x8x64, .f32⟩
  | .hbm, ⟨39, _⟩ => ⟨S1x8x2064x8x64, .f32⟩
  | .hbm, ⟨40, _⟩ => ⟨S8x2176x8x64, .f32⟩
  | .hbm, ⟨41, _⟩ => ⟨S8x2064x8x64, .f32⟩
  | .hbm, ⟨42, _⟩ => ⟨S1x8x2064x8x64, .f32⟩
  | .hbm, ⟨43, _⟩ => ⟨S8x2176x128, .f32⟩
  | .hbm, ⟨44, _⟩ => ⟨S8x2064x8, .f32⟩
  | .hbm, ⟨45, _⟩ => ⟨S1x8x2064x8, .f32⟩
  | .local _ .vmem, ⟨0, _⟩ => ⟨S544x1024, .f32⟩
  | .local _ .vmem, ⟨1, _⟩ => ⟨S544x1024, .f32⟩
  | .local _ .vmem, ⟨2, _⟩ => ⟨S1024x3072, .bf16⟩
  | .local _ .vmem, ⟨3, _⟩ => ⟨S1024x128, .bf16⟩
  | .local _ .vmem, ⟨4, _⟩ => ⟨S1x128, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x512, .f32⟩
  | .local _ .vmem, ⟨13, _⟩ => ⟨S544x512, .f32⟩
  | .local _ .vmem, ⟨14, _⟩ => ⟨S544x512, .f32⟩
  | .local _ .vmem, ⟨15, _⟩ => ⟨S544x512, .f32⟩
  | .local _ .vmem, ⟨16, _⟩ => ⟨S544x512, .f32⟩
  | .local _ .vmem, ⟨17, _⟩ => ⟨S544x128, .f32⟩
  | .local _ .vmem, ⟨18, _⟩ => ⟨S544x128, .f32⟩
  | .local _ .vmem, ⟨19, _⟩ => ⟨S2176x128, .f32⟩
  | .local _ .vmem, ⟨20, _⟩ => ⟨S2176x128, .f32⟩
  | .local _ .vmem, ⟨21, _⟩ => ⟨S2176x128, .f32⟩
  | .local _ .vmem, ⟨22, _⟩ => ⟨S2176x128, .f32⟩
  | .local _ .vmem, ⟨23, _⟩ => ⟨S2176x128, .f32⟩
  | .local _ .vmem, ⟨24, _⟩ => ⟨S2176x128, .f32⟩
  | .local _ .vmem, ⟨25, _⟩ => ⟨S128x512, .f32⟩
  | .local _ .vmem, ⟨26, _⟩ => ⟨S128x512, .f32⟩
  | .local _ .vmem, ⟨27, _⟩ => ⟨S2176x512, .f32⟩
  | .local _ .vmem, ⟨28, _⟩ => ⟨S2176x512, .f32⟩
  | .local _ .vmem, ⟨29, _⟩ => ⟨S2176x512, .f32⟩
  | .local _ .vmem, ⟨30, _⟩ => ⟨S2176x512, .f32⟩
  | .local _ .vmem, ⟨31, _⟩ => ⟨S128x128, .f32⟩
  | .local _ .vmem, ⟨32, _⟩ => ⟨S128x128, .f32⟩
  | .local _ .vmem, ⟨33, _⟩ => ⟨S2176x128, .f32⟩
  | .local _ .vmem, ⟨34, _⟩ => ⟨S2176x128, .f32⟩
  | .local _ .vmem, ⟨35, _⟩ => ⟨S128x512, .f32⟩
  | .local _ .vmem, ⟨36, _⟩ => ⟨S128x512, .f32⟩
  | .local _ .vmem, ⟨37, _⟩ => ⟨S128x512, .bf16⟩
  | .local _ .vmem, ⟨38, _⟩ => ⟨S128x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v14_0 : Ref sig .tc := ⟨.hbm, 29, rfl⟩
abbrev main_v14_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc2_stg5_0 : Ref sig .tc := ⟨.vmem, 35, rfl⟩
abbrev cc2_stg5_1 : Ref sig .tc := ⟨.vmem, 36, rfl⟩
abbrev cc2_stg6_0 : Ref sig .tc := ⟨.vmem, 37, rfl⟩
abbrev cc2_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc2_sem5_0 : DmaSem sig := 35
abbrev cc2_sem5_1 : DmaSem sig := 36
abbrev cc2_sem6_0 : DmaSem sig := 37
abbrev cc2_sem6_1 : DmaSem sig := 38

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S544x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S544x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S544x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2176x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2176x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2176x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 17], ![false, false]⟩

def k2_cond1 (i : grid2.Coords) : BitVec 1 :=
  let arg1 : BitVec 32 := BitVec.ofNat 32 (i 1).val
  let c0_i32 : BitVec 32 := 0#32
  let v9 : BitVec 1 := Scalar.cmpi .sge arg1 c0_i32
  let c3_i32 : BitVec 32 := 3#32
  let v10 : BitVec 1 := Scalar.cmpi .slt arg1 c3_i32
  let v11 : BitVec 1 := Scalar.andi v9 v10
  let v12 : BitVec 32 := Scalar.extui v11
  let c0_i32_0 : BitVec 32 := 0#32
  let v13 : BitVec 1 := Scalar.cmpi .ne v12 c0_i32_0
  v13

def k2_cond2 (i : grid2.Coords) : BitVec 1 :=
  let arg1 : BitVec 32 := BitVec.ofNat 32 (i 1).val
  let c3_i32_1 : BitVec 32 := 3#32
  let v14 : BitVec 1 := Scalar.cmpi .sge arg1 c3_i32_1
  let c5_i32 : BitVec 32 := 5#32
  let v15 : BitVec 1 := Scalar.cmpi .slt arg1 c5_i32
  let v16 : BitVec 1 := Scalar.andi v14 v15
  let v17 : BitVec 32 := Scalar.extui v16
  let c0_i32_2 : BitVec 32 := 0#32
  let v18 : BitVec 1 := Scalar.cmpi .ne v17 c0_i32_2
  v18

def k2_cond3 (i : grid2.Coords) : BitVec 1 :=
  let arg1 : BitVec 32 := BitVec.ofNat 32 (i 1).val
  let c5_i32_3 : BitVec 32 := 5#32
  let v19 : BitVec 1 := Scalar.cmpi .sge arg1 c5_i32_3
  let c7_i32 : BitVec 32 := 7#32
  let v20 : BitVec 1 := Scalar.cmpi .slt arg1 c7_i32
  let v21 : BitVec 1 := Scalar.andi v19 v20
  let v22 : BitVec 32 := Scalar.extui v21
  let c0_i32_4 : BitVec 32 := 0#32
  let v23 : BitVec 1 := Scalar.cmpi .ne v22 c0_i32_4
  v23

def k2_cond4 (i : grid2.Coords) : BitVec 1 :=
  let arg1 : BitVec 32 := BitVec.ofNat 32 (i 1).val
  let c7_i32_5 : BitVec 32 := 7#32
  let v24 : BitVec 1 := Scalar.cmpi .sge arg1 c7_i32_5
  let c9_i32 : BitVec 32 := 9#32
  let v25 : BitVec 1 := Scalar.cmpi .slt arg1 c9_i32
  let v26 : BitVec 1 := Scalar.andi v24 v25
  let v27 : BitVec 32 := Scalar.extui v26
  let c0_i32_6 : BitVec 32 := 0#32
  let v28 : BitVec 1 := Scalar.cmpi .ne v27 c0_i32_6
  v28

def k2_cond5 (i : grid2.Coords) : BitVec 1 :=
  let arg1 : BitVec 32 := BitVec.ofNat 32 (i 1).val
  let c9_i32_7 : BitVec 32 := 9#32
  let v29 : BitVec 1 := Scalar.cmpi .sge arg1 c9_i32_7
  let c11_i32 : BitVec 32 := 11#32
  let v30 : BitVec 1 := Scalar.cmpi .slt arg1 c11_i32
  let v31 : BitVec 1 := Scalar.andi v29 v30
  let v32 : BitVec 32 := Scalar.extui v31
  let c0_i32_8 : BitVec 32 := 0#32
  let v33 : BitVec 1 := Scalar.cmpi .ne v32 c0_i32_8
  v33

def k2_cond6 (i : grid2.Coords) : BitVec 1 :=
  let arg1 : BitVec 32 := BitVec.ofNat 32 (i 1).val
  let c11_i32_9 : BitVec 32 := 11#32
  let v34 : BitVec 1 := Scalar.cmpi .sge arg1 c11_i32_9
  let c13_i32 : BitVec 32 := 13#32
  let v35 : BitVec 1 := Scalar.cmpi .slt arg1 c13_i32
  let v36 : BitVec 1 := Scalar.andi v34 v35
  let v37 : BitVec 32 := Scalar.extui v36
  let c0_i32_10 : BitVec 32 := 0#32
  let v38 : BitVec 1 := Scalar.cmpi .ne v37 c0_i32_10
  v38

def k2_cond7 (i : grid2.Coords) : BitVec 1 :=
  let arg1 : BitVec 32 := BitVec.ofNat 32 (i 1).val
  let c13_i32_11 : BitVec 32 := 13#32
  let v39 : BitVec 1 := Scalar.cmpi .sge arg1 c13_i32_11
  let c15_i32 : BitVec 32 := 15#32
  let v40 : BitVec 1 := Scalar.cmpi .slt arg1 c15_i32
  let v41 : BitVec 1 := Scalar.andi v39 v40
  let v42 : BitVec 32 := Scalar.extui v41
  let c0_i32_12 : BitVec 32 := 0#32
  let v43 : BitVec 1 := Scalar.cmpi .ne v42 c0_i32_12
  v43

def k2_cond8 (i : grid2.Coords) : BitVec 1 :=
  let arg1 : BitVec 32 := BitVec.ofNat 32 (i 1).val
  let c15_i32_13 : BitVec 32 := 15#32
  let v44 : BitVec 1 := Scalar.cmpi .sge arg1 c15_i32_13
  let c17_i32 : BitVec 32 := 17#32
  let v45 : BitVec 1 := Scalar.cmpi .slt arg1 c17_i32
  let v46 : BitVec 1 := Scalar.andi v44 v45
  let v47 : BitVec 32 := Scalar.extui v46
  let c0_i32_14 : BitVec 32 := 0#32
  let v48 : BitVec 1 := Scalar.cmpi .ne v47 c0_i32_14
  v48

def cc2_transform_0 (i : grid2.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2176x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2176x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2176x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S128x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S16x1024 : Shape := ⟨2, ![16, 1024]⟩
abbrev S1x1024x3080 : Shape := ⟨3, ![1, 1024, 3080]⟩
abbrev S1x8 : Shape := ⟨2, ![1, 8]⟩
abbrev S2176 : Shape := ⟨1, ![2176]⟩
abbrev S_ : Shape := ⟨0, ![]⟩
abbrev S8x112x1024 : Shape := ⟨3, ![8, 112, 1024]⟩
abbrev S8x16x1024 : Shape := ⟨3, ![8, 16, 1024]⟩
abbrev S8x2176x1024 : Shape := ⟨3, ![8, 2176, 1024]⟩
abbrev S1024x3080 : Shape := ⟨2, ![1024, 3080]⟩
abbrev S8x2176x3080 : Shape := ⟨3, ![8, 2176, 3080]⟩
abbrev S8x2176x512 : Shape := ⟨3, ![8, 2176, 512]⟩
abbrev S8x2176x8 : Shape := ⟨3, ![8, 2176, 8]⟩
abbrev S8x2176x8x64 : Shape := ⟨4, ![8, 2176, 8, 64]⟩
abbrev S8 : Shape := ⟨1, ![8]⟩
abbrev S1x1x8 : Shape := ⟨3, ![1, 1, 8]⟩
abbrev S1x2176x1 : Shape := ⟨3, ![1, 2176, 1]⟩
abbrev S8x8x2176 : Shape := ⟨3, ![8, 8, 2176]⟩
abbrev S8x8x2176x2176 : Shape := ⟨4, ![8, 8, 2176, 2176]⟩
abbrev S8x8x2176x1 : Shape := ⟨4, ![8, 8, 2176, 1]⟩
abbrev S8x8x1x2176 : Shape := ⟨4, ![8, 8, 1, 2176]⟩
abbrev S1x2176 : Shape := ⟨2, ![1, 2176]⟩
abbrev S2176x1 : Shape := ⟨2, ![2176, 1]⟩
abbrev S2176x2176 : Shape := ⟨2, ![2176, 2176]⟩
abbrev S8x8x64x2176 : Shape := ⟨4, ![8, 8, 64, 2176]⟩
abbrev S8x2064x512 : Shape := ⟨3, ![8, 2064, 512]⟩
abbrev S8x15x512 : Shape := ⟨3, ![8, 15, 512]⟩
abbrev S1x8x15x512 : Shape := ⟨4, ![1, 8, 15, 512]⟩
abbrev S8x2064x8x64 : Shape := ⟨4, ![8, 2064, 8, 64]⟩
abbrev S1x8x2064x8x64 : Shape := ⟨5, ![1, 8, 2064, 8, 64]⟩
abbrev S8x2064x8 : Shape := ⟨3, ![8, 2064, 8]⟩
abbrev S1x8x2064x8 : Shape := ⟨4, ![1, 8, 2064, 8]⟩

abbrev nBuf : Space → Nat
  | .hbm => 115
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024x3080, .f32⟩
  | .hbm, ⟨3, _⟩ => ⟨S1x8, .f32⟩
  | .hbm, ⟨4, _⟩ => ⟨S2176, .i32⟩
  | .hbm, ⟨5, _⟩ => ⟨S_, .i32⟩
  | .hbm, ⟨6, _⟩ => ⟨S2176, .i32⟩
  | .hbm, ⟨7, _⟩ => ⟨S2176, .i1⟩
  | .hbm, ⟨8, _⟩ => ⟨S_, .f32⟩
  | .hbm, ⟨9, _⟩ => ⟨S8x112x1024, .f32⟩
  | .hbm, ⟨10, _⟩ => ⟨S8x16x1024, .f32⟩
  | .hbm, ⟨11, _⟩ => ⟨S8x2176x1024, .f32⟩
  | .hbm, ⟨12, _⟩ => ⟨S1024x3080, .f32⟩
  | .hbm, ⟨13, _⟩ => ⟨S8x2176x3080, .f32⟩
  | .hbm, ⟨14, _⟩ => ⟨S8x2176x512, .f32⟩
  | .hbm, ⟨15, _⟩ => ⟨S8x2176x512, .f32⟩
  | .hbm, ⟨16, _⟩ => ⟨S8x2176x512, .f32⟩
  | .hbm, ⟨17, _⟩ => ⟨S8x2176x512, .f32⟩
  | .hbm, ⟨18, _⟩ => ⟨S8x2176x512, .f32⟩
  | .hbm, ⟨19, _⟩ => ⟨S8x2176x512, .f32⟩
  | .hbm, ⟨20, _⟩ => ⟨S8x2176x8, .f32⟩
  | .hbm, ⟨21, _⟩ => ⟨S8x2176x8x64, .f32⟩
  | .hbm, ⟨22, _⟩ => ⟨S8x2176x8x64, .f32⟩
  | .hbm, ⟨23, _⟩ => ⟨S8x2176x8x64, .f32⟩
  | .hbm, ⟨24, _⟩ => ⟨S8, .f32⟩
  | .hbm, ⟨25, _⟩ => ⟨S1x1x8, .f32⟩
  | .hbm, ⟨26, _⟩ => ⟨S8x2176x8, .f32⟩
  | .hbm, ⟨27, _⟩ => ⟨S8x2176x8, .f32⟩
  | .hbm, ⟨28, _⟩ => ⟨S8x2176x8, .f32⟩
  | .hbm, ⟨29, _⟩ => ⟨S_, .f32⟩
  | .hbm, ⟨30, _⟩ => ⟨S8x2176x8, .f32⟩
  | .hbm, ⟨31, _⟩ => ⟨S8x2176x8, .f32⟩
  | .hbm, ⟨32, _⟩ => ⟨S8x2176x8, .f32⟩
  | .hbm, ⟨33, _⟩ => ⟨S8x2176x8, .f32⟩
  | .hbm, ⟨34, _⟩ => ⟨S8x2176x8, .i1⟩
  | .hbm, ⟨35, _⟩ => ⟨S8x2176x8, .f32⟩
  | .hbm, ⟨36, _⟩ => ⟨S8x2176x8, .f32⟩
  | .hbm, ⟨37, _⟩ => ⟨S8x2176x8, .f32⟩
  | .hbm, ⟨38, _⟩ => ⟨S8x2176x8, .f32⟩
  | .hbm, ⟨39, _⟩ => ⟨S8x2176x8, .f32⟩
  | .hbm, ⟨40, _⟩ => ⟨S8x2176x8, .f32⟩
  | .hbm, ⟨41, _⟩ => ⟨S8x2176x8, .f32⟩
  | .hbm, ⟨42, _⟩ => ⟨S8x2176x8, .f32⟩
  | .hbm, ⟨43, _⟩ => ⟨S8x2176x8, .f32⟩
  | .hbm, ⟨44, _⟩ => ⟨S1x2176x1, .i1⟩
  | .hbm, ⟨45, _⟩ => ⟨S_, .f32⟩
  | .hbm, ⟨46, _⟩ => ⟨S_, .f32⟩
  | .hbm, ⟨47, _⟩ => ⟨S8x2176x8, .i1⟩
  | .hbm, ⟨48, _⟩ => ⟨S8x2176x8, .f32⟩
  | .hbm, ⟨49, _⟩ => ⟨S8x2176x8, .f32⟩
  | .hbm, ⟨50, _⟩ => ⟨S_, .f32⟩
  | .hbm, ⟨51, _⟩ => ⟨S_, .f32⟩
  | .hbm, ⟨52, _⟩ => ⟨S8x2176x8, .f32⟩
  | .hbm, ⟨53, _⟩ => ⟨S8x8x2176, .f32⟩
  | .hbm, ⟨54, _⟩ => ⟨S2176, .i32⟩
  | .hbm, ⟨55, _⟩ => ⟨S8x8x2176x2176, .f32⟩
  | .hbm, ⟨56, _⟩ => ⟨S_, .f32⟩
  | .hbm, ⟨57, _⟩ => ⟨S8x8x2176x2176, .f32⟩
  | .hbm, ⟨58, _⟩ => ⟨S8x8x2176x2176, .f32⟩
  | .hbm, ⟨59, _⟩ => ⟨S8x8x2176x1, .f32⟩
  | .hbm, ⟨60, _⟩ => ⟨S8x8x2176x2176, .f32⟩
  | .hbm, ⟨61, _⟩ => ⟨S8x8x2176x2176, .f32⟩
  | .hbm, ⟨62, _⟩ => ⟨S8x8x1x2176, .f32⟩
  | .hbm, ⟨63, _⟩ => ⟨S8x8x2176x2176, .f32⟩
  | .hbm, ⟨64, _⟩ => ⟨S8x8x2176x2176, .f32⟩
  | .hbm, ⟨65, _⟩ => ⟨S1x2176, .i32⟩
  | .hbm, ⟨66, _⟩ => ⟨S2176x1, .i32⟩
  | .hbm, ⟨67, _⟩ => ⟨S2176x2176, .i32⟩
  | .hbm, ⟨68, _⟩ => ⟨S2176x2176, .i32⟩
  | .hbm, ⟨69, _⟩ => ⟨S2176x2176, .i1⟩
  | .hbm, ⟨70, _⟩ => ⟨S1x2176, .i1⟩
  | .hbm, ⟨71, _⟩ => ⟨S2176x2176, .i1⟩
  | .hbm, ⟨72, _⟩ => ⟨S2176x2176, .i1⟩
  | .hbm, ⟨73, _⟩ => ⟨S_, .f32⟩
  | .hbm, ⟨74, _⟩ => ⟨S_, .f32⟩
  | .hbm, ⟨75, _⟩ => ⟨S8x8x2176x2176, .i1⟩
  | .hbm, ⟨76, _⟩ => ⟨S8x8x2176x2176, .f32⟩
  | .hbm, ⟨77, _⟩ => ⟨S8x8x2176x2176, .f32⟩
  | .hbm, ⟨78, _⟩ => ⟨S_, .f32⟩
  | .hbm, ⟨79, _⟩ => ⟨S8x8x2176, .f32⟩
  | .hbm, ⟨80, _⟩ => ⟨S_, .f32⟩
  | .hbm, ⟨81, _⟩ => ⟨S8x8x2176, .f32⟩
  | .hbm, ⟨82, _⟩ => ⟨S8x8x2176, .f32⟩
  | .hbm, ⟨83, _⟩ => ⟨S8x8x2176x1, .f32⟩
  | .hbm, ⟨84, _⟩ => ⟨S8x8x2176x2176, .f32⟩
  | .hbm, ⟨85, _⟩ => ⟨S8x8x2176x2176, .f32⟩
  | .hbm, ⟨86, _⟩ => ⟨S8x8x2176x2176, .f32⟩
  | .hbm, ⟨87, _⟩ => ⟨S_, .f32⟩
  | .hbm, ⟨88, _⟩ => ⟨S8x8x2176, .f32⟩
  | .hbm, ⟨89, _⟩ => ⟨S8x8x2176x1, .f32⟩
  | .hbm, ⟨90, _⟩ => ⟨S8x8x2176x2176, .f32⟩
  | .hbm, ⟨91, _⟩ => ⟨S8x8x2176x2176, .f32⟩
  | .hbm, ⟨92, _⟩ => ⟨S8x8x64x2176, .f32⟩
  | .hbm, ⟨93, _⟩ => ⟨S8x2176x8x64, .f32⟩
  | .hbm, ⟨94, _⟩ => ⟨S8x2176x512, .f32⟩
  | .hbm, ⟨95, _⟩ => ⟨S8x2176x512, .f32⟩
  | .hbm, ⟨96, _⟩ => ⟨S8x2176x512, .f32⟩
  | .hbm, ⟨97, _⟩ => ⟨S_, .f32⟩
  | .hbm, ⟨98, _⟩ => ⟨S8x2176x512, .f32⟩
  | .hbm, ⟨99, _⟩ => ⟨S8x2176x512, .f32⟩
  | .hbm, ⟨100, _⟩ => ⟨S_, .f32⟩
  | .hbm, ⟨101, _⟩ => ⟨S8x2176x512, .f32⟩
  | .hbm, ⟨102, _⟩ => ⟨S8x2176x512, .f32⟩
  | .hbm, ⟨103, _⟩ => ⟨S8x2176x512, .f32⟩
  | .hbm, ⟨104, _⟩ => ⟨S8x2176x512, .f32⟩
  | .hbm, ⟨105, _⟩ => ⟨S8x2176x512, .bf16⟩
  | .hbm, ⟨106, _⟩ => ⟨S8x2064x512, .bf16⟩
  | .hbm, ⟨107, _⟩ => ⟨S8x15x512, .f32⟩
  | .hbm, ⟨108, _⟩ => ⟨S1x8x15x512, .f32⟩
  | .hbm, ⟨109, _⟩ => ⟨S8x2064x8x64, .f32⟩
  | .hbm, ⟨110, _⟩ => ⟨S1x8x2064x8x64, .f32⟩
  | .hbm, ⟨111, _⟩ => ⟨S8x2064x8x64, .f32⟩
  | .hbm, ⟨112, _⟩ => ⟨S1x8x2064x8x64, .f32⟩
  | .hbm, ⟨113, _⟩ => ⟨S8x2064x8, .f32⟩
  | .hbm, ⟨114, _⟩ => ⟨S1x8x2064x8, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v22 : Ref sig .tc := ⟨.hbm, 43, rfl⟩
abbrev main_v23 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_call2_call0_cst : Ref sig .tc := ⟨.hbm, 50, rfl⟩
abbrev main_call2_call0_v0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_2 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v45 : Ref sig .tc := ⟨.hbm, 77, rfl⟩
abbrev main_cst_3 : Ref sig .tc := ⟨.hbm, 78, rfl⟩
abbrev main_v46 : Ref sig .tc := ⟨.hbm, 79, rfl⟩
abbrev main_cst_4 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_5 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩

abbrev nD : Nat := 1
abbrev τ : Topo := Topo.v7x

variable {F : FTy → Type} [FloatOps F]
-- ==== Kernel2.lean ====
abbrev S8x2176x512 : Shape := ⟨3, ![8, 2176, 512]⟩
abbrev S8x2176x1024 : Shape := ⟨3, ![8, 2176, 1024]⟩
abbrev S1x1024x1024 : Shape := ⟨3, ![1, 1024, 1024]⟩
abbrev S1x1024 : Shape := ⟨2, ![1, 1024]⟩
abbrev S1x1024x3328 : Shape := ⟨3, ![1, 1024, 3328]⟩
abbrev S2x512 : Shape := ⟨2, ![2, 512]⟩
abbrev S1x512x1024 : Shape := ⟨3, ![1, 512, 1024]⟩
abbrev S512x1024 : Shape := ⟨2, ![512, 1024]⟩
abbrev S1024 : Shape := ⟨1, ![1024]⟩
abbrev S17408x512 : Shape := ⟨2, ![17408, 512]⟩
abbrev S17408x1024 : Shape := ⟨2, ![17408, 1024]⟩
abbrev S544x512 : Shape := ⟨2, ![544, 512]⟩
abbrev S544x1024 : Shape := ⟨2, ![544, 1024]⟩
abbrev S544 : Shape := ⟨1, ![544]⟩
abbrev S544x1 : Shape := ⟨2, ![544, 1]⟩
abbrev S1024x3328 : Shape := ⟨2, ![1024, 3328]⟩
abbrev S17408x128 : Shape := ⟨2, ![17408, 128]⟩
abbrev S544x128 : Shape := ⟨2, ![544, 128]⟩
abbrev S1x512 : Shape := ⟨2, ![1, 512]⟩
abbrev S1024x512 : Shape := ⟨2, ![1024, 512]⟩
abbrev S1024x128 : Shape := ⟨2, ![1024, 128]⟩
abbrev S8x2176x2x64 : Shape := ⟨4, ![8, 2176, 2, 64]⟩
abbrev S8x128x2x64 : Shape := ⟨4, ![8, 128, 2, 64]⟩
abbrev S1x8x128x2x64 : Shape := ⟨5, ![1, 8, 128, 2, 64]⟩
abbrev S8x2048x1024 : Shape := ⟨3, ![8, 2048, 1024]⟩

abbrev nBuf : Space → Nat
  | .hbm => 66
  | .vmem => 46
  | .smem => 0
  | _ => 0

abbrev bufTy : (tb : Table) → Fin (tcTables nBuf tb) → BufTy
  | .hbm, ⟨0, _⟩ => ⟨S8x2176x512, .bf16⟩
  | .hbm, ⟨1, _⟩ => ⟨S8x2176x512, .bf16⟩
  | .hbm, ⟨2, _⟩ => ⟨S8x2176x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x3328, .f32⟩
  | .hbm, ⟨7, _⟩ => ⟨S2x512, .f32⟩
  | .hbm, ⟨8, _⟩ => ⟨S8x2176x512, .bf16⟩
  | .hbm, ⟨9, _⟩ => ⟨S8x2176x512, .bf16⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1x512x1024, .f32⟩
  | .hbm, ⟨14, _⟩ => ⟨S512x1024, .f32⟩
  | .hbm, ⟨15, _⟩ => ⟨S512x1024, .bf16⟩
  | .hbm, ⟨16, _⟩ => ⟨S1x512x1024, .f32⟩
  | .hbm, ⟨17, _⟩ => ⟨S512x1024, .f32⟩
  | .hbm, ⟨18, _⟩ => ⟨S512x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S17408x512, .bf16⟩
  | .hbm, ⟨24, _⟩ => ⟨S17408x512, .bf16⟩
  | .hbm, ⟨25, _⟩ => ⟨S17408x1024, .f32⟩
  | .hbm, ⟨26, _⟩ => ⟨S17408x1024, .f32⟩
  | .hbm, ⟨27, _⟩ => ⟨S1024x3328, .f32⟩
  | .hbm, ⟨28, _⟩ => ⟨S1024x3328, .bf16⟩
  | .hbm, ⟨29, _⟩ => ⟨S17408x512, .f32⟩
  | .hbm, ⟨30, _⟩ => ⟨S17408x512, .f32⟩
  | .hbm, ⟨31, _⟩ => ⟨S17408x512, .f32⟩
  | .hbm, ⟨32, _⟩ => ⟨S17408x512, .f32⟩
  | .hbm, ⟨33, _⟩ => ⟨S17408x512, .f32⟩
  | .hbm, ⟨34, _⟩ => ⟨S17408x512, .f32⟩
  | .hbm, ⟨35, _⟩ => ⟨S17408x128, .f32⟩
  | .hbm, ⟨36, _⟩ => ⟨S17408x128, .f32⟩
  | .hbm, ⟨37, _⟩ => ⟨S17408x512, .f32⟩
  | .hbm, ⟨38, _⟩ => ⟨S1x512x1024, .f32⟩
  | .hbm, ⟨39, _⟩ => ⟨S512x1024, .f32⟩
  | .hbm, ⟨40, _⟩ => ⟨S512x1024, .bf16⟩
  | .hbm, ⟨41, _⟩ => ⟨S1x512x1024, .f32⟩
  | .hbm, ⟨42, _⟩ => ⟨S512x1024, .f32⟩
  | .hbm, ⟨43, _⟩ => ⟨S512x1024, .bf16⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S17408x512, .bf16⟩
  | .hbm, ⟨49, _⟩ => ⟨S17408x512, .bf16⟩
  | .hbm, ⟨50, _⟩ => ⟨S17408x1024, .f32⟩
  | .hbm, ⟨51, _⟩ => ⟨S8x2176x2x64, .f32⟩
  | .hbm, ⟨52, _⟩ => ⟨S8x2176x2x64, .f32⟩
  | .hbm, ⟨53, _⟩ => ⟨S8x128x2x64, .f32⟩
  | .hbm, ⟨54, _⟩ => ⟨S1x8x128x2x64, .f32⟩
  | .hbm, ⟨55, _⟩ => ⟨S8x128x2x64, .f32⟩
  | .hbm, ⟨56, _⟩ => ⟨S1x8x128x2x64, .f32⟩
  | .hbm, ⟨57, _⟩ => ⟨S8x2176x1024, .f32⟩
  | .hbm, ⟨58, _⟩ => ⟨S8x2048x1024, .f32⟩
  | .hbm, ⟨59, _⟩ => ⟨S8x2176x512, .f32⟩
  | .hbm, ⟨60, _⟩ => ⟨S8x2176x512, .f32⟩
  | .hbm, ⟨61, _⟩ => ⟨S8x2176x512, .f32⟩
  | .hbm, ⟨62, _⟩ => ⟨S8x2176x512, .f32⟩
  | .hbm, ⟨63, _⟩ => ⟨S8x2176x512, .f32⟩
  | .hbm, ⟨64, _⟩ => ⟨S8x2176x512, .f32⟩
  | .hbm, ⟨65, _⟩ => ⟨S8x2176x512, .f32⟩
  | .local _ .vmem, ⟨0, _⟩ => ⟨S544x512, .bf16⟩
  | .local _ .vmem, ⟨1, _⟩ => ⟨S544x512, .bf16⟩
  | .local _ .vmem, ⟨2, _⟩ => ⟨S544x512, .bf16⟩
  | .local _ .vmem, ⟨3, _⟩ => ⟨S544x512, .bf16⟩
  | .local _ .vmem, ⟨4, _⟩ => ⟨S544x1024, .f32⟩
  | .local _ .vmem, ⟨5, _⟩ => ⟨S544x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .f32⟩
  | .local _ .vmem, ⟨13, _⟩ => ⟨S544x1024, .f32⟩
  | .local _ .vmem, ⟨14, _⟩ => ⟨S1024x3328, .bf16⟩
  | .local _ .vmem, ⟨15, _⟩ => ⟨S2x512, .f32⟩
  | .local _ .vmem, ⟨16, _⟩ => ⟨S544x512, .f32⟩
  | .local _ .vmem, ⟨17, _⟩ => ⟨S544x512, .f32⟩
  | .local _ .vmem, ⟨18, _⟩ => ⟨S544x512, .f32⟩
  | .local _ .vmem, ⟨19, _⟩ => ⟨S544x512, .f32⟩
  | .local _ .vmem, ⟨20, _⟩ => ⟨S544x512, .f32⟩
  | .local _ .vmem, ⟨21, _⟩ => ⟨S544x512, .f32⟩
  | .local _ .vmem, ⟨22, _⟩ => ⟨S544x512, .f32⟩
  | .local _ .vmem, ⟨23, _⟩ => ⟨S544x512, .f32⟩
  | .local _ .vmem, ⟨24, _⟩ => ⟨S544x512, .f32⟩
  | .local _ .vmem, ⟨25, _⟩ => ⟨S544x512, .f32⟩
  | .local _ .vmem, ⟨26, _⟩ => ⟨S544x512, .f32⟩
  | .local _ .vmem, ⟨27, _⟩ => ⟨S544x512, .f32⟩
  | .local _ .vmem, ⟨28, _⟩ => ⟨S544x128, .f32⟩
  | .local _ .vmem, ⟨29, _⟩ => ⟨S544x128, .f32⟩
  | .local _ .vmem, ⟨30, _⟩ => ⟨S544x128, .f32⟩
  | .local _ .vmem, ⟨31, _⟩ => ⟨S544x128, .f32⟩
  | .local _ .vmem, ⟨32, _⟩ => ⟨S544x512, .f32⟩
  | .local _ .vmem, ⟨33, _⟩ => ⟨S544x512, .f32⟩
  | .local _ .vmem, ⟨34, _⟩ => ⟨S544x512, .bf16⟩
  | .local _ .vmem, ⟨35, _⟩ => ⟨S544x512, .bf16⟩
  | .local _ .vmem, ⟨36, _⟩ => ⟨S544x512, .bf16⟩
  | .local _ .vmem, ⟨37, _⟩ => ⟨S544x512, .bf16⟩
  | .local _ .vmem, ⟨38, _⟩ => ⟨S544x1024, .f32⟩
  | .local _ .vmem, ⟨39, _⟩ => ⟨S544x1024, .f32⟩
  | .local _ .vmem, ⟨40, _⟩ => ⟨S512x1024, .bf16⟩
  | .local _ .vmem, ⟨41, _⟩ => ⟨S512x1024, .bf16⟩
  | .local _ .vmem, ⟨42, _⟩ => ⟨S1x1024, .f32⟩
  | .local _ .vmem, ⟨43, _⟩ => ⟨S1x1024, .f32⟩
  | .local _ .vmem, ⟨44, _⟩ => ⟨S544x1024, .f32⟩
  | .local _ .vmem, ⟨45, _⟩ => ⟨S544x1024, .f32⟩
  | _, _ => ⟨S8x2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev main_v16_7 : Ref sig .tc := ⟨.hbm, 36, rfl⟩
abbrev main_v16_8 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg7_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem4_0 : DmaSem sig := 41
abbrev cc2_sem5_0 : DmaSem sig := 42
abbrev cc2_sem6_0 : DmaSem sig := 43
abbrev cc2_sem7_0 : DmaSem sig := 44
abbrev cc2_sem7_1 : DmaSem sig := 45

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_11 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S544x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x3328 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S544x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S544x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S544x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S544x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S544x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S544x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S544x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S544x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S544x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S544x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S544x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S544x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S512x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S512x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S544x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== Reference2Ideal.lean ====
abbrev S8x2176x512 : Shape := ⟨3, ![8, 2176, 512]⟩
abbrev S8x2176x1024 : Shape := ⟨3, ![8, 2176, 1024]⟩
abbrev S1x1024x1024 : Shape := ⟨3, ![1, 1024, 1024]⟩
abbrev S1x1024 : Shape := ⟨2, ![1, 1024]⟩
abbrev S1x1024x3328 : Shape := ⟨3, ![1, 1024, 3328]⟩
abbrev S2x512 : Shape := ⟨2, ![2, 512]⟩
abbrev S2176 : Shape := ⟨1, ![2176]⟩
abbrev S_ : Shape := ⟨0, ![]⟩
abbrev S512 : Shape := ⟨1, ![512]⟩
abbrev S1x512 : Shape := ⟨2, ![1, 512]⟩
abbrev S1024x1024 : Shape := ⟨2, ![1024, 1024]⟩
abbrev S1x2176x1 : Shape := ⟨3, ![1, 2176, 1]⟩
abbrev S1024 : Shape := ⟨1, ![1024]⟩
abbrev S8x2176 : Shape := ⟨2, ![8, 2176]⟩
abbrev S8x2176x1 : Shape := ⟨3, ![8, 2176, 1]⟩
abbrev S1x1x1024 : Shape := ⟨3, ![1, 1, 1024]⟩
abbrev S1024x3328 : Shape := ⟨2, ![1024, 3328]⟩
abbrev S8x2176x3328 : Shape := ⟨3, ![8, 2176, 3328]⟩
abbrev S8x2176x128 : Shape := ⟨3, ![8, 2176, 128]⟩
abbrev S1x1x512 : Shape := ⟨3, ![1, 1, 512]⟩
abbrev S8x2176x2x64 : Shape := ⟨4, ![8, 2176, 2, 64]⟩
abbrev S8x2048x1024 : Shape := ⟨3, ![8, 2048, 1024]⟩
abbrev S8x128x2x64 : Shape := ⟨4, ![8, 128, 2, 64]⟩
abbrev S1x8x128x2x64 : Shape := ⟨5, ![1, 8, 128, 2, 64]⟩

abbrev nBuf : Space → Nat
  | .hbm => 183
  | .vmem => 0
  | .smem => 0
  | _ => 0

abbrev hbmTy0_0 (i : Nat) : BufTy := match i % 128 with
  | 0 => ⟨S8x2176x512, .bf16⟩
  | 1 => ⟨S8x2176x512, .bf16⟩
  | 2 => ⟨S8x2176x1024, .f32⟩
  | 3 => ⟨S1x1024x1024, .f32⟩
  | 4 => ⟨S1x1024, .f32⟩
  | 5 => ⟨S1x1024, .f32⟩
  | 6 => ⟨S1x1024x3328, .f32⟩
  | 7 => ⟨S2x512, .f32⟩
  | 8 => ⟨S8x2176x512, .bf16⟩
  | 9 => ⟨S8x2176x512, .bf16⟩
  | 10 => ⟨S1x1024x1024, .f32⟩
  | 11 => ⟨S1x1024, .f32⟩
  | 12 => ⟨S1x1024, .f32⟩
  | 13 => ⟨S2176, .i32⟩
  | 14 => ⟨S_, .i32⟩
  | 15 => ⟨S2176, .i32⟩
  | 16 => ⟨S2176, .i1⟩
  | 17 => ⟨S_, .f32⟩
  | 18 => ⟨S512, .f32⟩
  | 19 => ⟨S_, .f32⟩
  | 20 => ⟨S512, .f32⟩
  | 21 => ⟨S512, .f32⟩
  | 22 => ⟨S1x512, .f32⟩
  | 23 => ⟨S2x512, .f32⟩
  | 24 => ⟨S2x512, .f32⟩
  | 25 => ⟨S2x512, .f32⟩
  | 26 => ⟨S_, .f32⟩
  | 27 => ⟨S512, .f32⟩
  | 28 => ⟨S1x512, .f32⟩
  | 29 => ⟨S2x512, .f32⟩
  | 30 => ⟨S2x512, .f32⟩
  | 31 => ⟨S_, .f32⟩
  | 32 => ⟨S_, .f32⟩
  | 33 => ⟨S2x512, .f32⟩
  | 34 => ⟨S1x512, .f32⟩
  | 35 => ⟨S512, .f32⟩
  | 36 => ⟨S1x512, .f32⟩
  | 37 => ⟨S2x512, .f32⟩
  | 38 => ⟨S2x512, .f32⟩
  | 39 => ⟨S8x2176x1024, .bf16⟩
  | 40 => ⟨S8x2176x1024, .f32⟩
  | 41 => ⟨S1024x1024, .f32⟩
  | 42 => ⟨S8x2176x1024, .f32⟩
  | 43 => ⟨S1x2176x1, .i1⟩
  | 44 => ⟨S_, .f32⟩
  | 45 => ⟨S8x2176x1024, .f32⟩
  | 46 => ⟨S8x2176x1024, .f32⟩
  | 47 => ⟨S8x2176x1024, .f32⟩
  | 48 => ⟨S1024, .f32⟩
  | 49 => ⟨S1024, .f32⟩
  | 50 => ⟨S_, .f32⟩
  | 51 => ⟨S8x2176, .f32⟩
  | 52 => ⟨S8x2176x1, .f32⟩
  | 53 => ⟨S_, .f32⟩
  | 54 => ⟨S8x2176x1, .f32⟩
  | 55 => ⟨S8x2176x1, .f32⟩
  | 56 => ⟨S8x2176x1024, .f32⟩
  | 57 => ⟨S8x2176x1024, .f32⟩
  | 58 => ⟨S8x2176x1024, .f32⟩
  | 59 => ⟨S_, .f32⟩
  | 60 => ⟨S8x2176, .f32⟩
  | 61 => ⟨S8x2176x1, .f32⟩
  | 62 => ⟨S_, .f32⟩
  | 63 => ⟨S8x2176x1, .f32⟩
  | 64 => ⟨S8x2176x1, .f32⟩
  | 65 => ⟨S8x2176x1024, .f32⟩
  | 66 => ⟨S8x2176x1024, .f32⟩
  | 67 => ⟨S_, .f32⟩
  | 68 => ⟨S8x2176x1, .f32⟩
  | 69 => ⟨S8x2176x1, .f32⟩
  | 70 => ⟨S8x2176x1, .f32⟩
  | 71 => ⟨S8x2176x1024, .f32⟩
  | 72 => ⟨S8x2176x1024, .f32⟩
  | 73 => ⟨S1x1x1024, .f32⟩
  | 74 => ⟨S8x2176x1024, .f32⟩
  | 75 => ⟨S8x2176x1024, .f32⟩
  | 76 => ⟨S1x1x1024, .f32⟩
  | 77 => ⟨S8x2176x1024, .f32⟩
  | 78 => ⟨S8x2176x1024, .f32⟩
  | 79 => ⟨S_, .f32⟩
  | 80 => ⟨S_, .f32⟩
  | 81 => ⟨S8x2176x1024, .i1⟩
  | 82 => ⟨S8x2176x1024, .f32⟩
  | 83 => ⟨S8x2176x1024, .f32⟩
  | 84 => ⟨S1024x3328, .f32⟩
  | 85 => ⟨S8x2176x3328, .f32⟩
  | 86 => ⟨S8x2176x512, .f32⟩
  | 87 => ⟨S8x2176x512, .f32⟩
  | 88 => ⟨S8x2176x512, .f32⟩
  | 89 => ⟨S8x2176x512, .f32⟩
  | 90 => ⟨S8x2176x512, .f32⟩
  | 91 => ⟨S8x2176x128, .f32⟩
  | 92 => ⟨S8x2176x128, .f32⟩
  | 93 => ⟨S8x2176x512, .f32⟩
  | 94 => ⟨S1x512, .f32⟩
  | 95 => ⟨S512, .f32⟩
  | 96 => ⟨S1x512, .f32⟩
  | 97 => ⟨S512, .f32⟩
  | 98 => ⟨S_, .f32⟩
  | 99 => ⟨S512, .f32⟩
  | 100 => ⟨S512, .f32⟩
  | 101 => ⟨S8x2176x512, .f32⟩
  | 102 => ⟨S8x2176x512, .f32⟩
  | 103 => ⟨S_, .f32⟩
  | 104 => ⟨S8x2176x512, .f32⟩
  | 105 => ⟨S8x2176x512, .f32⟩
  | 106 => ⟨S_, .f32⟩
  | 107 => ⟨S8x2176x512, .f32⟩
  | 108 => ⟨S8x2176x512, .f32⟩
  | 109 => ⟨S1x1x512, .f32⟩
  | 110 => ⟨S8x2176x512, .f32⟩
  | 111 => ⟨S8x2176x512, .f32⟩
  | 112 => ⟨S1x1x512, .f32⟩
  | 113 => ⟨S8x2176x512, .f32⟩
  | 114 => ⟨S8x2176x512, .f32⟩
  | 115 => ⟨S1x2176x1, .i1⟩
  | 116 => ⟨S_, .f32⟩
  | 117 => ⟨S8x2176x512, .f32⟩
  | 118 => ⟨S8x2176x512, .f32⟩
  | 119 => ⟨S_, .f32⟩
  | 120 => ⟨S_, .f32⟩
  | 121 => ⟨S8x2176x512, .i1⟩
  | 122 => ⟨S8x2176x512, .f32⟩
  | 123 => ⟨S8x2176x512, .f32⟩
  | 124 => ⟨S1x2176x1, .i1⟩
  | 125 => ⟨S8x2176x512, .f32⟩
  | 126 => ⟨S_, .f32⟩
  | 127 => ⟨S_, .f32⟩
  | _ => ⟨S8x2176x512, .bf16⟩

abbrev hbmTy0_1 (i : Nat) : BufTy := match i % 128 with
  | 0 => ⟨S8x2176x512, .i1⟩
  | 1 => ⟨S8x2176x512, .f32⟩
  | 2 => ⟨S8x2176x512, .f32⟩
  | 3 => ⟨S8x2176x2x64, .f32⟩
  | 4 => ⟨S8x2176x2x64, .f32⟩
  | 5 => ⟨S8x2176x1024, .bf16⟩
  | 6 => ⟨S8x2176x1024, .f32⟩
  | 7 => ⟨S1024x1024, .f32⟩
  | 8 => ⟨S8x2176x1024, .f32⟩
  | 9 => ⟨S1x2176x1, .i1⟩
  | 10 => ⟨S_, .f32⟩
  | 11 => ⟨S8x2176x1024, .f32⟩
  | 12 => ⟨S8x2176x1024, .f32⟩
  | 13 => ⟨S8x2176x1024, .f32⟩
  | 14 => ⟨S1024, .f32⟩
  | 15 => ⟨S1024, .f32⟩
  | 16 => ⟨S_, .f32⟩
  | 17 => ⟨S8x2176, .f32⟩
  | 18 => ⟨S8x2176x1, .f32⟩
  | 19 => ⟨S_, .f32⟩
  | 20 => ⟨S8x2176x1, .f32⟩
  | 21 => ⟨S8x2176x1, .f32⟩
  | 22 => ⟨S8x2176x1024, .f32⟩
  | 23 => ⟨S8x2176x1024, .f32⟩
  | 24 => ⟨S8x2176x1024, .f32⟩
  | 25 => ⟨S_, .f32⟩
  | 26 => ⟨S8x2176, .f32⟩
  | 27 => ⟨S8x2176x1, .f32⟩
  | 28 => ⟨S_, .f32⟩
  | 29 => ⟨S8x2176x1, .f32⟩
  | 30 => ⟨S8x2176x1, .f32⟩
  | 31 => ⟨S8x2176x1024, .f32⟩
  | 32 => ⟨S8x2176x1024, .f32⟩
  | 33 => ⟨S_, .f32⟩
  | 34 => ⟨S8x2176x1, .f32⟩
  | 35 => ⟨S8x2176x1, .f32⟩
  | 36 => ⟨S8x2176x1, .f32⟩
  | 37 => ⟨S8x2176x1024, .f32⟩
  | 38 => ⟨S8x2176x1024, .f32⟩
  | 39 => ⟨S1x1x1024, .f32⟩
  | 40 => ⟨S8x2176x1024, .f32⟩
  | 41 => ⟨S8x2176x1024, .f32⟩
  | 42 => ⟨S1x1x1024, .f32⟩
  | 43 => ⟨S8x2176x1024, .f32⟩
  | 44 => ⟨S8x2176x1024, .f32⟩
  | 45 => ⟨S_, .f32⟩
  | 46 => ⟨S_, .f32⟩
  | 47 => ⟨S8x2176x1024, .i1⟩
  | 48 => ⟨S8x2176x1024, .f32⟩
  | 49 => ⟨S8x2176x1024, .f32⟩
  | 50 => ⟨S8x2048x1024, .f32⟩
  | 51 => ⟨S8x128x2x64, .f32⟩
  | 52 => ⟨S1x8x128x2x64, .f32⟩
  | 53 => ⟨S8x128x2x64, .f32⟩
  | 54 => ⟨S1x8x128x2x64, .f32⟩
  | _ => ⟨S8x2176x512, .bf16⟩

abbrev hbmTy (i : Nat) : BufTy := match i / 128 with
  | 0 => hbmTy0_0 i
  | 1 => hbmTy0_1 i
  | _ => ⟨S8x2176x512, .bf16⟩

abbrev bufTy : (tb : Table) → Fin (tcTables nBuf tb) → BufTy
  | .hbm, ⟨i, _⟩ => hbmTy i
  | _, _ => ⟨S8x2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_call0_cst : Ref sig .tc := ⟨.hbm, 31, rfl⟩
abbrev main_call0_call0_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_10 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_cst_13 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_14 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_15 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_16 : Ref sig .tc := ⟨.hbm, 144, rfl⟩
abbrev main_v102 : Ref sig .tc := ⟨.hbm, 145, rfl⟩
abbrev main_v103 : Ref sig .tc := ⟨.hbm, 146, rfl⟩
abbrev main_cst_17 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_18 : Ref sig .tc := ⟨.hbm, 153, rfl⟩
abbrev main_v109 : Ref sig .tc := ⟨.hbm, 154, rfl⟩
abbrev main_v110 : Ref sig .tc := ⟨.hbm, 155, rfl⟩
abbrev main_cst_19 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_20 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_21 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩

abbrev nD : Nat := 1
abbrev τ : Topo := Topo.v7x

variable {F : FTy → Type} [FloatOps F]
-- ==== Kernel3.lean ====
abbrev S128x8x1024 : Shape := ⟨3, ![128, 8, 1024]⟩
abbrev S1x128x15x512 : Shape := ⟨4, ![1, 128, 15, 512]⟩
abbrev S1x1024x3080 : Shape := ⟨3, ![1, 1024, 3080]⟩
abbrev S1x8 : Shape := ⟨2, ![1, 8]⟩
abbrev S1024x1024 : Shape := ⟨2, ![1024, 1024]⟩
abbrev S1024x3080 : Shape := ⟨2, ![1024, 3080]⟩
abbrev S1024x3072 : Shape := ⟨2, ![1024, 3072]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S1x128 : Shape := ⟨2, ![1, 128]⟩
abbrev S1024x512 : Shape := ⟨2, ![1024, 512]⟩
abbrev S256x1024 : Shape := ⟨2, ![256, 1024]⟩
abbrev S256x512 : Shape := ⟨2, ![256, 512]⟩
abbrev S256x128 : Shape := ⟨2, ![256, 128]⟩
abbrev S128x15x512 : Shape := ⟨3, ![128, 15, 512]⟩
abbrev S128x8x512 : Shape := ⟨3, ![128, 8, 512]⟩
abbrev S128x23x512 : Shape := ⟨3, ![128, 23, 512]⟩
abbrev S128x8x8x64 : Shape := ⟨4, ![128, 8, 8, 64]⟩
abbrev S1x128x8x8x64 : Shape := ⟨5, ![1, 128, 8, 8, 64]⟩
abbrev S128x8x128 : Shape := ⟨3, ![128, 8, 128]⟩
abbrev S128x8x8 : Shape := ⟨3, ![128, 8, 8]⟩
abbrev S1x128x8x8 : Shape := ⟨4, ![1, 128, 8, 8]⟩

abbrev nBuf : Space → Nat
  | .hbm => 40
  | .vmem => 19
  | .smem => 0
  | _ => 0

abbrev bufTy : (tb : Table) → Fin (tcTables nBuf tb) → BufTy
  | .hbm, ⟨0, _⟩ => ⟨S128x8x1024, .f32⟩
  | .hbm, ⟨1, _⟩ => ⟨S1x128x15x512, .f32⟩
  | .hbm, ⟨2, _⟩ => ⟨S1x1024x3080, .f32⟩
  | .hbm, ⟨3, _⟩ => ⟨S1x8, .f32⟩
  | .hbm, ⟨4, _⟩ => ⟨S1024x1024, .f32⟩
  | .hbm, ⟨5, _⟩ => ⟨S1024x3080, .f32⟩
  | .hbm, ⟨6, _⟩ => ⟨S1024x3072, .f32⟩
  | .hbm, ⟨7, _⟩ => ⟨S1024x3072, .bf16⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S8, .f32⟩
  | .hbm, ⟨14, _⟩ => ⟨S1x8, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x128, .f32⟩
  | .hbm, ⟨25, _⟩ => ⟨S128x15x512, .f32⟩
  | .hbm, ⟨26, _⟩ => ⟨S128x8x512, .f32⟩
  | .hbm, ⟨27, _⟩ => ⟨S128x23x512, .f32⟩
  | .hbm, ⟨28, _⟩ => ⟨S128x15x512, .f32⟩
  | .hbm, ⟨29, _⟩ => ⟨S1x128x15x512, .f32⟩
  | .hbm, ⟨30, _⟩ => ⟨S128x8x8x64, .f32⟩
  | .hbm, ⟨31, _⟩ => ⟨S1x128x8x8x64, .f32⟩
  | .hbm, ⟨32, _⟩ => ⟨S128x8x8x64, .f32⟩
  | .hbm, ⟨33, _⟩ => ⟨S1x128x8x8x64, .f32⟩
  | .hbm, ⟨34, _⟩ => ⟨S128x8x128, .f32⟩
  | .hbm, ⟨35, _⟩ => ⟨S128x8x8, .f32⟩
  | .hbm, ⟨36, _⟩ => ⟨S1x128x8x8, .f32⟩
  | .hbm, ⟨37, _⟩ => ⟨S128x8x512, .f32⟩
  | .hbm, ⟨38, _⟩ => ⟨S128x8x512, .f32⟩
  | .hbm, ⟨39, _⟩ => ⟨S128x8x512, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S1024x128, .bf16⟩
  | .local _ .vmem, ⟨4, _⟩ => ⟨S1x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x128, .f32⟩
  | .local _ .vmem, ⟨18, _⟩ => ⟨S256x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S128x8x1024 : Shape := ⟨3, ![128, 8, 1024]⟩
abbrev S1x128x15x512 : Shape := ⟨4, ![1, 128, 15, 512]⟩
abbrev S1x1024x3080 : Shape := ⟨3, ![1, 1024, 3080]⟩
abbrev S1x8 : Shape := ⟨2, ![1, 8]⟩
abbrev S1024x3080 : Shape := ⟨2, ![1024, 3080]⟩
abbrev S128x8x3080 : Shape := ⟨3, ![128, 8, 3080]⟩
abbrev S128x8x512 : Shape := ⟨3, ![128, 8, 512]⟩
abbrev S128x8x8 : Shape := ⟨3, ![128, 8, 8]⟩
abbrev S128x8x8x64 : Shape := ⟨4, ![128, 8, 8, 64]⟩
abbrev S8 : Shape := ⟨1, ![8]⟩
abbrev S1x1x8 : Shape := ⟨3, ![1, 1, 8]⟩
abbrev S_ : Shape := ⟨0, ![]⟩
abbrev S128x15x512 : Shape := ⟨3, ![128, 15, 512]⟩
abbrev S128x23x512 : Shape := ⟨3, ![128, 23, 512]⟩
abbrev S1x128x8x8x64 : Shape := ⟨5, ![1, 128, 8, 8, 64]⟩
abbrev S1x128x8x8 : Shape := ⟨4, ![1, 128, 8, 8]⟩

abbrev nBuf : Space → Nat
  | .hbm => 42
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x128x15x512, .f32⟩
  | .hbm, ⟨2, _⟩ => ⟨S1x1024x3080, .f32⟩
  | .hbm, ⟨3, _⟩ => ⟨S1x8, .f32⟩
  | .hbm, ⟨4, _⟩ => ⟨S1024x3080, .f32⟩
  | .hbm, ⟨5, _⟩ => ⟨S128x8x3080, .f32⟩
  | .hbm, ⟨6, _⟩ => ⟨S128x8x512, .f32⟩
  | .hbm, ⟨7, _⟩ => ⟨S128x8x512, .f32⟩
  | .hbm, ⟨8, _⟩ => ⟨S128x8x512, .f32⟩
  | .hbm, ⟨9, _⟩ => ⟨S128x8x512, .f32⟩
  | .hbm, ⟨10, _⟩ => ⟨S128x8x512, .f32⟩
  | .hbm, ⟨11, _⟩ => ⟨S128x8x512, .f32⟩
  | .hbm, ⟨12, _⟩ => ⟨S128x8x8, .f32⟩
  | .hbm, ⟨13, _⟩ => ⟨S128x8x8x64, .f32⟩
  | .hbm, ⟨14, _⟩ => ⟨S128x8x8x64, .f32⟩
  | .hbm, ⟨15, _⟩ => ⟨S8, .f32⟩
  | .hbm, ⟨16, _⟩ => ⟨S1x1x8, .f32⟩
  | .hbm, ⟨17, _⟩ => ⟨S128x8x8, .f32⟩
  | .hbm, ⟨18, _⟩ => ⟨S128x8x8, .f32⟩
  | .hbm, ⟨19, _⟩ => ⟨S128x8x8, .f32⟩
  | .hbm, ⟨20, _⟩ => ⟨S_, .f32⟩
  | .hbm, ⟨21, _⟩ => ⟨S128x8x8, .f32⟩
  | .hbm, ⟨22, _⟩ => ⟨S128x8x8, .f32⟩
  | .hbm, ⟨23, _⟩ => ⟨S128x8x8, .f32⟩
  | .hbm, ⟨24, _⟩ => ⟨S128x8x8, .f32⟩
  | .hbm, ⟨25, _⟩ => ⟨S128x8x8, .i1⟩
  | .hbm, ⟨26, _⟩ => ⟨S128x8x8, .f32⟩
  | .hbm, ⟨27, _⟩ => ⟨S128x8x8, .f32⟩
  | .hbm, ⟨28, _⟩ => ⟨S128x8x8, .f32⟩
  | .hbm, ⟨29, _⟩ => ⟨S128x8x8, .f32⟩
  | .hbm, ⟨30, _⟩ => ⟨S128x8x8, .f32⟩
  | .hbm, ⟨31, _⟩ => ⟨S128x8x8, .f32⟩
  | .hbm, ⟨32, _⟩ => ⟨S128x8x8, .f32⟩
  | .hbm, ⟨33, _⟩ => ⟨S128x8x8, .f32⟩
  | .hbm, ⟨34, _⟩ => ⟨S128x8x8, .f32⟩
  | .hbm, ⟨35, _⟩ => ⟨S128x15x512, .f32⟩
  | .hbm, ⟨36, _⟩ => ⟨S128x23x512, .f32⟩
  | .hbm, ⟨37, _⟩ => ⟨S128x15x512, .f32⟩
  | .hbm, ⟨38, _⟩ => ⟨S1x128x15x512, .f32⟩
  | .hbm, ⟨39, _⟩ => ⟨S1x128x8x8x64, .f32⟩
  | .hbm, ⟨40, _⟩ => ⟨S1x128x8x8x64, .f32⟩
  | .hbm, ⟨41, _⟩ => ⟨S1x128x8x8, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== Kernel4.lean ====
abbrev S128x8x512 : Shape := ⟨3, ![128, 8, 512]⟩
abbrev S128x8x1024 : Shape := ⟨3, ![128, 8, 1024]⟩
abbrev S1x1024x1024 : Shape := ⟨3, ![1, 1024, 1024]⟩
abbrev S1x1024 : Shape := ⟨2, ![1, 1024]⟩
abbrev S1x1024x3328 : Shape := ⟨3, ![1, 1024, 3328]⟩
abbrev S2x512 : Shape := ⟨2, ![2, 512]⟩
abbrev S1x128x128x2x64 : Shape := ⟨5, ![1, 128, 128, 2, 64]⟩
abbrev S1024x1024 : Shape := ⟨2, ![1024, 1024]⟩
abbrev S1x512x1024 : Shape := ⟨3, ![1, 512, 1024]⟩
abbrev S512x1024 : Shape := ⟨2, ![512, 1024]⟩
abbrev S1024 : Shape := ⟨1, ![1024]⟩
abbrev S1024x512 : Shape := ⟨2, ![1024, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024x3328 : Shape := ⟨2, ![1024, 3328]⟩
abbrev S1024x128 : Shape := ⟨2, ![1024, 128]⟩
abbrev S256x128 : Shape := ⟨2, ![256, 128]⟩
abbrev S1x512 : Shape := ⟨2, ![1, 512]⟩
abbrev S128x8x2x64 : Shape := ⟨4, ![128, 8, 2, 64]⟩
abbrev S128x128x2x64 : Shape := ⟨4, ![128, 128, 2, 64]⟩
abbrev S128x136x2x64 : Shape := ⟨4, ![128, 136, 2, 64]⟩

abbrev nBuf : Space → Nat
  | .hbm => 71
  | .vmem => 46
  | .smem => 0
  | _ => 0

abbrev bufTy : (tb : Table) → Fin (tcTables nBuf tb) → BufTy
  | .hbm, ⟨0, _⟩ => ⟨S128x8x512, .f32⟩
  | .hbm, ⟨1, _⟩ => ⟨S128x8x512, .f32⟩
  | .hbm, ⟨2, _⟩ => ⟨S128x8x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x3328, .f32⟩
  | .hbm, ⟨7, _⟩ => ⟨S2x512, .f32⟩
  | .hbm, ⟨8, _⟩ => ⟨S1x128x128x2x64, .f32⟩
  | .hbm, ⟨9, _⟩ => ⟨S1x128x128x2x64, .f32⟩
  | .hbm, ⟨10, _⟩ => ⟨S128x8x512, .f32⟩
  | .hbm, ⟨11, _⟩ => ⟨S128x8x512, .f32⟩
  | .hbm, ⟨12, _⟩ => ⟨S1x1024x1024, .f32⟩
  | .hbm, ⟨13, _⟩ => ⟨S1x1024, .f32⟩
  | .hbm, ⟨14, _⟩ => ⟨S1x1024, .f32⟩
  | .hbm, ⟨15, _⟩ => ⟨S1024x1024, .f32⟩
  | .hbm, ⟨16, _⟩ => ⟨S1x512x1024, .f32⟩
  | .hbm, ⟨17, _⟩ => ⟨S512x1024, .f32⟩
  | .hbm, ⟨18, _⟩ => ⟨S512x1024, .bf16⟩
  | .hbm, ⟨19, _⟩ => ⟨S1x512x1024, .f32⟩
  | .hbm, ⟨20, _⟩ => ⟨S512x1024, .f32⟩
  | .hbm, ⟨21, _⟩ => ⟨S512x1024, .bf16⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024x512, .f32⟩
  | .hbm, ⟨27, _⟩ => ⟨S1024x512, .f32⟩
  | .hbm, ⟨28, _⟩ => ⟨S1024x1024, .f32⟩
  | .hbm, ⟨29, _⟩ => ⟨S1024x3328, .f32⟩
  | .hbm, ⟨30, _⟩ => ⟨S1024x3328, .bf16⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x128, .f32⟩
  | .hbm, ⟨38, _⟩ => ⟨S1024x128, .f32⟩
  | .hbm, ⟨39, _⟩ => ⟨S1024x512, .f32⟩
  | .hbm, ⟨40, _⟩ => ⟨S1x512x1024, .f32⟩
  | .hbm, ⟨41, _⟩ => ⟨S512x1024, .f32⟩
  | .hbm, ⟨42, _⟩ => ⟨S512x1024, .bf16⟩
  | .hbm, ⟨43, _⟩ => ⟨S1x512x1024, .f32⟩
  | .hbm, ⟨44, _⟩ => ⟨S512x1024, .f32⟩
  | .hbm, ⟨45, _⟩ => ⟨S512x1024, .bf16⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1024x512, .f32⟩
  | .hbm, ⟨51, _⟩ => ⟨S1024x512, .f32⟩
  | .hbm, ⟨52, _⟩ => ⟨S1024x1024, .f32⟩
  | .hbm, ⟨53, _⟩ => ⟨S128x8x2x64, .f32⟩
  | .hbm, ⟨54, _⟩ => ⟨S128x8x2x64, .f32⟩
  | .hbm, ⟨55, _⟩ => ⟨S128x128x2x64, .f32⟩
  | .hbm, ⟨56, _⟩ => ⟨S128x136x2x64, .f32⟩
  | .hbm, ⟨57, _⟩ => ⟨S128x128x2x64, .f32⟩
  | .hbm, ⟨58, _⟩ => ⟨S1x128x128x2x64, .f32⟩
  | .hbm, ⟨59, _⟩ => ⟨S128x128x2x64, .f32⟩
  | .hbm, ⟨60, _⟩ => ⟨S128x136x2x64, .f32⟩
  | .hbm, ⟨61, _⟩ => ⟨S128x128x2x64, .f32⟩
  | .hbm, ⟨62, _⟩ => ⟨S1x128x128x2x64, .f32⟩
  | .hbm, ⟨63, _⟩ => ⟨S128x8x1024, .f32⟩
  | .hbm, ⟨64, _⟩ => ⟨S128x8x512, .f32⟩
  | .hbm, ⟨65, _⟩ => ⟨S128x8x512, .f32⟩
  | .hbm, ⟨66, _⟩ => ⟨S128x8x512, .f32⟩
  | .hbm, ⟨67, _⟩ => ⟨S128x8x512, .f32⟩
  | .hbm, ⟨68, _⟩ => ⟨S128x8x512, .f32⟩
  | .hbm, ⟨69, _⟩ => ⟨S128x8x512, .f32⟩
  | .hbm, ⟨70, _⟩ => ⟨S128x8x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x3328, .bf16⟩
  | .local _ .vmem, ⟨15, _⟩ => ⟨S2x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x1024, .f32⟩
  | .local _ .vmem, ⟨39, _⟩ => ⟨S256x1024, .f32⟩
  | .local _ .vmem, ⟨40, _⟩ => ⟨S512x1024, .bf16⟩
  | .local _ .vmem, ⟨41, _⟩ => ⟨S512x1024, .bf16⟩
  | .local _ .vmem, ⟨42, _⟩ => ⟨S1x1024, .f32⟩
  | .local _ .vmem, ⟨43, _⟩ => ⟨S1x1024, .f32⟩
  | .local _ .vmem, ⟨44, _⟩ => ⟨S256x1024, .f32⟩
  | .local _ .vmem, ⟨45, _⟩ => ⟨S256x1024, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v16_4 : Ref sig .tc := ⟨.hbm, 35, rfl⟩
abbrev main_v16_5 : Ref sig .tc := ⟨.hbm, 36, rfl⟩
abbrev main_v16_6 : Ref sig .tc := ⟨.hbm, 37, rfl⟩
abbrev main_v16_7 : Ref sig .tc := ⟨.hbm, 38, rfl⟩
abbrev main_v16_8 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg7_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem4_0 : DmaSem sig := 41
abbrev cc2_sem5_0 : DmaSem sig := 42
abbrev cc2_sem6_0 : DmaSem sig := 43
abbrev cc2_sem7_0 : DmaSem sig := 44
abbrev cc2_sem7_1 : DmaSem sig := 45

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_11 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x3328 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S512x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S512x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== Reference4Ideal.lean ====
abbrev S128x8x512 : Shape := ⟨3, ![128, 8, 512]⟩
abbrev S128x8x1024 : Shape := ⟨3, ![128, 8, 1024]⟩
abbrev S1x1024x1024 : Shape := ⟨3, ![1, 1024, 1024]⟩
abbrev S1x1024 : Shape := ⟨2, ![1, 1024]⟩
abbrev S1x1024x3328 : Shape := ⟨3, ![1, 1024, 3328]⟩
abbrev S2x512 : Shape := ⟨2, ![2, 512]⟩
abbrev S1x128x128x2x64 : Shape := ⟨5, ![1, 128, 128, 2, 64]⟩
abbrev S_ : Shape := ⟨0, ![]⟩
abbrev S512 : Shape := ⟨1, ![512]⟩
abbrev S1x512 : Shape := ⟨2, ![1, 512]⟩
abbrev S1024x1024 : Shape := ⟨2, ![1024, 1024]⟩
abbrev S1024 : Shape := ⟨1, ![1024]⟩
abbrev S128x8 : Shape := ⟨2, ![128, 8]⟩
abbrev S128x8x1 : Shape := ⟨3, ![128, 8, 1]⟩
abbrev S1x1x1024 : Shape := ⟨3, ![1, 1, 1024]⟩
abbrev S1024x3328 : Shape := ⟨2, ![1024, 3328]⟩
abbrev S128x8x3328 : Shape := ⟨3, ![128, 8, 3328]⟩
abbrev S128x8x128 : Shape := ⟨3, ![128, 8, 128]⟩
abbrev S1x1x512 : Shape := ⟨3, ![1, 1, 512]⟩
abbrev S128x8x2x64 : Shape := ⟨4, ![128, 8, 2, 64]⟩
abbrev S128x128x2x64 : Shape := ⟨4, ![128, 128, 2, 64]⟩
abbrev S128x136x2x64 : Shape := ⟨4, ![128, 136, 2, 64]⟩

abbrev nBuf : Space → Nat
  | .hbm => 158
  | .vmem => 0
  | .smem => 0
  | _ => 0

abbrev hbmTy0_0 (i : Nat) : BufTy := match i % 128 with
  | 0 => ⟨S128x8x512, .f32⟩
  | 1 => ⟨S128x8x512, .f32⟩
  | 2 => ⟨S128x8x1024, .f32⟩
  | 3 => ⟨S1x1024x1024, .f32⟩
  | 4 => ⟨S1x1024, .f32⟩
  | 5 => ⟨S1x1024, .f32⟩
  | 6 => ⟨S1x1024x3328, .f32⟩
  | 7 => ⟨S2x512, .f32⟩
  | 8 => ⟨S1x128x128x2x64, .f32⟩
  | 9 => ⟨S1x128x128x2x64, .f32⟩
  | 10 => ⟨S128x8x512, .f32⟩
  | 11 => ⟨S128x8x512, .f32⟩
  | 12 => ⟨S1x1024x1024, .f32⟩
  | 13 => ⟨S1x1024, .f32⟩
  | 14 => ⟨S1x1024, .f32⟩
  | 15 => ⟨S_, .f32⟩
  | 16 => ⟨S512, .f32⟩
  | 17 => ⟨S_, .f32⟩
  | 18 => ⟨S512, .f32⟩
  | 19 => ⟨S512, .f32⟩
  | 20 => ⟨S1x512, .f32⟩
  | 21 => ⟨S2x512, .f32⟩
  | 22 => ⟨S2x512, .f32⟩
  | 23 => ⟨S2x512, .f32⟩
  | 24 => ⟨S_, .f32⟩
  | 25 => ⟨S512, .f32⟩
  | 26 => ⟨S1x512, .f32⟩
  | 27 => ⟨S2x512, .f32⟩
  | 28 => ⟨S2x512, .f32⟩
  | 29 => ⟨S_, .f32⟩
  | 30 => ⟨S_, .f32⟩
  | 31 => ⟨S2x512, .f32⟩
  | 32 => ⟨S1x512, .f32⟩
  | 33 => ⟨S512, .f32⟩
  | 34 => ⟨S1x512, .f32⟩
  | 35 => ⟨S2x512, .f32⟩
  | 36 => ⟨S2x512, .f32⟩
  | 37 => ⟨S128x8x1024, .f32⟩
  | 38 => ⟨S1024x1024, .f32⟩
  | 39 => ⟨S128x8x1024, .f32⟩
  | 40 => ⟨S_, .f32⟩
  | 41 => ⟨S128x8x1024, .f32⟩
  | 42 => ⟨S128x8x1024, .f32⟩
  | 43 => ⟨S128x8x1024, .f32⟩
  | 44 => ⟨S1024, .f32⟩
  | 45 => ⟨S1024, .f32⟩
  | 46 => ⟨S_, .f32⟩
  | 47 => ⟨S128x8, .f32⟩
  | 48 => ⟨S128x8x1, .f32⟩
  | 49 => ⟨S_, .f32⟩
  | 50 => ⟨S128x8x1, .f32⟩
  | 51 => ⟨S128x8x1, .f32⟩
  | 52 => ⟨S128x8x1024, .f32⟩
  | 53 => ⟨S128x8x1024, .f32⟩
  | 54 => ⟨S128x8x1024, .f32⟩
  | 55 => ⟨S_, .f32⟩
  | 56 => ⟨S128x8, .f32⟩
  | 57 => ⟨S128x8x1, .f32⟩
  | 58 => ⟨S_, .f32⟩
  | 59 => ⟨S128x8x1, .f32⟩
  | 60 => ⟨S128x8x1, .f32⟩
  | 61 => ⟨S128x8x1024, .f32⟩
  | 62 => ⟨S128x8x1024, .f32⟩
  | 63 => ⟨S_, .f32⟩
  | 64 => ⟨S128x8x1, .f32⟩
  | 65 => ⟨S128x8x1, .f32⟩
  | 66 => ⟨S128x8x1, .f32⟩
  | 67 => ⟨S128x8x1024, .f32⟩
  | 68 => ⟨S128x8x1024, .f32⟩
  | 69 => ⟨S1x1x1024, .f32⟩
  | 70 => ⟨S128x8x1024, .f32⟩
  | 71 => ⟨S128x8x1024, .f32⟩
  | 72 => ⟨S1x1x1024, .f32⟩
  | 73 => ⟨S128x8x1024, .f32⟩
  | 74 => ⟨S128x8x1024, .f32⟩
  | 75 => ⟨S1024x3328, .f32⟩
  | 76 => ⟨S128x8x3328, .f32⟩
  | 77 => ⟨S128x8x512, .f32⟩
  | 78 => ⟨S128x8x512, .f32⟩
  | 79 => ⟨S128x8x512, .f32⟩
  | 80 => ⟨S128x8x512, .f32⟩
  | 81 => ⟨S128x8x512, .f32⟩
  | 82 => ⟨S128x8x128, .f32⟩
  | 83 => ⟨S128x8x128, .f32⟩
  | 84 => ⟨S128x8x512, .f32⟩
  | 85 => ⟨S1x512, .f32⟩
  | 86 => ⟨S512, .f32⟩
  | 87 => ⟨S1x512, .f32⟩
  | 88 => ⟨S512, .f32⟩
  | 89 => ⟨S_, .f32⟩
  | 90 => ⟨S512, .f32⟩
  | 91 => ⟨S512, .f32⟩
  | 92 => ⟨S128x8x512, .f32⟩
  | 93 => ⟨S128x8x512, .f32⟩
  | 94 => ⟨S_, .f32⟩
  | 95 => ⟨S128x8x512, .f32⟩
  | 96 => ⟨S128x8x512, .f32⟩
  | 97 => ⟨S_, .f32⟩
  | 98 => ⟨S128x8x512, .f32⟩
  | 99 => ⟨S128x8x512, .f32⟩
  | 100 => ⟨S1x1x512, .f32⟩
  | 101 => ⟨S128x8x512, .f32⟩
  | 102 => ⟨S128x8x512, .f32⟩
  | 103 => ⟨S1x1x512, .f32⟩
  | 104 => ⟨S128x8x512, .f32⟩
  | 105 => ⟨S128x8x512, .f32⟩
  | 106 => ⟨S128x8x2x64, .f32⟩
  | 107 => ⟨S128x8x2x64, .f32⟩
  | 108 => ⟨S128x128x2x64, .f32⟩
  | 109 => ⟨S128x136x2x64, .f32⟩
  | 110 => ⟨S128x128x2x64, .f32⟩
  | 111 => ⟨S128x136x2x64, .f32⟩
  | 112 => ⟨S128x8x1024, .f32⟩
  | 113 => ⟨S1024x1024, .f32⟩
  | 114 => ⟨S128x8x1024, .f32⟩
  | 115 => ⟨S_, .f32⟩
  | 116 => ⟨S128x8x1024, .f32⟩
  | 117 => ⟨S128x8x1024, .f32⟩
  | 118 => ⟨S128x8x1024, .f32⟩
  | 119 => ⟨S1024, .f32⟩
  | 120 => ⟨S1024, .f32⟩
  | 121 => ⟨S_, .f32⟩
  | 122 => ⟨S128x8, .f32⟩
  | 123 => ⟨S128x8x1, .f32⟩
  | 124 => ⟨S_, .f32⟩
  | 125 => ⟨S128x8x1, .f32⟩
  | 126 => ⟨S128x8x1, .f32⟩
  | 127 => ⟨S128x8x1024, .f32⟩
  | _ => ⟨S128x8x512, .f32⟩

abbrev hbmTy0_1 (i : Nat) : BufTy := match i % 128 with
  | 0 => ⟨S128x8x1024, .f32⟩
  | 1 => ⟨S128x8x1024, .f32⟩
  | 2 => ⟨S_, .f32⟩
  | 3 => ⟨S128x8, .f32⟩
  | 4 => ⟨S128x8x1, .f32⟩
  | 5 => ⟨S_, .f32⟩
  | 6 => ⟨S128x8x1, .f32⟩
  | 7 => ⟨S128x8x1, .f32⟩
  | 8 => ⟨S128x8x1024, .f32⟩
  | 9 => ⟨S128x8x1024, .f32⟩
  | 10 => ⟨S_, .f32⟩
  | 11 => ⟨S128x8x1, .f32⟩
  | 12 => ⟨S128x8x1, .f32⟩
  | 13 => ⟨S128x8x1, .f32⟩
  | 14 => ⟨S128x8x1024, .f32⟩
  | 15 => ⟨S128x8x1024, .f32⟩
  | 16 => ⟨S1x1x1024, .f32⟩
  | 17 => ⟨S128x8x1024, .f32⟩
  | 18 => ⟨S128x8x1024, .f32⟩
  | 19 => ⟨S1x1x1024, .f32⟩
  | 20 => ⟨S128x8x1024, .f32⟩
  | 21 => ⟨S128x8x1024, .f32⟩
  | 22 => ⟨S128x128x2x64, .f32⟩
  | 23 => ⟨S1x128x128x2x64, .f32⟩
  | 24 => ⟨S128x128x2x64, .f32⟩
  | 25 => ⟨S1x128x128x2x64, .f32⟩
  | 26 => ⟨S_, .f32⟩
  | 27 => ⟨S128x8x512, .f32⟩
  | 28 => ⟨S128x8x512, .f32⟩
  | 29 => ⟨S128x8x512, .f32⟩
  | _ => ⟨S128x8x512, .f32⟩

abbrev hbmTy (i : Nat) : BufTy := match i / 128 with
  | 0 => hbmTy0_0 i
  | 1 => hbmTy0_1 i
  | _ => ⟨S128x8x512, .f32⟩

abbrev bufTy : (tb : Table) → Fin (tcTables nBuf tb) → BufTy
  | .hbm, ⟨i, _⟩ => hbmTy i
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call0_call0_cst : Ref sig .tc := ⟨.hbm, 29, rfl⟩
abbrev main_call0_call0_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_cst_10 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_11 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_12 : Ref sig .tc := ⟨.hbm, 121, rfl⟩
abbrev main_v91 : Ref sig .tc := ⟨.hbm, 122, rfl⟩
abbrev main_v92 : Ref sig .tc := ⟨.hbm, 123, rfl⟩
abbrev main_cst_13 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_14 : Ref sig .tc := ⟨.hbm, 130, rfl⟩
abbrev main_v98 : Ref sig .tc := ⟨.hbm, 131, rfl⟩
abbrev main_v99 : Ref sig .tc := ⟨.hbm, 132, rfl⟩
abbrev main_cst_15 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_16 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_17 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩

abbrev nD : Nat := 1
abbrev τ : Topo := Topo.v7x

variable {F : FTy → Type} [FloatOps F]
-- ==== Proof.Softmax.lean ====
/-
  Sums, exponentials and the masked softmax on extended reals that are numbers: the quotient of the weighted sum by
  the sum of the weights does not depend on the number that is subtracted from the scores, and it is the sum of the
  values weighted by the quotients.
-/
module

public import Idealize.ShloMosaic.PureOps.Ideal
public import Idealize.ShloMosaic.Lib.Pointwise

@[expose] public section

noncomputable section

namespace Cert.Num

open Idealize.ShloMosaic

variable {ι : Type*}

/-- A finite sum of numbers. -/
theorem coe_sum (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is a number. -/
theorem sum_eq_coe (s : Finset ι) (g : ι → EReal) (f : ι → ℝ) (h : ∀ i ∈ s, g i = (f i : EReal)) :
    ∑ i ∈ s, g i = ((∑ i ∈ s, f i : ℝ) : EReal) := by
  rw [Finset.sum_congr rfl h, coe_sum]

/-- Division of numbers by a number other than zero. -/
theorem div_coe (a b : ℝ) (hb : b ≠ 0) : Ideal.div (a : EReal) (b : EReal) = ((a / b : ℝ) : EReal) := by
  have : (b : EReal) ≠ 0 := by exact_mod_cast hb
  rw [Ideal.div, if_neg this, ← EReal.coe_inv, ← EReal.coe_mul, div_eq_mul_inv]

theorem exp_coe (a : ℝ) : Ideal.exp (a : EReal) = ((Real.exp a : ℝ) : EReal) := rfl
theorem exp_bot : Ideal.exp ⊥ = 0 := rfl

/-- `log(1 + e^a)` of a number. -/
theorem log1p_exp_coe (a : ℝ) : Ideal.log1p (Ideal.exp (a : EReal)) = ((Real.log (1 + Real.exp a) : ℝ) : EReal) := by
  have h : (1 : EReal) + ((Real.exp a : ℝ) : EReal) = ((1 + Real.exp a : ℝ) : EReal) := by push_cast; rfl
  rw [exp_coe, Ideal.log1p, h]
  show (if 1 + Real.exp a ≤ 0 then (⊥ : EReal) else ((Real.log (1 + Real.exp a) : ℝ) : EReal)) = _
  rw [if_neg (not_le.mpr (by positivity))]

/-- The gate: `g` times the logistic function of `g`. -/
def silu (g : ℝ) : ℝ := g * (1 / (1 + Real.exp (-g)))

theorem silu_coe (g : ℝ) : (g : EReal) * Ideal.div 1 (1 + Ideal.exp (0 - (g : EReal))) = ((silu g : ℝ) : EReal) := by
  have h : (1 : EReal) + Ideal.exp (0 - (g : EReal)) = ((1 + Real.exp (-g) : ℝ) : EReal) := by
    rw [zero_sub, ← EReal.coe_neg, exp_coe]; push_cast; rfl
  rw [h, ← EReal.coe_one, div_coe _ _ (by positivity), ← EReal.coe_mul]; rfl

/-- The average of `v` over the `i` with `p i`, weighted by `e^{S i}`. -/
def wavg {n : Nat} (p : Fin n → Prop) [DecidablePred p] (S v : Fin n → ℝ) : ℝ :=
  (∑ i, if p i then Real.exp (S i) * v i else 0) / ∑ i, if p i then Real.exp (S i) else 0

section
variable {n : Nat} (p : Fin n → Prop) [DecidablePred p] (S : Fin n → ℝ)

/-- The largest of scores of which one at least is a number and none is `⊤` is a number. -/
theorem max_real (x : Fin n → EReal) (hx : ∀ i, x i = if p i then (S i : EReal) else ⊥) {i₀ : Fin n} (h₀ : p i₀) :
    ∃ m : ℝ, Finset.univ.fold max (⊥ : EReal) x = (m : EReal) := by
  have hb : Finset.univ.fold max (⊥ : EReal) x ≠ ⊥ := by
    intro hb
    have := (Finset.fold_max_le (s := Finset.univ) (f := x) (b := (⊥ : EReal)) (c := ⊥)).mp hb.le
    have h := this.2 i₀ (Finset.mem_univ _)
    rw [hx, if_pos h₀] at h
    exact absurd (le_bot_iff.mp h) (EReal.coe_ne_bot _)
  have ht : Finset.univ.fold max (⊥ : EReal) x < ⊤ := by
    rw [Finset.fold_max_lt]
    refine ⟨bot_lt_top, fun i _ => ?_⟩
    rw [hx]; split
    · exact EReal.coe_lt_top _
    · exact bot_lt_top
  exact ⟨_, (EReal.coe_toReal ht.ne hb).symm⟩

theorem exp_sub_real (m : ℝ) (x : EReal) (s : ℝ) (q : Prop) [Decidable q] (hx : x = if q then (s : EReal) else ⊥) :
    Ideal.exp (x - (m : EReal)) = ((if q then Real.exp (s - m) else 0 : ℝ) : EReal) := by
  subst hx; split
  · rw [← EReal.coe_sub, exp_coe]
  · rw [EReal.bot_sub, exp_bot, EReal.coe_zero]

theorem den_pos (m : ℝ) {i₀ : Fin n} (h₀ : p i₀) : 0 < ∑ i, if p i then Real.exp (S i - m) else 0 := by
  refine Finset.sum_pos' (fun i _ => by split <;> positivity) ⟨i₀, Finset.mem_univ _, ?_⟩
  rw [if_pos h₀]; positivity

theorem wavg_shift (v : Fin n → ℝ) (m : ℝ) :
    (∑ i, (if p i then Real.exp (S i - m) else 0) * v i) / (∑ i, if p i then Real.exp (S i - m) else 0) = wavg p S v := by
  have e : Real.exp m ≠ 0 := Real.exp_ne_zero m
  have h1 : (∑ i, (if p i then Real.exp (S i - m) else 0) * v i) = (∑ i, if p i then Real.exp (S i) * v i else 0) / Real.exp m := by
    rw [Finset.sum_div]; refine Finset.sum_congr rfl fun i _ => ?_
    split
    · rw [Real.exp_sub]; ring
    · simp
  have h2 : (∑ i, if p i then Real.exp (S i - m) else 0) = (∑ i, if p i then Real.exp (S i) else 0) / Real.exp m := by
    rw [Finset.sum_div]; refine Finset.sum_congr rfl fun i _ => ?_
    split
    · rw [Real.exp_sub]
    · simp
  rw [h1, h2, wavg, div_div_div_cancel_right₀ e]

variable (x : Fin n → EReal) (hx : ∀ i, x i = if p i then (S i : EReal) else ⊥) {i₀ : Fin n} (h₀ : p i₀)
  (v : Fin n → ℝ)
include hx h₀

/-- The sum of the weighted values over the sum of the weights. -/
theorem softmax_after (y : Fin n → EReal) (hy : ∀ i, y i = (v i : EReal)) :
    Ideal.div (∑ i, Ideal.exp (x i - Finset.univ.fold max ⊥ x) * y i) (∑ i, Ideal.exp (x i - Finset.univ.fold max ⊥ x))
      = ((wavg p S v : ℝ) : EReal) := by
  obtain ⟨m, hm⟩ := max_real p S x hx h₀
  rw [hm, sum_eq_coe _ _ (fun i => (if p i then Real.exp (S i - m) else 0) * v i)
      (fun i _ => by rw [exp_sub_real m (x i) (S i) (p i) (hx i), hy, ← EReal.coe_mul]),
    sum_eq_coe _ _ (fun i => if p i then Real.exp (S i - m) else 0) (fun i _ => exp_sub_real m (x i) (S i) (p i) (hx i)),
    div_coe _ _ (den_pos p S m h₀).ne', wavg_shift]

/-- The sum of the values weighted by the quotients; the sum of the weights and the largest score may be taken with
    their start values. -/
theorem softmax_before (y : Fin n → EReal) (hy : ∀ i, y i = (v i : EReal)) :
    ∑ i, Ideal.div (Ideal.exp (x i - Finset.univ.fold max ⊥ x)) (∑ j, Ideal.exp (x j - Finset.univ.fold max ⊥ x)) * y i
      = ((wavg p S v : ℝ) : EReal) := by
  obtain ⟨m, hm⟩ := max_real p S x hx h₀
  rw [hm, sum_eq_coe _ (fun j => Ideal.exp (x j - (m : EReal))) (fun i => if p i then Real.exp (S i - m) else 0)
      (fun i _ => exp_sub_real m (x i) (S i) (p i) (hx i)),
    sum_eq_coe _ _ (fun i => (if p i then Real.exp (S i - m) else 0) / (∑ j, if p j then Real.exp (S j - m) else 0) * v i)
      (fun i _ => by
        rw [exp_sub_real m (x i) (S i) (p i) (hx i), hy, div_coe _ _ (den_pos p S m h₀).ne', ← EReal.coe_mul]),
    ← wavg_shift p S v m, Finset.sum_div]
  congr 1
  exact Finset.sum_congr rfl fun i _ => by ring

end

/-- Averages over the first `k` of `n` positions agree when the condition keeps to the first `k`. -/
theorem wavg_le {k n : Nat} (hkn : k ≤ n) (p : Fin n → Prop) [DecidablePred p] (hp : ∀ i, p i → i.val < k) (S v : Fin n → ℝ) :
    wavg (fun i : Fin k => p (i.castLE hkn)) (fun i => S (i.castLE hkn)) (fun i => v (i.castLE hkn)) = wavg p S v := by
  have key : ∀ f : Fin n → ℝ, (∑ i : Fin k, if p (i.castLE hkn) then f (i.castLE hkn) else 0) = ∑ i, if p i then f i else 0 := by
    intro f
    let g : ℕ → ℝ := fun j => if h : j < n then (if p ⟨j, h⟩ then f ⟨j, h⟩ else 0) else 0
    have e1 : ∀ i : Fin k, (if p (i.castLE hkn) then f (i.castLE hkn) else 0) = g i.val := fun i => by
      simp only [g]; rw [dif_pos (lt_of_lt_of_le i.isLt hkn)]; rfl
    have e2 : ∀ i : Fin n, (if p i then f i else 0) = g i.val := fun i => by simp only [g]; rw [dif_pos i.isLt]
    simp only [e1, e2]
    rw [Fin.sum_univ_eq_sum_range g k, Fin.sum_univ_eq_sum_range g n]
    refine Finset.sum_subset (Finset.range_subset_range.mpr hkn) fun j hj hk => ?_
    have hjn := Finset.mem_range.mp hj
    simp only [g]; rw [dif_pos hjn, if_neg]
    exact fun h => hk (Finset.mem_range.mpr (hp _ h))
  rw [wavg, wavg, key (fun i => Real.exp (S i) * v i), key (fun i => Real.exp (S i))]

end Cert.Num
-- ==== Proof.FoxBlock.lean ====
/-
  What one program point of the forgetting attention computes, whatever the number `lk` of keys it reads: the
  scores of two heads against the first `lk` keys (one contraction over 256 lanes: 128 lanes of the keys and 128
  lanes that carry the two decay terms), the masked softmax, the weighted values and the gate.
-/
module

public import proofs.«01_k».proof.Proof.Gen.KernelIdeal.Skeleton
public import Idealize.ShloMosaic.Lib.Pointwise
public import Idealize.ShloMosaic.Lib.Pointwise.IndexVar
public import Idealize.ShloMosaic.PureOps.Ideal
public import Idealize.ShloMosaic.Lib.WordCmp
public import proofs.«01_k».proof.Proof.Softmax

@[expose] public section

set_option maxRecDepth 16384

noncomputable section

namespace Cert.KernelIdeal.Fox

open Idealize.ShloMosaic Idealize.ShloMosaic.WordCmp Cert.KernelIdeal Cert.KernelIdeal.Gen

/-- The shape conditions of the operations below at `lk` keys. -/
structure Fits (lk : Nat) : Prop where
  iota : (⟨2, ![1, lk]⟩ : Shape).Iotas .tc 32 [1]
  row : (⟨2, ![1, lk]⟩ : Shape).Broadcasts ⟨2, ![256, lk]⟩
  col : S256x1.Broadcasts ⟨2, ![256, lk]⟩
  same : (⟨2, ![lk, 128]⟩ : Shape).ShapeCasts ⟨2, ![lk, 128]⟩
  cat : Shape.Concatenates [(⟨2, ![lk, 128]⟩ : Shape), ⟨2, ![lk, 128]⟩] ⟨2, ![lk, 256]⟩ 1
  red : (⟨2, ![256, lk]⟩ : Shape).Reduces [1] S256

/-- The lane number. -/
def lane : IVec S128x128 32 := iota .tc S128x128 32 [1] iota_S128x128_d1_w32

/-- The lanes of the first of the two heads. -/
def low : IVec S128x128 1 := cmpi .slt lane (broadcast S128x128 64#32)

/-- The position of the query of each of the 256 rows of scores (128 queries, twice). -/
def pos (b : BitVec 32) : IVec S256x1 32 :=
  addi (broadcast S256x1 (Scalar.muli b 128#32)) (andi (iota .tc S256x1 32 [0] iota_S256x1_d0_w32) (broadcast S256x1 127#32))

/-- Which keys a row of scores sees: those up to its own position and from the first one that is not padding. -/
def mask {lk : Nat} (h : Fits lk) (p : IVec S256x1 32) : IVec ⟨2, ![256, lk]⟩ 1 :=
  andi (cmpi .sle (broadcastTo ⟨2, ![256, lk]⟩ (iota .tc ⟨2, ![1, lk]⟩ 32 [1] h.iota) h.row) (broadcastTo ⟨2, ![256, lk]⟩ p h.col))
    (broadcastTo ⟨2, ![256, lk]⟩ (cmpi .sge (iota .tc ⟨2, ![1, lk]⟩ 32 [1] h.iota) (broadcast ⟨2, ![1, lk]⟩ 112#32)) h.row)

/-- The lanes of the decay operand that belong to head `a`. -/
def headLanes (a : BitVec 32) : IVec S128x128 1 :=
  andi (cmpi .eq (andi lane (broadcast S128x128 7#32)) (broadcast S128x128 a)) (cmpi .slt lane (broadcast S128x128 48#32))

def zeros : FVec Ideal S128x128 .f32 := broadcast S128x128 (Scalar.ofBits .f32 0x00000000#32)

/-- The scaled queries of two heads `a` (rows below 128) and `b`, beside their decay lanes. -/
def queries (a b : BitVec 32) (aq q : FVec Ideal S128x128 .f32) : FVec Ideal S256x256 .f32 :=
  have qs : FVec Ideal S128x128 .f32 :=
    mulf (shapeCast S128x128 q shapeCasts_S128x128_S128x128) (broadcast S128x128 (Scalar.ofBits .f32 0x3E000000#32))
  have d : FVec Ideal S128x128 .f32 := shapeCast S128x128 aq shapeCasts_S128x128_S128x128
  have top : FVec Ideal S128x256 .f32 :=
    concatenate S128x256 1 [⟨S128x128, select low qs zeros⟩, ⟨S128x128, select (headLanes a) d zeros⟩] concatenates_S128x128_S128x128_S128x256_d1
  have bot : FVec Ideal S128x256 .f32 :=
    concatenate S128x256 1 [⟨S128x128, select low zeros qs⟩, ⟨S128x128, select (headLanes b) d zeros⟩] concatenates_S128x128_S128x128_S128x256_d1
  concatenate S256x256 0 [⟨S128x256, top⟩, ⟨S128x256, bot⟩] concatenates_S128x256_S128x256_S256x256_d0

/-- The masked scores. -/
def scores {lk : Nat} (h : Fits lk) (p : IVec S256x1 32) (qs : FVec Ideal S256x256 .f32) (ak k : FVec Ideal ⟨2, ![lk, 128]⟩ .f32) :
    FVec Ideal ⟨2, ![256, lk]⟩ .f32 :=
  select (mask h p)
    (matmul (DotDims.transposedRhs 256 256 lk) none qs
      (concatenate ⟨2, ![lk, 256]⟩ 1 [⟨⟨2, ![lk, 128]⟩, shapeCast ⟨2, ![lk, 128]⟩ k h.same⟩, ⟨⟨2, ![lk, 128]⟩, shapeCast ⟨2, ![lk, 128]⟩ ak h.same⟩] h.cat)
      (constant ⟨2, ![256, lk]⟩ .f32 0x00000000#32))
    (broadcast ⟨2, ![256, lk]⟩ (Named.named κ "mask" 0xF149F2CA#32))

/-- The scores' exponentials, relative to each row's largest score. -/
def weights {lk : Nat} (h : Fits lk) (s : FVec Ideal ⟨2, ![256, lk]⟩ .f32) : FVec Ideal ⟨2, ![256, lk]⟩ .f32 :=
  exp (subf s (broadcastTo ⟨2, ![256, lk]⟩
    (shapeCast S256x1 (multiReduction .maximumf [1] S256 s 0xFF800000#32 h.red (.inl rfl) rfl) shapeCasts_S256_S256x1) h.col))

/-- The weighted values over the sum of the weights. -/
def attn {lk : Nat} (h : Fits lk) (w : FVec Ideal ⟨2, ![256, lk]⟩ .f32) (v : FVec Ideal ⟨2, ![lk, 128]⟩ .f32) : FVec Ideal S256x128 .f32 :=
  divf (matmul (DotDims.plain 256 lk 128) none w (shapeCast ⟨2, ![lk, 128]⟩ v h.same) (constant S256x128 .f32 0x00000000#32))
    (broadcastTo S256x128 (shapeCast S256x1 (multiReduction .add [1] S256 w 0x00000000#32 h.red (.inl rfl) rfl) shapeCasts_S256_S256x1)
      broadcasts_S256x1_S256x128)

/-- The two heads' lanes side by side, times the gate `g·σ(g)`. -/
def gated (o : FVec Ideal S256x128 .f32) (g : FVec Ideal S128x128 .f32) : FVec Ideal S128x128 .bf16 :=
  have g' : FVec Ideal S128x128 .f32 := shapeCast S128x128 g shapeCasts_S128x128_S128x128
  have one : FVec Ideal S128x128 .f32 := broadcast S128x128 (Scalar.ofBits .f32 0x3F800000#32)
  truncf .bf16 (mulf (select low (extractStridedSlice S128x128 ![0, 0] o slices_S256x128_o0_0_S128x128)
      (extractStridedSlice S128x128 ![128, 0] o slices_S256x128_o128_0_S128x128))
    (mulf g' (divf one (addf one (exp (subf zeros g')))))) bitsLt_bf16_f32

/-- One store of a program point: heads `a` and `b` of 128 queries. -/
def pair {lk : Nat} (h : Fits lk) (a b : BitVec 32) (p : IVec S256x1 32) (aq : FVec Ideal S128x128 .f32) (ak : FVec Ideal ⟨2, ![lk, 128]⟩ .f32)
    (q : FVec Ideal S128x128 .f32) (k v : FVec Ideal ⟨2, ![lk, 128]⟩ .f32) (g : FVec Ideal S128x128 .f32) : FVec Ideal S128x128 .bf16 :=
  gated (attn h (weights h (scores h p (queries a b aq q) ak k)) v) g

/-! ### The values, index by index -/

section Values
variable {lk : Nat} (h : Fits lk)

theorem gated_apply (o : FVec Ideal S256x128 .f32) (g : FVec Ideal S128x128 .f32) (r l : Fin 128) :
    gated o g (ix2 r l) = (if l.val < 64 then o (ix2 ⟨r.val, by omega⟩ l) else o (ix2 ⟨128 + r.val, by omega⟩ l))
      * (g (ix2 r l) * Ideal.div 1 (1 + Ideal.exp (0 - g (ix2 r l)))) := by
  have e : ∀ l : Fin 128, (IntOp.cmpi CmpIPredicate.slt (BitVec.ofNat 32 l.val) 64#32 = 1) ↔ l.val < 64 := by decide
  pointwise [gated, zeros, low, lane]
  simp only [Scalar.select, e]

theorem attn_apply (w : FVec Ideal ⟨2, ![256, lk]⟩ .f32) (v : FVec Ideal ⟨2, ![lk, 128]⟩ .f32) (i : Fin 256) (l : Fin 128) :
    attn h w v (ix2 i l) = Ideal.div (∑ s : Fin lk, w (ix2 i s) * v (ix2 s l)) (∑ s : Fin lk, w (ix2 i s)) := by
  pointwise [attn]
  rw [Ideal.matmul_apply₁ _ rfl rfl]
  pointwise

theorem weights_apply (s : FVec Ideal ⟨2, ![256, lk]⟩ .f32) (i : Fin 256) (t : Fin lk) :
    weights h s (ix2 i t) = Ideal.exp (s (ix2 i t) - Finset.univ.fold max ⊥ fun x => s (ix2 i x)) := by
  have e : Ideal.ofBits FTy.f32 4286578688#32 = ⊥ := by simp [Ideal.ofBits, Ideal.ieee]
  pointwise [weights]
  rw [e]

theorem mask_iff (t : Fin lk) (hlk : lk ≤ 2176) (n : Nat) (hn : n < 2176) :
    (IntOp.andi (IntOp.cmpi CmpIPredicate.sle (BitVec.ofNat 32 t.val) (BitVec.ofNat 32 n))
      (IntOp.cmpi CmpIPredicate.sge (BitVec.ofNat 32 t.val) 112#32) = 1) ↔ (112 ≤ t.val ∧ t.val ≤ n) := by
  have ht : t.val < 2 ^ (32 - 1) := by have := t.isLt; omega
  have hn' : n < 2 ^ (32 - 1) := by omega
  rw [cmpi_sle_ofNat ht hn', cmpi_sge_ofNat ht (by decide : 112 < 2 ^ (32 - 1)), andi_ofBool, ← Bool.decide_and]
  exact (ofBool_decide_eq_one_iff _).trans and_comm

theorem pos_apply (q : Nat) (hq : q < 17) (i : Fin 256) : pos (BitVec.ofNat 32 q) (ix2 i 0) = BitVec.ofNat 32 (128 * q + i.val % 128) := by
  have e : ∀ (q : Fin 17) (i : Fin 256), IntOp.addi (Scalar.muli (BitVec.ofNat 32 q.val) 128#32) (IntOp.andi (BitVec.ofNat 32 i.val) 127#32)
      = BitVec.ofNat 32 (128 * q.val + i.val % 128) := by decide +kernel
  pointwise [pos]
  exact e ⟨q, hq⟩ i

theorem scores_apply (hlk : lk ≠ 1) (hlk' : lk ≤ 2176) (p : IVec S256x1 32) (qs : FVec Ideal S256x256 .f32) (ak k : FVec Ideal ⟨2, ![lk, 128]⟩ .f32)
    (i : Fin 256) (t : Fin lk) (n : Nat) (hn : n < 2176) (hp : p (ix2 i 0) = BitVec.ofNat 32 n) :
    scores h p qs ak k (ix2 i t) = if 112 ≤ t.val ∧ t.val ≤ n then
      (∑ x : Fin 128, qs (ix2 i ⟨x.val, by omega⟩) * k (ix2 t x) + ∑ x : Fin 128, qs (ix2 i ⟨128 + x.val, by omega⟩) * ak (ix2 t x)) else ⊥ := by
  have e : (Named.named κ "mask" (φ := .f32) 0xF149F2CA#32 : Ideal .f32) = ⊥ := rfl
  pointwise [scores, mask]
  simp only [hlk, ↓reduceDIte, hp, Scalar.select, mask_iff t hlk' n hn, e]

/-- The query half of a row: the head's own 64 lanes, scaled. -/
theorem queries_low (a b : BitVec 32) (aq q : FVec Ideal S128x128 .f32) (u : Fin 2) (r x : Fin 128) :
    queries a b aq q (ix2 ⟨128 * u.val + r.val, by omega⟩ ⟨x.val, by omega⟩)
      = if x.val / 64 = u.val then q (ix2 r x) * Ideal.ofBits FTy.f32 0x3E000000#32 else 0 := by
  have e : ∀ l : Fin 128, (IntOp.cmpi CmpIPredicate.slt (BitVec.ofNat 32 l.val) 64#32 = 1) ↔ l.val / 64 = 0 := by decide
  obtain rfl | rfl : u = 0 ∨ u = 1 := by omega
  · pointwise [queries, zeros, low, lane]
    simp only [Scalar.select, e]
  · pointwise [queries, zeros, low, lane]
    have : x.val / 64 = 0 ∨ x.val / 64 = 1 := by omega
    rcases this with h | h <;> simp only [Scalar.select, e, h] <;> simp

/-- The decay half of a row: the lanes of the row's own head. -/
theorem queries_high (a b : Fin 8) (aq q : FVec Ideal S128x128 .f32) (u : Fin 2) (r x : Fin 128) :
    queries (BitVec.ofNat 32 a.val) (BitVec.ofNat 32 b.val) aq q (ix2 ⟨128 * u.val + r.val, by omega⟩ ⟨128 + x.val, by omega⟩)
      = if x.val % 8 = (if u = 0 then a else b).val ∧ x.val < 48 then aq (ix2 r x) else 0 := by
  have e : ∀ (l : Fin 128) (a : Fin 8), (IntOp.andi (IntOp.cmpi CmpIPredicate.eq (IntOp.andi (BitVec.ofNat 32 l.val) 7#32) (BitVec.ofNat 32 a.val))
            (IntOp.cmpi CmpIPredicate.slt (BitVec.ofNat 32 l.val) 48#32) = 1) ↔ (l.val % 8 = a.val ∧ l.val < 48) := by decide +kernel
  obtain rfl | rfl : u = 0 ∨ u = 1 := by omega
  · pointwise [queries, zeros, headLanes, lane]
    simp only [Scalar.select, e]
  · pointwise [queries, zeros, headLanes, lane]
    simp only [Scalar.select, e]

/-- The lanes of one head among the 48 decay lanes. -/
theorem sum_headLanes (a : Fin 8) (f : Fin 128 → ℝ) :
    (∑ x : Fin 128, if x.val % 8 = a.val ∧ x.val < 48 then f x else 0)
      = f ⟨a.val, by omega⟩ + f ⟨a.val + 8, by omega⟩ + f ⟨a.val + 16, by omega⟩ + f ⟨a.val + 24, by omega⟩
        + f ⟨a.val + 32, by omega⟩ + f ⟨a.val + 40, by omega⟩ := by
  have e : ∀ a : Fin 8, (Finset.univ.filter fun x : Fin 128 => x.val % 8 = a.val ∧ x.val < 48)
      = {⟨a.val, by omega⟩, ⟨a.val + 8, by omega⟩, ⟨a.val + 16, by omega⟩, ⟨a.val + 24, by omega⟩, ⟨a.val + 32, by omega⟩, ⟨a.val + 40, by omega⟩} := by
    decide +kernel
  rw [← Finset.sum_filter, e]
  repeat rw [Finset.sum_insert (by simp [Fin.ext_iff])]
  rw [Finset.sum_singleton]; ring

/-- The 64 lanes of one of two heads. -/
theorem sum_half (u : Fin 2) (f : Fin 128 → ℝ) :
    (∑ x : Fin 128, if x.val / 64 = u.val then f x else 0) = ∑ d : Fin 64, f ⟨64 * u.val + d.val, by omega⟩ := by
  rw [← Finset.sum_filter]
  symm
  refine Finset.sum_bij (fun d _ => ⟨64 * u.val + d.val, by omega⟩) ?_ ?_ ?_ ?_
  · intro d _; simp only [Finset.mem_filter, Finset.mem_univ, true_and]; omega
  · intro d _ d' _ h; simp only [Fin.mk.injEq] at h; exact Fin.ext (by omega)
  · intro x hx
    have hx' : x.val / 64 = u.val := by simpa using hx
    exact ⟨⟨x.val % 64, by omega⟩, Finset.mem_univ _, Fin.ext (by simp only []; omega)⟩
  · intro d _; rfl

/-- The decay lanes of a query whose heads' decays are `f`: the decays, sixteen lanes of nothing, and ones. -/
def aqOf (f : Fin 8 → ℝ) (x : Fin 128) : ℝ := if h : x.val < 8 then f ⟨x.val, h⟩ else if x.val < 24 then 0 else 1

/-- The decay lanes of a key: ones, the heads' decays negated, and nothing. -/
def akOf (f : Fin 8 → ℝ) (x : Fin 128) : ℝ := if x.val < 24 then 1 else if h : x.val < 32 then - f ⟨x.val - 24, by omega⟩ else 0

/-- The score of query `r` against key `t` for one head: the product of 64 lanes over eight, plus the query's decay less
    the key's. -/
def score (q : Fin 128 → Fin 128 → ℝ) (k : Fin lk → Fin 128 → ℝ) (fq : Fin 128 → Fin 8 → ℝ) (fk : Fin lk → Fin 8 → ℝ)
    (u : Fin 2) (a : Fin 8) (r : Fin 128) (t : Fin lk) : ℝ :=
  (∑ d : Fin 64, q r ⟨64 * u.val + d.val, by omega⟩ * k t ⟨64 * u.val + d.val, by omega⟩) * (1 / 8) + fq r a - fk t a

variable (hlk : lk ≠ 1) (hlk' : lk ≤ 2176) {aq q g : FVec Ideal S128x128 .f32} {ak k v : FVec Ideal ⟨2, ![lk, 128]⟩ .f32}
  (Q G : Fin 128 → Fin 128 → ℝ) (K V : Fin lk → Fin 128 → ℝ) (fq : Fin 128 → Fin 8 → ℝ) (fk : Fin lk → Fin 8 → ℝ)
  (hq : ∀ r x, q (ix2 r x) = (Q r x : EReal)) (hg : ∀ r x, g (ix2 r x) = (G r x : EReal))
  (hk : ∀ t x, k (ix2 t x) = (K t x : EReal)) (hv : ∀ t x, v (ix2 t x) = (V t x : EReal))
  (haq : ∀ r (x : Fin 128), x.val < 48 →
    aq (ix2 r x) = (aqOf (fq r) x : EReal))
  (hak : ∀ t (x : Fin 128), x.val < 48 →
    ak (ix2 t x) = (akOf (fk t) x : EReal))

include hq hk haq hak in
/-- The two contractions of a row of scores. -/
theorem contraction_eq (a b : Fin 8) (u : Fin 2) (r : Fin 128) (t : Fin lk) :
    (∑ x : Fin 128, queries (BitVec.ofNat 32 a.val) (BitVec.ofNat 32 b.val) aq q (ix2 ⟨128 * u.val + r.val, by omega⟩ ⟨x.val, by omega⟩) * k (ix2 t x)
      + ∑ x : Fin 128, queries (BitVec.ofNat 32 a.val) (BitVec.ofNat 32 b.val) aq q (ix2 ⟨128 * u.val + r.val, by omega⟩ ⟨128 + x.val, by omega⟩) * ak (ix2 t x))
      = ((score Q K fq fk u (if u = 0 then a else b) r t : ℝ) : EReal) := by
  have e8 : Ideal.ofBits FTy.f32 0x3E000000#32 = ((1 / 8 : ℝ) : EReal) := by
    simp [Ideal.ofBits, Ideal.ieee, -EReal.coe_mul]; norm_num
  have h1 : ∀ x : Fin 128, queries (BitVec.ofNat 32 a.val) (BitVec.ofNat 32 b.val) aq q (ix2 ⟨128 * u.val + r.val, by omega⟩ ⟨x.val, by omega⟩) * k (ix2 t x)
      = ((if x.val / 64 = u.val then Q r x * K t x * (1 / 8) else 0 : ℝ) : EReal) := by
    intro x
    rw [queries_low, hq, hk, e8]
    split
    · rw [← EReal.coe_mul, ← EReal.coe_mul]; congr 1; ring
    · rw [zero_mul, EReal.coe_zero]
  generalize hc : (if u = 0 then a else b) = c
  have h2 : ∀ x : Fin 128, queries (BitVec.ofNat 32 a.val) (BitVec.ofNat 32 b.val) aq q (ix2 ⟨128 * u.val + r.val, by omega⟩ ⟨128 + x.val, by omega⟩) * ak (ix2 t x)
      = ((if x.val % 8 = c.val ∧ x.val < 48 then
          aqOf (fq r) x
            * akOf (fk t) x else 0 : ℝ) : EReal) := by
    intro x
    rw [queries_high, hc]
    split
    next h => rw [haq r x h.2, hak t x h.2, ← EReal.coe_mul]
    next => rw [zero_mul, EReal.coe_zero]
  rw [Cert.Num.sum_eq_coe _ _ _ (fun x _ => h1 x), Cert.Num.sum_eq_coe _ _ _ (fun x _ => h2 x), ← EReal.coe_add, sum_half u (fun x => Q r x * K t x * (1 / 8)),
    sum_headLanes c (fun x => aqOf (fq r) x
            * akOf (fk t) x)]
  congr 1
  have hc8 := c.isLt
  rw [score, Finset.sum_mul]
  simp only [aqOf, akOf, show c.val < 24 by omega, show ¬ c.val + 8 < 8 by omega, show c.val + 8 < 24 by omega, show ¬ c.val + 16 < 8 by omega,
    show c.val + 16 < 24 by omega, show ¬ c.val + 24 < 8 by omega, show ¬ c.val + 24 < 24 by omega, show c.val + 24 < 32 by omega,
    show ¬ c.val + 32 < 8 by omega, show ¬ c.val + 32 < 24 by omega, show ¬ c.val + 32 < 32 by omega, show ¬ c.val + 40 < 8 by omega,
    show ¬ c.val + 40 < 24 by omega, show ¬ c.val + 40 < 32 by omega, hc8, ↓reduceDIte, ↓reduceIte, Nat.add_sub_cancel, Fin.eta]
  ring

include hlk hlk' hq hg hk hv haq hak in
/-- One store, at a query that is not padding: the head's averaged values times the gate. -/
theorem pair_apply (a b : Fin 8) (n : Nat) (hn : n < 17) (r l : Fin 128) (h0 : 112 ≤ 128 * n + r.val) (h1 : 128 * n + r.val < lk) :
    pair h (BitVec.ofNat 32 a.val) (BitVec.ofNat 32 b.val) (pos (BitVec.ofNat 32 n)) aq ak q k v g (ix2 r l)
      = ((Cert.Num.wavg (fun t : Fin lk => 112 ≤ t.val ∧ t.val ≤ 128 * n + r.val)
          (score Q K fq fk ⟨l.val / 64, by omega⟩ (if l.val < 64 then a else b) r) (fun t => V t l) * Cert.Num.silu (G r l) : ℝ) : EReal) := by
  have row : ∀ (u : Fin 2) , attn h (weights h (scores h (pos (BitVec.ofNat 32 n)) (queries (BitVec.ofNat 32 a.val) (BitVec.ofNat 32 b.val) aq q) ak k)) v
        (ix2 ⟨128 * u.val + r.val, by omega⟩ l)
      = ((Cert.Num.wavg (fun t : Fin lk => 112 ≤ t.val ∧ t.val ≤ 128 * n + r.val)
          (score Q K fq fk u (if u = 0 then a else b) r) (fun t => V t l) : ℝ) : EReal) := by
    intro u
    rw [attn_apply]
    simp only [weights_apply]
    refine Cert.Num.softmax_after _ _ _ (fun t => ?_) (i₀ := ⟨128 * n + r.val, h1⟩) ⟨h0, le_rfl⟩ _ _ (fun t => hv t l)
    rw [scores_apply h hlk hlk' _ _ _ _ _ t (128 * n + r.val) (by omega) (by
      rw [pos_apply n hn]; congr 2; show (128 * u.val + r.val) % 128 = _; omega),
      contraction_eq Q K fq fk hq hk haq hak]
  rw [pair, gated_apply, hg, Cert.Num.silu_coe]
  by_cases hl : l.val < 64
  · have hu : (⟨l.val / 64, by omega⟩ : Fin 2) = 0 := Fin.ext (by show l.val / 64 = 0; omega)
    have := row 0
    simp only [Fin.val_zero, Nat.mul_zero, Nat.zero_add, ↓reduceIte] at this
    rw [if_pos hl, if_pos hl, hu, this, ← EReal.coe_mul]
  · have hu : (⟨l.val / 64, by omega⟩ : Fin 2) = 1 := Fin.ext (by show l.val / 64 = 1; omega)
    have := row 1
    simp only [Fin.val_one, Nat.mul_one, if_neg (show ¬ (1 : Fin 2) = 0 by decide)] at this
    rw [if_neg hl, if_neg hl, hu, this, ← EReal.coe_mul]

end Values

end Cert.KernelIdeal.Fox
-- ==== Proof.FoxValue.lean ====
/-
  What the result array of the forgetting attention's call holds: at a row that is not padding, the average of the
  row's head over the keys from the first one that is not padding up to the row's own, weighted by the exponentials of
  the scores, times the gate.
-/
module

public import proofs.«01_k».proof.Proof.FoxBlock
public import proofs.«01_k».proof.Proof.Gen.KernelIdeal.Frame.Region2
public import Idealize.ShloMosaic.Lib.Pipeline.ValueKit

@[expose] public section

set_option maxRecDepth 16384

noncomputable section

namespace Cert.KernelIdeal.Fox

open Idealize.ShloMosaic Idealize.ShloMosaic.TcCoe Cert.KernelIdeal Cert.KernelIdeal.Gen
open Idealize.ShloMosaic.Pipeline (Dat Cfg Window)

/-- Position `s` of the sequence that row `R` belongs to. -/
def rowOf (R : Fin 17408) (s : Fin 2176) : Fin 17408 := ⟨R.val / 2176 * 2176 + s.val, by omega⟩

/-- The head of a lane. -/
def headOf (L : Fin 512) : Fin 8 := ⟨L.val / 64, by omega⟩

/-- Lane `d` of head `a`. -/
def laneOf (a : Fin 8) (d : Fin 64) : Fin 512 := ⟨64 * a.val + d.val, by omega⟩

/-- The score of row `R` against position `s` of its sequence, for one head. -/
def scoreAt (Q K : Fin 17408 → Fin 512 → ℝ) (f : Fin 17408 → Fin 8 → ℝ) (a : Fin 8) (R : Fin 17408) (s : Fin 2176) : ℝ :=
  (∑ d : Fin 64, Q R (laneOf a d) * K (rowOf R s) (laneOf a d)) * (1 / 8) + f R a - f (rowOf R s) a

/-- The gated output of the attention at row `R` and lane `L`. -/
def outAt (Q K U G : Fin 17408 → Fin 512 → ℝ) (f : Fin 17408 → Fin 8 → ℝ) (R : Fin 17408) (L : Fin 512) : ℝ :=
  Cert.Num.wavg (fun s : Fin 2176 => 112 ≤ s.val ∧ s.val ≤ R.val % 2176) (scoreAt Q K f (headOf L) R) (fun s => U (rowOf R s) L)
    * Cert.Num.silu (G R L)

theorem idx (t : Fin cfg2.N) : (win2_0.index t 0 = t.val ∧ win2_0.index t 1 = 0) ∧ (win2_1.index t 0 = t.val / 17 ∧ win2_1.index t 1 = 0)
    ∧ (win2_2.index t 0 = t.val / 17 ∧ win2_2.index t 1 = 0) ∧ (win2_3.index t 0 = t.val ∧ win2_3.index t 1 = 0)
    ∧ (win2_4.index t 0 = t.val / 17 ∧ win2_4.index t 1 = 0) ∧ (win2_5.index t 0 = t.val ∧ win2_5.index t 1 = 0)
    ∧ (win2_6.index t 0 = t.val ∧ win2_6.index t 1 = 0) ∧ ((grid2.coords t) 1).val = t.val % 17 := by
  revert t; decide +kernel

/-- Row `r` of point `t`'s block of queries. -/
def qRow (t : Fin cfg2.N) (r : Fin 128) : Fin 17408 := ⟨128 * t.val + r.val, by have : t.val < 136 := t.isLt; omega⟩

/-- Position `s` of the sequence of point `t`. -/
def kRow (t : Fin cfg2.N) (s : Fin 2176) : Fin 17408 := ⟨t.val / 17 * 2176 + s.val, by have : t.val < 136 := t.isLt; omega⟩

theorem rowOf_qRow (t : Fin cfg2.N) (r : Fin 128) (s : Fin 2176) : rowOf (qRow t r) s = kRow t s :=
  Fin.ext (by show (128 * t.val + r.val) / 2176 * 2176 + s.val = t.val / 17 * 2176 + s.val; omega)

theorem ld_apply {n k o lk : Nat} (X : Vec Ideal ⟨2, ![n, k]⟩ .f32) (h) (s : Fin lk) (d : Fin 128) (hs : s.val < n) (hd : o + d.val < k) :
    View.ld (Val := Elt Ideal) (S := ⟨2, ![n, k]⟩) (e' := .f32) X (Rect.unit ![0, o] ![lk, 128] h) (ix2 s d) = X (ix2 ⟨s.val, hs⟩ ⟨o + d.val, hd⟩) := by
  show X ((Rect.unit (s := ⟨2, ![n, k]⟩) ![0, o] ![lk, 128] h).idx (ix2 s d)) = _
  refine congrArg (fun i => X i) (funext fun a => Fin.ext ?_)
  obtain ⟨_ | _ | a, ha⟩ := a
  · show 0 + 1 * s.val = s.val; omega
  · show o + 1 * d.val = o + d.val; omega
  · exact absurd ha (by show ¬ (a + 1 + 1 < 2); omega)

theorem fits384 : Fits 384 := ⟨iota_S1x384_d1_w32, broadcasts_S1x384_S256x384, broadcasts_S256x1_S256x384, shapeCasts_S384x128_S384x128,
  concatenates_S384x128_S384x128_S384x256_d1, reduces_S256x384_S256⟩
theorem fits640 : Fits 640 := ⟨iota_S1x640_d1_w32, broadcasts_S1x640_S256x640, broadcasts_S256x1_S256x640, shapeCasts_S640x128_S640x128,
  concatenates_S640x128_S640x128_S640x256_d1, reduces_S256x640_S256⟩
theorem fits896 : Fits 896 := ⟨iota_S1x896_d1_w32, broadcasts_S1x896_S256x896, broadcasts_S256x1_S256x896, shapeCasts_S896x128_S896x128,
  concatenates_S896x128_S896x128_S896x256_d1, reduces_S256x896_S256⟩
theorem fits1152 : Fits 1152 := ⟨iota_S1x1152_d1_w32, broadcasts_S1x1152_S256x1152, broadcasts_S256x1_S256x1152, shapeCasts_S1152x128_S1152x128,
  concatenates_S1152x128_S1152x128_S1152x256_d1, reduces_S256x1152_S256⟩
theorem fits1408 : Fits 1408 := ⟨iota_S1x1408_d1_w32, broadcasts_S1x1408_S256x1408, broadcasts_S256x1_S256x1408, shapeCasts_S1408x128_S1408x128,
  concatenates_S1408x128_S1408x128_S1408x256_d1, reduces_S256x1408_S256⟩
theorem fits1664 : Fits 1664 := ⟨iota_S1x1664_d1_w32, broadcasts_S1x1664_S256x1664, broadcasts_S256x1_S256x1664, shapeCasts_S1664x128_S1664x128,
  concatenates_S1664x128_S1664x128_S1664x256_d1, reduces_S256x1664_S256⟩
theorem fits1920 : Fits 1920 := ⟨iota_S1x1920_d1_w32, broadcasts_S1x1920_S256x1920, broadcasts_S256x1_S256x1920, shapeCasts_S1920x128_S1920x128,
  concatenates_S1920x128_S1920x128_S1920x256_d1, reduces_S256x1920_S256⟩
theorem fits2176 : Fits 2176 := ⟨iota_S1x2176_d1_w32, broadcasts_S1x2176_S256x2176, broadcasts_S256x1_S256x2176, shapeCasts_S2176x128_S2176x128,
  concatenates_S2176x128_S2176x128_S2176x256_d1, reduces_S256x2176_S256⟩

theorem inb {n k m w o : Nat} (hm : m ≤ n) (hw : o + w ≤ k) : ∀ a, ![0, o] a + ![m, w] a ≤ (⟨2, ![n, k]⟩ : Shape).size a := fun a => by
  obtain ⟨_ | _ | a, ha⟩ := a
  · show 0 + m ≤ n; omega
  · exact hw
  · exact absurd ha (by show ¬ (a + 1 + 1 < 2); omega)

section Arrays
variable (V : (c : Dev nD) → (b : Ref sig .tc) → Buf (Elt Ideal) ((c : Thread nD τ).loc b)) (c : Dev nD)
  (Q K U G : Fin 17408 → Fin 512 → ℝ) (f : Fin 17408 → Fin 8 → ℝ)

/-- What the six operands hold: numbers; the decay lanes of a query are its decay, nothing and ones, and those of a key
    ones, its decay negated and nothing. -/
structure Holds : Prop where
  q : ∀ R x, V c main_v13_2 (ix2 R x) = (Q R x : EReal)
  k : ∀ R x, V c main_v13_3 (ix2 R x) = (K R x : EReal)
  v : ∀ R x, V c main_v13_4 (ix2 R x) = (U R x : EReal)
  g : ∀ R x, V c main_v13_5 (ix2 R x) = (G R x : EReal)
  aq : ∀ R (x : Fin 128), x.val < 48 → V c main_v14_0 (ix2 R x)
    = (aqOf (f R) x : EReal)
  ak : ∀ R (x : Fin 128), x.val < 48 → V c main_v14_1 (ix2 R x)
    = (akOf (f R) x : EReal)

/-- The block a program point writes is right at the positions that are not padding. -/
def Good (t : Fin cfg2.N) : Prop := ∀ (r : Fin 128) (L : Fin 512), 112 ≤ 128 * (t.val % 17) + r.val →
  outsAt2 V c t.val t.isLt (ix2 r L) = (outAt Q K U G f (qRow t r) L : EReal)

variable {V c Q K U G f} (H : Holds V c Q K U G f)
include H

theorem blk_q (t : Fin cfg2.N) (r : Fin 128) (x : Fin 512) : iblk2 V c 0 t (ix2 r x) = (Q (qRow t r) x : EReal) := by
  rw [← H.q]; blk_ext [iblk2, idx t, qRow]
theorem blk_k (t : Fin cfg2.N) (s : Fin 2176) (x : Fin 512) : iblk2 V c 1 t (ix2 s x) = (K (kRow t s) x : EReal) := by
  rw [← H.k]; blk_ext [iblk2, idx t, kRow]
theorem blk_v (t : Fin cfg2.N) (s : Fin 2176) (x : Fin 512) : iblk2 V c 2 t (ix2 s x) = (U (kRow t s) x : EReal) := by
  rw [← H.v]; blk_ext [iblk2, idx t, kRow]
theorem blk_g (t : Fin cfg2.N) (r : Fin 128) (x : Fin 512) : iblk2 V c 5 t (ix2 r x) = (G (qRow t r) x : EReal) := by
  rw [← H.g]; blk_ext [iblk2, idx t, qRow]
theorem blk_aq (t : Fin cfg2.N) (r : Fin 128) (x : Fin 128) (hx : x.val < 48) : iblk2 V c 3 t (ix2 r x)
    = (aqOf (f (qRow t r)) x : EReal) := by
  rw [← H.aq _ _ hx]; blk_ext [iblk2, idx t, qRow]
theorem blk_ak (t : Fin cfg2.N) (s : Fin 2176) (x : Fin 128) (hx : x.val < 48) : iblk2 V c 4 t (ix2 s x)
    = (akOf (f (kRow t s)) x : EReal) := by
  rw [← H.ak _ _ hx]; blk_ext [iblk2, idx t, kRow]

/-- One of a point's four stores, at `lk` keys: lanes `o` to `o + 127`, heads `a` and `a + 1`. -/
theorem store {lk : Nat} (h : Fits lk) (hlk : lk ≠ 1) (hle : lk ≤ 2176) (t : Fin cfg2.N) (n : Nat) (hn : n = t.val % 17) (hk : 128 * n + 128 ≤ lk)
    (w0 w1 : BitVec 32) (o : Nat) (a b : Fin 8) (hw0 : w0 = BitVec.ofNat 32 a.val) (hw1 : w1 = BitVec.ofNat 32 b.val)
    (ho : o = 64 * a.val) (hb : b.val = a.val + 1) (i0 i1 i2 i3 i4) (r l : Fin 128) (hr : 112 ≤ 128 * n + r.val) (L : Fin 512) (hL : L.val = o + l.val) :
    pair h w0 w1 (pos (BitVec.ofNat 32 n)) (iblk2 V c 3 t)
        (View.ld (Val := Elt Ideal) (iblk2 V c 4 t) (Rect.unit ![0, 0] ![lk, 128] i0))
        (View.ld (Val := Elt Ideal) (iblk2 V c 0 t) (Rect.unit ![0, o] ![128, 128] i1))
        (View.ld (Val := Elt Ideal) (iblk2 V c 1 t) (Rect.unit ![0, o] ![lk, 128] i2))
        (View.ld (Val := Elt Ideal) (iblk2 V c 2 t) (Rect.unit ![0, o] ![lk, 128] i3))
        (View.ld (Val := Elt Ideal) (iblk2 V c 5 t) (Rect.unit ![0, o] ![128, 128] i4)) (ix2 r l)
      = (outAt Q K U G f (qRow t r) L : EReal) := by
  have htl : t.val < 136 := t.isLt
  have hq0 : (qRow t r).val % 2176 = 128 * n + r.val := by show (128 * t.val + r.val) % 2176 = _; omega
  have hab : a.val ≤ 6 := by have := b.isLt; omega
  subst hw0 hw1
  rw [pair_apply h hlk hle (fun r x => Q (qRow t r) ⟨o + x.val, by omega⟩) (fun r x => G (qRow t r) ⟨o + x.val, by omega⟩)
    (fun s x => K (kRow t ⟨s.val, by omega⟩) ⟨o + x.val, by omega⟩) (fun s x => U (kRow t ⟨s.val, by omega⟩) ⟨o + x.val, by omega⟩)
    (fun r a => f (qRow t r) a) (fun s a => f (kRow t ⟨s.val, by omega⟩) a)
    (fun r x => by rw [ld_apply _ _ _ _ r.isLt (by omega)]; exact blk_q H t r _)
    (fun r x => by rw [ld_apply _ _ _ _ r.isLt (by omega)]; exact blk_g H t r _)
    (fun s x => by rw [ld_apply _ _ _ _ (by omega) (by omega)]; exact blk_k H t _ _)
    (fun s x => by rw [ld_apply _ _ _ _ (by omega) (by omega)]; exact blk_v H t _ _)
    (fun r x hx => blk_aq H t r x hx)
    (fun s x hx => by
      rw [ld_apply _ _ _ _ (by omega) (by omega)]
      exact (congrArg _ (congrArg (ix2 _) (Fin.ext (Nat.zero_add _)))).trans (blk_ak H t _ x hx))
    a b n (by omega) r l hr (by omega)]
  obtain ⟨L, hLt⟩ := L
  change L = o + l.val at hL
  subst hL
  have hh : headOf ⟨o + l.val, by omega⟩ = if l.val < 64 then a else b := by
    apply Fin.ext; show (o + l.val) / 64 = _; split <;> omega
  rw [outAt, hq0, ← Cert.Num.wavg_le hle (fun s : Fin 2176 => 112 ≤ s.val ∧ s.val ≤ 128 * n + r.val) (fun i hi => by omega), hh]
  simp only [rowOf_qRow]
  congr 2
  refine congrArg (fun S => Cert.Num.wavg _ S _) (funext fun s => ?_)
  rw [score, scoreAt, rowOf_qRow]
  congr 3
  refine Finset.sum_congr rfl fun d _ => ?_
  have e : (⟨o + (64 * (l.val / 64) + d.val), by omega⟩ : Fin 512) = laneOf (if l.val < 64 then a else b) d := by
    apply Fin.ext; show o + (64 * (l.val / 64) + d.val) = 64 * _ + d.val; split <;> omega
  rw [← e]; rfl

/-- The `j`-th pair of heads of a point: lanes `o = 128·j` to `o + 127`. -/
theorem piece {lk : Nat} (h : Fits lk) (hlk : lk ≠ 1) (hle : lk ≤ 2176) (t : Fin cfg2.N) (hk : 128 * (t.val % 17) + 128 ≤ lk)
    (j : Fin 4) (o : Nat) (ho : o = 128 * j.val) {r : Fin 128} {L : Fin 512} (hr : 112 ≤ 128 * (t.val % 17) + r.val) {x : S128x128.Idx}
    (h0 : r.val = (x 0).val) (h1 : L.val = o + (x 1).val) :
    pair h (BitVec.ofNat 32 (2 * j.val)) (BitVec.ofNat 32 (2 * j.val + 1)) (pos (BitVec.ofNat 32 ((grid2.coords t) 1).val)) (iblk2 V c 3 t)
        (View.ld (Val := Elt Ideal) (iblk2 V c 4 t) (Rect.unit ![0, 0] ![lk, 128] (inb hle (by decide))))
        (View.ld (Val := Elt Ideal) (iblk2 V c 0 t) (Rect.unit ![0, o] ![128, 128] (inb le_rfl (by omega))))
        (View.ld (Val := Elt Ideal) (iblk2 V c 1 t) (Rect.unit ![0, o] ![lk, 128] (inb hle (by omega))))
        (View.ld (Val := Elt Ideal) (iblk2 V c 2 t) (Rect.unit ![0, o] ![lk, 128] (inb hle (by omega))))
        (View.ld (Val := Elt Ideal) (iblk2 V c 5 t) (Rect.unit ![0, o] ![128, 128] (inb le_rfl (by omega)))) x
      = (outAt Q K U G f (qRow t r) L : EReal) := by
  have hx : x = ix2 r (x 1) := by
    ext a; obtain ⟨_ | _ | a, ha⟩ := a
    · exact h0.symm
    · rfl
    · exact absurd ha (by show ¬ (a + 1 + 1 < 2); omega)
  have hn : ((grid2.coords t) 1).val = t.val % 17 := (idx t).2.2.2.2.2.2.2
  rw [hx]
  exact store H h hlk hle t _ hn (by omega) _ _ _ ⟨2 * j.val, by omega⟩ ⟨2 * j.val + 1, by omega⟩ rfl rfl
    (by show o = 64 * (2 * j.val); omega) rfl _ _ _ _ _ r (x 1) (by omega) L h1

end Arrays

end Cert.KernelIdeal.Fox
-- ==== Proof.ProjValue.lean ====
/-
  What the arrays of the projections' call hold: the six column blocks of the product of the rows with the weights, and
  the logarithms of the forget gates, zero on the padding rows and beyond the heads' lanes.
-/
module

public import proofs.«01_k».proof.Proof.FoxValue
public import proofs.«01_k».proof.Proof.Gen.KernelIdeal.Frame.Region0
public import Idealize.ShloMosaic.Lib.Pipeline.ValueKit

@[expose] public section

set_option maxRecDepth 16384

noncomputable section

namespace Cert.KernelIdeal.Proj

open Idealize.ShloMosaic Idealize.ShloMosaic.TcCoe
open Cert.KernelIdeal Cert.KernelIdeal.Gen Cert.KernelIdeal.Fox Idealize.ShloMosaic.WordCmp

/-- The logarithm of the logistic function, in the form that does not overflow. -/
def logSig (z : ℝ) : ℝ := min z 0 - Real.log (1 + Real.exp (-|z|))

theorem pay_apply (x : Vec Ideal S544x1024 .f32) (w : Vec Ideal S1024x512 .bf16) (r : Fin 544) (l : Fin 512) :
    k0_pay4 x w (ix2 r l) = ∑ k : Fin 1024, x (ix2 r k) * w (ix2 k l) := by
  pointwise [k0_pay4, k0_pay3]

theorem gate_apply (n : Fin 4) (x : Vec Ideal S544x1024 .f32) (w : Vec Ideal S1024x128 .bf16) (b : Vec Ideal S1x128 .f32)
    (r : Fin 544) (l : Fin 128) (z : ℝ) (hz : (∑ k : Fin 1024, x (ix2 r k) * w (ix2 k l)) + b (ix2 0 l) = (z : EReal)) :
    k0_pay2 (BitVec.ofNat 32 n.val) (k0_pay3 x) w b (ix2 r l) = ((if 112 ≤ 544 * n.val + r.val ∧ l.val < 8 then logSig z else 0 : ℝ) : EReal) := by
  have e : ∀ (n : Fin 4) (r : Fin 544), IntOp.cmpi CmpIPredicate.sge (IntOp.addi (Scalar.muli (BitVec.ofNat 32 n.val) 544#32) (BitVec.ofNat 32 r.val)) 112#32
      = BitVec.ofBool (decide (112 ≤ 544 * n.val + r.val)) := by decide +kernel
  have e' : ∀ l : Fin 128, IntOp.cmpi CmpIPredicate.slt (BitVec.ofNat 32 l.val) 8#32 = BitVec.ofBool (decide (l.val < 8)) := by decide +kernel
  pointwise [k0_pay2, k0_pay3]
  rw [e n r, e' l, andi_ofBool, ← Bool.decide_and, hz]
  have hv : min (z : EReal) 0 - Ideal.log1p (Ideal.exp (0 - FloatOps.absf (F := Ideal) (φ := .f32) (z : EReal))) = (logSig z : EReal) := by
    have ha : FloatOps.absf (F := Ideal) (φ := .f32) (z : EReal) = ((|z| : ℝ) : EReal) := by
      show max (z : EReal) (-(z : EReal)) = _
      rw [← EReal.coe_neg]; exact (EReal.coe_strictMono.monotone.map_max (a := z) (b := -z)).symm
    rw [ha, ← EReal.coe_zero, ← EReal.coe_sub, Cert.Num.log1p_exp_coe, zero_sub, ← EReal.coe_strictMono.monotone.map_min, ← EReal.coe_sub]; rfl
  rw [hv]
  by_cases h : 112 ≤ 544 * n.val + r.val ∧ l.val < 8
  · rw [if_pos h, Scalar.select]; exact if_pos ((ofBool_decide_eq_one_iff _).2 h)
  · rw [if_neg h, Scalar.select]; exact if_neg (fun h' => h ((ofBool_decide_eq_one_iff _).1 h'))

theorem rows_cast (i : grid0.Coords) (x0 : Vec Ideal S544x1024 .f32) (x1 : Vec Ideal S1024x3072 .bf16) (x2 : Vec Ideal S1024x128 .bf16) (x3 : Vec Ideal S1x128 .f32) :
    k0_pay9 i x0 x1 x2 x3 = k0_pay3 x0 := by
  exact congrArg k0_pay3 (View.ld_unit_lit (Val := Elt Ideal) (S := S544x1024) (e := .f32) _ x0 (by decide))

section Arrays
variable {V : (c : Dev nD) → (b : Ref sig .tc) → Buf (Elt Ideal) ((c : Thread nD τ).loc b)} {c : Dev nD}

/-- The operands of the projections hold real numbers: rows `A`, weights `W`, gate weights `Wf` and gate bias `b`. -/
structure Operands (V : (c : Dev nD) → (b : Ref sig .tc) → Buf (Elt Ideal) ((c : Thread nD τ).loc b)) (c : Dev nD)
    (A : Fin 17408 → Fin 1024 → ℝ) (W : Fin 1024 → Fin 3072 → ℝ) (Wf : Fin 1024 → Fin 128 → ℝ) (b : Fin 128 → ℝ) : Prop where
  rows : ∀ R k, V c main_v3 (ix2 R k) = (A R k : EReal)
  weights : ∀ k j, V c main_v6 (ix2 k j) = (W k j : EReal)
  gateWeights : ∀ k l, V c main_v9 (ix2 k l) = (Wf k l : EReal)
  bias : ∀ l, V c main_v12 (ix2 0 l) = (b l : EReal)

variable {A : Fin 17408 → Fin 1024 → ℝ} {W : Fin 1024 → Fin 3072 → ℝ} {Wf : Fin 1024 → Fin 128 → ℝ} {b : Fin 128 → ℝ}
  (H : Operands V c A W Wf b)

/-- The entry of the product of the rows with the weights whose column starts at `o`. -/
def column (A : Fin 17408 → Fin 1024 → ℝ) (W : Fin 1024 → Fin 3072 → ℝ) (o : ℕ) (ho : o ≤ 2560) (R : Fin 17408) (l : Fin 512) : ℝ :=
  ∑ k : Fin 1024, A R k * W k ⟨o + l.val, by omega⟩

/-- The logarithm of the forget gate of row `R` and head `l`. -/
def gateOf (A : Fin 17408 → Fin 1024 → ℝ) (Wf : Fin 1024 → Fin 128 → ℝ) (b : Fin 128 → ℝ) (R : Fin 17408) (l : Fin 128) : ℝ :=
  if 112 ≤ R.val % 2176 ∧ l.val < 8 then logSig ((∑ k : Fin 1024, A R k * Wf k l) + b l) else 0

theorem idxIn (t : Fin cfg0.N) : (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (grid0.coords t 1).val = t.val % 4 := by
  revert t; decide +kernel

theorem idxOut (t : Fin cfg0.N) : (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) := by
  revert t; decide +kernel

/-- The array's row under row `r` of block `t`. -/
def rowAt (t : Fin cfg0.N) (r : Fin 544) : Fin 17408 := ⟨544 * t.val + r.val, by have : t.val < 32 := t.isLt; omega⟩

include H in
theorem blk_rows (t : Fin cfg0.N) (r : Fin 544) (k : Fin 1024) : iblk0 V c 0 t (ix2 r k) = (A (rowAt t r) k : EReal) := by
  rw [← H.rows, rowAt]; blk_ext [iblk0, idxIn t]

include H in
theorem blk_weights (t : Fin cfg0.N) (k : Fin 1024) (j : Fin 3072) : iblk0 V c 1 t (ix2 k j) = (W k j : EReal) := by
  rw [← H.weights]; blk_ext [iblk0, idxIn t]

include H in
theorem blk_gateWeights (t : Fin cfg0.N) (k : Fin 1024) (l : Fin 128) : iblk0 V c 2 t (ix2 k l) = (Wf k l : EReal) := by
  rw [← H.gateWeights]; blk_ext [iblk0, idxIn t]

include H in
theorem blk_bias (t : Fin cfg0.N) (l : Fin 128) : iblk0 V c 3 t (ix2 0 l) = (b l : EReal) := by
  rw [← H.bias]; blk_ext [iblk0, idxIn t]

include H in
/-- One block of one column block. -/
theorem block (t : Fin cfg0.N) (o : ℕ) (ho : o ≤ 2560) (w : Vec Ideal S1024x512 .bf16)
    (hw : ∀ k l, w (ix2 k l) = iblk0 V c 1 t (ix2 k ⟨o + l.val, by omega⟩)) (r : Fin 544) (l : Fin 512) :
    k0_pay4 (iblk0 V c 0 t) w (ix2 r l) = (column A W o ho (rowAt t r) l : EReal) := by
  refine (pay_apply _ _ r l).trans ?_
  rw [column]
  refine Cert.Num.sum_eq_coe _ _ _ fun k _ => ?_
  rw [hw, blk_rows H, blk_weights H, EReal.coe_mul]

include H in
/-- One block of the gates. -/
theorem gate_block (t : Fin cfg0.N) (r : Fin 544) (l : Fin 128) :
    k0_pay2 (BitVec.ofNat 32 (t.val % 4)) (k0_pay3 (iblk0 V c 0 t)) (iblk0 V c 2 t) (iblk0 V c 3 t) (ix2 r l) = (gateOf A Wf b (rowAt t r) l : EReal) := by
  have ht : t.val < 32 := t.isLt
  have eR : (rowAt t r).val % 2176 = 544 * (t.val % 4) + r.val := by show (544 * t.val + r.val) % 2176 = _; omega
  rw [gateOf, eR]
  exact gate_apply ⟨t.val % 4, by omega⟩ (iblk0 V c 0 t) (iblk0 V c 2 t) (iblk0 V c 3 t) r l _ (by
    rw [Cert.Num.sum_eq_coe _ _ (fun k => A (rowAt t r) k * Wf k l) fun k _ => by rw [blk_rows H, blk_gateWeights H, EReal.coe_mul], blk_bias H, EReal.coe_add])

include H in
/-- The same at the array's index under `y`. -/
theorem block_at (t : Fin cfg0.N) (o : ℕ) (ho : o ≤ 2560) (w : Vec Ideal S1024x512 .bf16)
    (hw : ∀ k l, w (ix2 k l) = iblk0 V c 1 t (ix2 k ⟨o + l.val, by omega⟩)) (y : S544x512.Idx) (i : S17408x512.Idx)
    (h0 : (i 0).val = t.val * 544 + (y 0).val) (h1 : (i 1).val = (y 1).val) :
    k0_pay4 (iblk0 V c 0 t) w y = (column A W o ho (i 0) (i 1) : EReal) := by
  have e0 : i 0 = rowAt t (y 0) := Fin.ext (by rw [h0]; show _ = 544 * t.val + (y 0).val; omega)
  have e1 : i 1 = y 1 := Fin.ext h1
  rw [e0, e1]
  exact Eq.trans (congrArg (fun i => k0_pay4 (iblk0 V c 0 t) w i) (by funext a; fin_cases a <;> rfl)) (block H t o ho w hw (y 0) (y 1))

include H in
theorem u_array (R : Fin 17408) (L : Fin 512) : (dat0 V c).arrAt 4 cfg0.N (ix2 R L) = (column A W 0 (by decide) R L : EReal) := by
  rw [(dat0 V c).arrAt_eq_of_covers 4 (fun i => (column A W 0 (by decide) (i 0) (i 1) : EReal)) (by decide +kernel) fun t _ y => by
    rw [after0_4]; frame_out
    exact block_at H t 0 (by decide) (View.ld (iblk0 V c 1 t) r0_1) (fun k l => by pointwise) y
      ((win0_4.blk t).view.emb y) (by blk_simp [idxOut t]) (by blk_simp [idxOut t])]
  rfl

include H in
theorem ga_array (R : Fin 17408) (L : Fin 512) : (dat0 V c).arrAt 5 cfg0.N (ix2 R L) = (column A W 512 (by decide) R L : EReal) := by
  rw [(dat0 V c).arrAt_eq_of_covers 5 (fun i => (column A W 512 (by decide) (i 0) (i 1) : EReal)) (by decide +kernel) fun t _ y => by
    rw [after0_5]; frame_out
    exact block_at H t 512 (by decide) (View.ld (iblk0 V c 1 t) r0_3) (fun k l => by pointwise) y
      ((win0_5.blk t).view.emb y) (by blk_simp [idxOut t]) (by blk_simp [idxOut t])]
  rfl

include H in
theorem q_array (R : Fin 17408) (L : Fin 512) : (dat0 V c).arrAt 6 cfg0.N (ix2 R L) = (column A W 1024 (by decide) R L : EReal) := by
  rw [(dat0 V c).arrAt_eq_of_covers 6 (fun i => (column A W 1024 (by decide) (i 0) (i 1) : EReal)) (by decide +kernel) fun t _ y => by
    rw [after0_6]; frame_out
    exact block_at H t 1024 (by decide) (View.ld (iblk0 V c 1 t) r0_4) (fun k l => by pointwise) y
      ((win0_6.blk t).view.emb y) (by blk_simp [idxOut t]) (by blk_simp [idxOut t])]
  rfl

include H in
theorem k_array (R : Fin 17408) (L : Fin 512) : (dat0 V c).arrAt 7 cfg0.N (ix2 R L) = (column A W 1536 (by decide) R L : EReal) := by
  rw [(dat0 V c).arrAt_eq_of_covers 7 (fun i => (column A W 1536 (by decide) (i 0) (i 1) : EReal)) (by decide +kernel) fun t _ y => by
    rw [after0_7]; frame_out
    exact block_at H t 1536 (by decide) (View.ld (iblk0 V c 1 t) r0_5) (fun k l => by pointwise) y
      ((win0_7.blk t).view.emb y) (by blk_simp [idxOut t]) (by blk_simp [idxOut t])]
  rfl

include H in
theorem v_array (R : Fin 17408) (L : Fin 512) : (dat0 V c).arrAt 8 cfg0.N (ix2 R L) = (column A W 2048 (by decide) R L : EReal) := by
  rw [(dat0 V c).arrAt_eq_of_covers 8 (fun i => (column A W 2048 (by decide) (i 0) (i 1) : EReal)) (by decide +kernel) fun t _ y => by
    rw [after0_8]; frame_out
    exact block_at H t 2048 (by decide) (View.ld (iblk0 V c 1 t) r0_6) (fun k l => by pointwise) y
      ((win0_8.blk t).view.emb y) (by blk_simp [idxOut t]) (by blk_simp [idxOut t])]
  rfl

include H in
theorem gb_array (R : Fin 17408) (L : Fin 512) : (dat0 V c).arrAt 9 cfg0.N (ix2 R L) = (column A W 2560 (by decide) R L : EReal) := by
  rw [(dat0 V c).arrAt_eq_of_covers 9 (fun i => (column A W 2560 (by decide) (i 0) (i 1) : EReal)) (by decide +kernel) fun t _ y => by
    rw [after0_9]; frame_out; rw [rows_cast]
    exact block_at H t 2560 (by decide) (View.ld (iblk0 V c 1 t) r0_7) (fun k l => by pointwise) y
      ((win0_9.blk t).view.emb y) (by blk_simp [idxOut t]) (by blk_simp [idxOut t])]
  rfl

include H in
theorem lf_array (R : Fin 17408) (l : Fin 128) : (dat0 V c).arrAt 10 cfg0.N (ix2 R l) = (gateOf A Wf b R l : EReal) := by
  have key := (dat0 V c).arrAt_eq_of_covers 10 (fun i => (gateOf A Wf b (i 0) (i 1) : EReal)) (by decide +kernel) (fun t hf y => by
    have ht : t.val < 32 := t.isLt
    have hr : (y 0).val < 544 := (y 0).isLt
    have e0 : (win0_10.blk t).view.emb y 0 = rowAt t (y 0) := by apply Fin.ext; blk_simp [idxOut t]; show _ = 544 * t.val + (y 0).val; omega
    have e1 : (win0_10.blk t).view.emb y 1 = y 1 := by apply Fin.ext; blk_simp [idxOut t]
    rw [after0_10]; frame_out
    show _ = (gateOf A Wf b ((win0_10.blk t).view.emb y 0) ((win0_10.blk t).view.emb y 1) : EReal)
    rw [e0, e1, (idxIn t).2.2.2.2, rows_cast]
    exact Eq.trans (congrArg (fun i => k0_pay2 (BitVec.ofNat 32 (t.val % 4)) (k0_pay3 (iblk0 V c 0 t)) (iblk0 V c 2 t) (iblk0 V c 3 t) i) (by funext a; fin_cases a <;> rfl)) (gate_block H t (y 0) (y 1)))
  rw [key]; rfl

end Arrays

end Cert.KernelIdeal.Proj
-- ==== Proof.FcumBlock.lean ====
/-
  What one block of 128 rows of the running sum of the forget gates computes: the sums inside the block through a
  triangular matrix of ones, plus the sum carried from the block before; and the two decay operands made of it.
-/
module

public import proofs.«01_k».proof.Proof.FoxBlock

@[expose] public section

set_option maxRecDepth 16384

noncomputable section

namespace Cert.KernelIdeal.Fcum

open Idealize.ShloMosaic Idealize.ShloMosaic.WordCmp Cert.KernelIdeal Cert.KernelIdeal.Gen Cert.KernelIdeal.Fox

/-- Ones where the row is at or below the lane's row. -/
def tri : FVec Ideal S128x128 .f32 :=
  select (cmpi .sge (iota .tc S128x128 32 [0] iota_S128x128_d0_w32) lane) (broadcast S128x128 (Scalar.ofBits .f32 0x3F800000#32)) zeros

/-- The product of the triangle with one of the three parts of a block. -/
def part (x : FVec Ideal S128x128 .f32) : FVec Ideal S128x128 .f32 :=
  matmul (DotDims.plain 128 128 128) none tri x (constant S128x128 .f32 0x00000000#32)

/-- The leading part of a value and what it leaves. -/
def lead (x : FVec Ideal S128x128 .f32) : FVec Ideal S128x128 .f32 := extf .f32 (truncf .bf16 x bitsLt_bf16_f32) bitsLt_bf16_f32
def rest (x : FVec Ideal S128x128 .f32) : FVec Ideal S128x128 .f32 := subf x (lead x)

/-- The running sums of a block, given the row of sums before it. -/
def step (z : FVec Ideal S1x128 .f32) (b : FVec Ideal S128x128 .f32) : FVec Ideal S128x128 .f32 :=
  have x : FVec Ideal S128x128 .f32 := shapeCast S128x128 b shapeCasts_S128x128_S128x128
  addf (addf (addf (part (lead x)) (part (lead (rest x)))) (part (rest (rest x)))) (broadcastTo S128x128 z broadcasts_S1x128_S128x128)

def zeroRow : FVec Ideal S1x128 .f32 := broadcast S1x128 (Scalar.ofBits .f32 0x00000000#32)

def lastRow (x : FVec Ideal S128x128 .f32) : FVec Ideal S1x128 .f32 := extractStridedSlice S1x128 ![127, 0] x slices_S128x128_o127_0_S1x128

/-- The three parts of the sums, eight lanes apart. -/
def spread (x : FVec Ideal S128x128 .f32) : FVec Ideal S128x128 .f32 :=
  addf (addf (lead x) (dynamicRotate 1 8#32 none (lead (rest x)) rotates_S128x128_d1)) (dynamicRotate 1 16#32 none (rest (rest x)) rotates_S128x128_d1)

/-- The decay operand of the queries. -/
def aqT (x : FVec Ideal S128x128 .f32) : FVec Ideal S128x128 .f32 :=
  select (andi (cmpi .sge lane (broadcast S128x128 24#32)) (cmpi .slt lane (broadcast S128x128 48#32)))
    (broadcast S128x128 (Scalar.ofBits .f32 0x3F800000#32)) (spread x)

/-- The decay operand of the keys. -/
def akT (x : FVec Ideal S128x128 .f32) : FVec Ideal S128x128 .f32 :=
  select (cmpi .slt lane (broadcast S128x128 24#32)) (broadcast S128x128 (Scalar.ofBits .f32 0x3F800000#32))
    (subf zeros (dynamicRotate 1 24#32 none (spread x) rotates_S128x128_d1))

theorem spread_apply (x : FVec Ideal S128x128 .f32) (F : Fin 128 → Fin 128 → ℝ) (hx : ∀ r l, x (ix2 r l) = (F r l : EReal)) (r l : Fin 128) :
    spread x (ix2 r l) = (F r l : EReal) := by
  pointwise [spread, lead, rest]
  simp only [hx, ← EReal.coe_sub, ← EReal.coe_add, sub_self, add_zero]

/-- The sum of the first `m` rows. -/
def upTo (f : ℕ → Fin 128 → ℝ) (m : ℕ) (l : Fin 128) : ℝ := ∑ s ∈ Finset.range m, f s l

theorem step_apply (f : ℕ → Fin 128 → ℝ) (n : ℕ) (z : FVec Ideal S1x128 .f32) (b : FVec Ideal S128x128 .f32)
    (hz : ∀ l, z (ix2 0 l) = (upTo f (128 * n) l : EReal)) (hb : ∀ r l, b (ix2 r l) = (f (128 * n + r.val) l : EReal)) (r l : Fin 128) :
    step z b (ix2 r l) = (upTo f (128 * n + r.val + 1) l : EReal) := by
  have e : ∀ x : Fin 128, (IntOp.cmpi CmpIPredicate.sge (BitVec.ofNat 32 r.val) (BitVec.ofNat 32 x.val) = 1) ↔ x.val < r.val + 1 := fun x => by
    rw [cmpi_sge_ofNat (by omega) (by omega)]; exact (ofBool_decide_eq_one_iff _).trans Nat.lt_succ_iff.symm
  have sel : ∀ (g : ℕ → ℝ), (∑ x : Fin 128, Scalar.select (IntOp.cmpi CmpIPredicate.sge (BitVec.ofNat 32 r.val) (BitVec.ofNat 32 x.val)) ((g x.val : ℝ) : EReal) 0)
      = ((∑ x ∈ Finset.range (r.val + 1), g x : ℝ) : EReal) := fun g => by
    have e1 : ∀ x : Fin 128, Scalar.select (IntOp.cmpi CmpIPredicate.sge (BitVec.ofNat 32 r.val) (BitVec.ofNat 32 x.val)) ((g x.val : ℝ) : EReal) 0
        = ((if x.val < r.val + 1 then g x.val else 0 : ℝ) : EReal) := fun x => by
      simp only [Scalar.select, e x]; split <;> rfl
    rw [Finset.sum_congr rfl fun x _ => e1 x, Cert.Num.coe_sum, Fin.sum_univ_eq_sum_range (fun j => if j < r.val + 1 then g j else 0) 128,
      ← Finset.sum_filter]
    congr 2
    ext j; simp only [Finset.mem_filter, Finset.mem_range]; omega
  pointwise [step, lead, rest, part, tri, lane, zeros]
  simp only [hb, hz, ← EReal.coe_sub, sub_self]
  rw [sel (fun x => f (128 * n + x) l), sel (fun _ => 0), ← EReal.coe_add, ← EReal.coe_add, ← EReal.coe_add]
  congr 1
  rw [upTo, upTo, show 128 * n + r.val + 1 = 128 * n + (r.val + 1) from rfl, Finset.sum_range_add _ (128 * n) (r.val + 1), Finset.sum_const_zero, add_zero,
    add_zero, add_comm]

theorem lastRow_apply (f : ℕ → Fin 128 → ℝ) (n : ℕ) (x : FVec Ideal S128x128 .f32)
    (hx : ∀ r l, x (ix2 r l) = (upTo f (128 * n + r.val + 1) l : EReal)) (l : Fin 128) :
    lastRow x (ix2 0 l) = (upTo f (128 * (n + 1)) l : EReal) := by
  have := hx 127 l
  pointwise [lastRow]
  exact this

theorem zeroRow_apply (f : ℕ → Fin 128 → ℝ) (l : Fin 128) : zeroRow (ix2 0 l) = (upTo f (128 * 0) l : EReal) := by
  pointwise [zeroRow]
  simp [upTo]

theorem aqT_apply (x : FVec Ideal S128x128 .f32) (F : Fin 128 → Fin 128 → ℝ) (hx : ∀ r l, x (ix2 r l) = (F r l : EReal)) (r l : Fin 128) :
    aqT x (ix2 r l) = ((if 24 ≤ l.val ∧ l.val < 48 then 1 else F r l : ℝ) : EReal) := by
  have e : ∀ l : Fin 128, (IntOp.andi (IntOp.cmpi CmpIPredicate.sge (BitVec.ofNat 32 l.val) 24#32)
        (IntOp.cmpi CmpIPredicate.slt (BitVec.ofNat 32 l.val) 48#32) = 1) ↔ (24 ≤ l.val ∧ l.val < 48) := by decide
  pointwise [aqT, lane]
  rw [spread_apply x F hx]
  simp only [Scalar.select, e]
  split <;> rfl

theorem akT_apply (x : FVec Ideal S128x128 .f32) (F : Fin 128 → Fin 128 → ℝ) (hx : ∀ r l, x (ix2 r l) = (F r l : EReal)) (r l : Fin 128) :
    akT x (ix2 r l) = ((if l.val < 24 then 1 else - F r ⟨(l.val + 128 - 24) % 128, Nat.mod_lt _ (by decide)⟩ : ℝ) : EReal) := by
  have e : ∀ l : Fin 128, (IntOp.cmpi CmpIPredicate.slt (BitVec.ofNat 32 l.val) 24#32 = 1) ↔ l.val < 24 := by decide
  pointwise [akT, lane, zeros]
  rw [spread_apply x F hx]
  simp only [Scalar.select, e]
  split
  · rfl
  · rw [zero_sub, EReal.coe_neg]

end Cert.KernelIdeal.Fcum
-- ==== Proof.FcumValue.lean ====
/-
  What the arrays of the running sums' call hold: for each row the sums of the forget gates from its sequence's start,
  as the two decay operands of the attention.
-/
module

public import proofs.«01_k».proof.Proof.FcumBlock
public import proofs.«01_k».proof.Proof.FoxValue
public import proofs.«01_k».proof.Proof.Gen.KernelIdeal.Frame.Region1
public import Idealize.ShloMosaic.Lib.Pipeline.ValueKit

@[expose] public section

set_option maxRecDepth 16384

noncomputable section

namespace Cert.KernelIdeal.Fcum

open Idealize.ShloMosaic Idealize.ShloMosaic.TcCoe Cert.KernelIdeal Cert.KernelIdeal.Gen Cert.KernelIdeal.Fox
open Idealize.ShloMosaic.Pipeline (Dat Cfg Window)

/-- A row that holds the sums of the rows before block `n`. -/
def Row (f : ℕ → Fin 128 → ℝ) (n : ℕ) (z : FVec Ideal S1x128 .f32) : Prop := ∀ l, z (ix2 0 l) = (upTo f (128 * n) l : EReal)

/-- A block that holds the sums up to each of its rows. -/
def Sums (f : ℕ → Fin 128 → ℝ) (n : ℕ) (x : FVec Ideal S128x128 .f32) : Prop :=
  ∀ r l, x (ix2 r l) = (upTo f (128 * n + r.val + 1) l : EReal)

section Block
variable {x0 : Vec Ideal S2176x128 .f32} {f : ℕ → Fin 128 → ℝ} (hx : ∀ s l, x0 (ix2 s l) = (f s.val l : EReal))

/-- The `n`-th 128 rows. -/
def rows (x0 : Vec Ideal S2176x128 .f32) (n : ℕ) (hn : n < 17) : FVec Ideal S128x128 .f32 :=
  View.ld (Val := Elt Ideal) (S := S2176x128) (e' := .f32) x0 (Rect.unit (s := S2176x128) ![128 * n, 0] ![128, 128] (by
    intro a; obtain ⟨_ | _ | a, ha⟩ := a
    · show 128 * n + 128 ≤ 2176; omega
    · exact le_rfl
    · exact absurd ha (by show ¬ (a + 1 + 1 < 2); omega)))

include hx in
theorem rows_apply (n : ℕ) (hn : n < 17) (r l : Fin 128) : rows x0 n hn (ix2 r l) = (f (128 * n + r.val) l : EReal) := by
  refine Eq.trans (congrArg (fun i => x0 i) (funext fun a => Fin.ext ?_)) (hx ⟨128 * n + r.val, by omega⟩ l)
  obtain ⟨_ | _ | a, ha⟩ := a
  · show 128 * n + 1 * r.val = 128 * n + r.val; omega
  · show 0 + 1 * l.val = l.val; omega
  · exact absurd ha (by show ¬ (a + 1 + 1 < 2); omega)

include hx in
theorem sums {n : ℕ} {hn : n < 17} {z} (hz : Row f n z) : Sums f n (step z (rows x0 n hn)) :=
  step_apply f n z _ hz (rows_apply hx n hn)

include hx in
theorem next (n : ℕ) {hn : n < 17} (z' : FVec Ideal S1x128 .f32) {z} (hz : Row f n z) (e : z' = lastRow (step z (rows x0 n hn))) : Row f (n + 1) z' := by
  rw [e]; exact lastRow_apply f n _ (sums hx hz)

/-- The carry before the block before the last, which the program leaves unnamed. -/
def c15 (x0 : Vec Ideal S2176x128 .f32) : FVec Ideal S1x128 .f32 := lastRow (step (k1_pay149 x0) (rows x0 14 (by decide)))

include hx in
theorem carries : Row f 0 zeroRow ∧ Row f 1 (k1_pay119 x0) ∧ Row f 2 (k1_pay120 x0) ∧ Row f 3 (k1_pay121 x0) ∧ Row f 4 (k1_pay122 x0) ∧ Row f 5 (k1_pay123 x0) ∧ Row f 6 (k1_pay125 x0) ∧ Row f 7 (k1_pay127 x0) ∧ Row f 8 (k1_pay129 x0) ∧ Row f 9 (k1_pay131 x0) ∧ Row f 10 (k1_pay133 x0) ∧ Row f 11 (k1_pay136 x0) ∧ Row f 12 (k1_pay140 x0) ∧ Row f 13 (k1_pay144 x0) ∧ Row f 14 (k1_pay149 x0) ∧ Row f 15 (c15 x0) ∧ Row f 16 (k1_pay154 x0) := by
  have c0 : Row f 0 zeroRow := zeroRow_apply f
  have c1 : Row f 1 (k1_pay119 x0) := next hx (hn := (by decide)) 0 (k1_pay119 x0) c0 rfl
  have c2 : Row f 2 (k1_pay120 x0) := next hx (hn := (by decide)) 1 (k1_pay120 x0) c1 rfl
  have c3 : Row f 3 (k1_pay121 x0) := next hx (hn := (by decide)) 2 (k1_pay121 x0) c2 rfl
  have c4 : Row f 4 (k1_pay122 x0) := next hx (hn := (by decide)) 3 (k1_pay122 x0) c3 rfl
  have c5 : Row f 5 (k1_pay123 x0) := next hx (hn := (by decide)) 4 (k1_pay123 x0) c4 rfl
  have c6 : Row f 6 (k1_pay125 x0) := next hx (hn := (by decide)) 5 (k1_pay125 x0) c5 rfl
  have c7 : Row f 7 (k1_pay127 x0) := next hx (hn := (by decide)) 6 (k1_pay127 x0) c6 rfl
  have c8 : Row f 8 (k1_pay129 x0) := next hx (hn := (by decide)) 7 (k1_pay129 x0) c7 rfl
  have c9 : Row f 9 (k1_pay131 x0) := next hx (hn := (by decide)) 8 (k1_pay131 x0) c8 rfl
  have c10 : Row f 10 (k1_pay133 x0) := next hx (hn := (by decide)) 9 (k1_pay133 x0) c9 rfl
  have c11 : Row f 11 (k1_pay136 x0) := next hx (hn := (by decide)) 10 (k1_pay136 x0) c10 rfl
  have c12 : Row f 12 (k1_pay140 x0) := next hx (hn := (by decide)) 11 (k1_pay140 x0) c11 rfl
  have c13 : Row f 13 (k1_pay144 x0) := next hx (hn := (by decide)) 12 (k1_pay144 x0) c12 rfl
  have c14 : Row f 14 (k1_pay149 x0) := next hx (hn := (by decide)) 13 (k1_pay149 x0) c13 rfl
  have c15 : Row f 15 (c15 x0) := next hx (hn := (by decide)) 14 (c15 x0) c14 rfl
  have c16 : Row f 16 (k1_pay154 x0) := next hx (hn := (by decide)) 15 (k1_pay154 x0) c15 rfl
  exact ⟨c0, c1, c2, c3, c4, c5, c6, c7, c8, c9, c10, c11, c12, c13, c14, c15, c16⟩

/-- What the operand of the queries holds at row `s`. -/
def aqAt (f : ℕ → Fin 128 → ℝ) (s : ℕ) (l : Fin 128) : ℝ := if 24 ≤ l.val ∧ l.val < 48 then 1 else upTo f (s + 1) l

/-- What the operand of the keys holds at row `s`. -/
def akAt (f : ℕ → Fin 128 → ℝ) (s : ℕ) (l : Fin 128) : ℝ :=
  if l.val < 24 then 1 else - upTo f (s + 1) ⟨(l.val + 128 - 24) % 128, Nat.mod_lt _ (by decide)⟩

include hx in
theorem aq_piece {n : ℕ} {hn : n < 17} {z} (hz : Row f n z) {P : FVec Ideal S128x128 .f32} (e : P = aqT (step z (rows x0 n hn)))
    {x : S128x128.Idx} {s : ℕ} {l : Fin 128} (h0 : s = 128 * n + (x 0).val) (h1 : l.val = (x 1).val) : P x = (aqAt f s l : EReal) := by
  obtain rfl : l = x 1 := Fin.ext h1
  rw [e, h0]
  exact Eq.trans (congrArg _ (by funext a; fin_cases a <;> rfl)) (aqT_apply _ _ (sums hx hz) (x 0) (x 1))

include hx in
theorem ak_piece {n : ℕ} {hn : n < 17} {z} (hz : Row f n z) {P : FVec Ideal S128x128 .f32} (e : P = akT (step z (rows x0 n hn)))
    {x : S128x128.Idx} {s : ℕ} {l : Fin 128} (h0 : s = 128 * n + (x 0).val) (h1 : l.val = (x 1).val) : P x = (akAt f s l : EReal) := by
  obtain rfl : l = x 1 := Fin.ext h1
  rw [e, h0]
  exact Eq.trans (congrArg _ (by funext a; fin_cases a <;> rfl)) (akT_apply _ _ (sums hx hz) (x 0) (x 1))

include hx in
set_option maxHeartbeats 1000000 in
theorem aq_block (s : Fin 2176) (l : Fin 128) : out1_1 x0 (ix2 s l) = (aqAt f s.val l : EReal) := by
  obtain ⟨c0, c1, c2, c3, c4, c5, c6, c7, c8, c9, c10, c11, c12, c13, c14, c15, c16⟩ := carries hx
  unfold out1_1
  canon_tiles x h
  exacts [aq_piece hx (hn := (by decide)) c16 rfl h0 h1, aq_piece hx (hn := (by decide)) c15 rfl h0 h1, aq_piece hx (hn := (by decide)) c14 rfl h0 h1, aq_piece hx (hn := (by decide)) c13 rfl h0 h1, aq_piece hx (hn := (by decide)) c12 rfl h0 h1, aq_piece hx (hn := (by decide)) c11 rfl h0 h1, aq_piece hx (hn := (by decide)) c10 rfl h0 h1, aq_piece hx (hn := (by decide)) c9 rfl h0 h1, aq_piece hx (hn := (by decide)) c8 rfl h0 h1, aq_piece hx (hn := (by decide)) c7 rfl h0 h1, aq_piece hx (hn := (by decide)) c6 rfl h0 h1, aq_piece hx (hn := (by decide)) c5 rfl h0 h1, aq_piece hx (hn := (by decide)) c4 rfl h0 h1, aq_piece hx (hn := (by decide)) c3 rfl h0 h1, aq_piece hx (hn := (by decide)) c2 rfl h0 h1, aq_piece hx (hn := (by decide)) c1 rfl h0 h1,
    aq_piece hx (hn := (by decide)) c0 rfl (h0.trans (Nat.zero_add _).symm) h1]

include hx in
set_option maxHeartbeats 1000000 in
theorem ak_block (s : Fin 2176) (l : Fin 128) : out1_2 x0 (ix2 s l) = (akAt f s.val l : EReal) := by
  obtain ⟨c0, c1, c2, c3, c4, c5, c6, c7, c8, c9, c10, c11, c12, c13, c14, c15, c16⟩ := carries hx
  unfold out1_2
  canon_tiles x h
  exacts [ak_piece hx (hn := (by decide)) c16 rfl h0 h1, ak_piece hx (hn := (by decide)) c15 rfl h0 h1, ak_piece hx (hn := (by decide)) c14 rfl h0 h1, ak_piece hx (hn := (by decide)) c13 rfl h0 h1, ak_piece hx (hn := (by decide)) c12 rfl h0 h1, ak_piece hx (hn := (by decide)) c11 rfl h0 h1, ak_piece hx (hn := (by decide)) c10 rfl h0 h1, ak_piece hx (hn := (by decide)) c9 rfl h0 h1, ak_piece hx (hn := (by decide)) c8 rfl h0 h1, ak_piece hx (hn := (by decide)) c7 rfl h0 h1, ak_piece hx (hn := (by decide)) c6 rfl h0 h1, ak_piece hx (hn := (by decide)) c5 rfl h0 h1, ak_piece hx (hn := (by decide)) c4 rfl h0 h1, ak_piece hx (hn := (by decide)) c3 rfl h0 h1, ak_piece hx (hn := (by decide)) c2 rfl h0 h1, ak_piece hx (hn := (by decide)) c1 rfl h0 h1,
    ak_piece hx (hn := (by decide)) c0 rfl (h0.trans (Nat.zero_add _).symm) h1]

end Block

section Arrays
variable {V : (c : Dev nD) → (b : Ref sig .tc) → Buf (Elt Ideal) ((c : Thread nD τ).loc b)} {c : Dev nD} {f : Fin 17408 → Fin 128 → ℝ}
  (hf : ∀ R l, V c main_v13_6 (ix2 R l) = (f R l : EReal))

theorem idx1 (t : Fin cfg1.N) : (win1_0.index t 0 = t.val ∧ win1_0.index t 1 = 0) ∧ (win1_1.index t 0 = t.val ∧ win1_1.index t 1 = 0)
    ∧ (win1_2.index t 0 = t.val ∧ win1_2.index t 1 = 0) := by
  revert t; decide +kernel

/-- The gates of the `n`-th sequence, position by position. -/
def seqOf (f : Fin 17408 → Fin 128 → ℝ) (n : ℕ) (s : ℕ) (l : Fin 128) : ℝ :=
  if h : 2176 * n + s < 17408 then f ⟨2176 * n + s, h⟩ l else 0

include hf in
theorem blk_f (t : Fin cfg1.N) (s : Fin 2176) (l : Fin 128) : iblk1 V c 0 t (ix2 s l) = (seqOf f t.val s.val l : EReal) := by
  have ht : t.val < 8 := t.isLt
  rw [seqOf, dif_pos (by omega), ← hf]; blk_ext [iblk1, idx1 t]

include hf in
theorem aq_array (R : Fin 17408) (l : Fin 128) :
    (dat1 V c).arrAt 1 cfg1.N (ix2 R l) = (aqAt (seqOf f (R.val / 2176)) (R.val % 2176) l : EReal) := by
  have key := (dat1 V c).arrAt_eq_of_covers 1 (fun i => (aqAt (seqOf f ((i 0).val / 2176)) ((i 0).val % 2176) (i 1) : EReal))
    (by decide +kernel) (fun t hf' y => by
      blk_simp
      rw [after1_1]
      have hy0 : (y 0).val < 2176 := (y 0).isLt
      have e0 : (win1_1.index t 0 * 2176 + (y 0).val) / 2176 = t.val := by rw [(idx1 t).2.1.1]; omega
      have e1 : (win1_1.index t 0 * 2176 + (y 0).val) % 2176 = (y 0).val := by rw [(idx1 t).2.1.1]; omega
      have e2 : (win1_1.blk t).view.emb y 1 = y 1 := by apply Fin.ext; blk_simp [idx1 t]
      rw [e0, e1, e2]
      exact Eq.trans (congrArg _ (by funext a; fin_cases a <;> rfl)) (aq_block (blk_f hf t) (y 0) (y 1)))
  rw [key]; rfl

include hf in
theorem ak_array (R : Fin 17408) (l : Fin 128) :
    (dat1 V c).arrAt 2 cfg1.N (ix2 R l) = (akAt (seqOf f (R.val / 2176)) (R.val % 2176) l : EReal) := by
  have key := (dat1 V c).arrAt_eq_of_covers 2 (fun i => (akAt (seqOf f ((i 0).val / 2176)) ((i 0).val % 2176) (i 1) : EReal))
    (by decide +kernel) (fun t hf' y => by
      blk_simp
      rw [after1_2]
      have hy0 : (y 0).val < 2176 := (y 0).isLt
      have e0 : (win1_2.index t 0 * 2176 + (y 0).val) / 2176 = t.val := by rw [(idx1 t).2.2.1]; omega
      have e1 : (win1_2.index t 0 * 2176 + (y 0).val) % 2176 = (y 0).val := by rw [(idx1 t).2.2.1]; omega
      have e2 : (win1_2.blk t).view.emb y 1 = y 1 := by apply Fin.ext; blk_simp [idx1 t]
      rw [e0, e1, e2]
      exact Eq.trans (congrArg _ (by funext a; fin_cases a <;> rfl)) (ak_block (blk_f hf t) (y 0) (y 1)))
  rw [key]; rfl

/-- The decay of head `a` at row `R`: the sum of the forget gates of its sequence up to that row. -/
def decay (f : Fin 17408 → Fin 128 → ℝ) (R : Fin 17408) (a : Fin 8) : ℝ := upTo (seqOf f (R.val / 2176)) (R.val % 2176 + 1) ⟨a.val, by omega⟩

theorem upTo_zero (h0 : ∀ R (l : Fin 128), 8 ≤ l.val → f R l = 0) (n m : ℕ) (l : Fin 128) (hl : 8 ≤ l.val) : upTo (seqOf f n) m l = 0 :=
  Finset.sum_eq_zero fun s _ => by rw [seqOf]; split; exacts [h0 _ l hl, rfl]

include hf in
theorem aq_of (h0 : ∀ R (l : Fin 128), 8 ≤ l.val → f R l = 0) (R : Fin 17408) (x : Fin 128) (hx : x.val < 48) :
    (dat1 V c).arrAt 1 cfg1.N (ix2 R x) = (aqOf (decay f R) x : EReal) := by
  rw [aq_array hf, aqAt, aqOf]
  congr 1
  by_cases h1 : x.val < 8
  · rw [if_neg (by omega), dif_pos h1]; rfl
  by_cases h2 : x.val < 24
  · rw [if_neg (by omega), dif_neg h1, if_pos h2, upTo_zero h0 _ _ _ (by omega)]
  · rw [if_pos (by omega), dif_neg h1, if_neg h2]

include hf in
theorem ak_of (h0 : ∀ R (l : Fin 128), 8 ≤ l.val → f R l = 0) (R : Fin 17408) (x : Fin 128) (hx : x.val < 48) :
    (dat1 V c).arrAt 2 cfg1.N (ix2 R x) = (akOf (decay f R) x : EReal) := by
  rw [ak_array hf, akAt, akOf]
  congr 1
  by_cases h1 : x.val < 24
  · rw [if_pos h1, if_pos h1]
  have e : (x.val + 128 - 24) % 128 = x.val - 24 := by omega
  by_cases h2 : x.val < 32
  · rw [if_neg h1, if_neg h1, dif_pos h2, decay]
    simp only [e]
  · rw [if_neg h1, if_neg h1, dif_neg h2, upTo_zero h0 _ _ _ (by show 8 ≤ (x.val + 128 - 24) % 128; omega), neg_zero]

end Arrays

end Cert.KernelIdeal.Fcum
-- ==== Proof.FoxCases.lean ====
/-
  Each of the eight cases of a program point of the forgetting attention (how many keys it reads), and the array.
-/
module

public import proofs.«01_k».proof.Proof.FoxValue
public import Idealize.ShloMosaic.Lib.Pipeline.ValueKit

@[expose] public section

set_option maxRecDepth 16384

noncomputable section

namespace Cert.KernelIdeal.Fox

open Idealize.ShloMosaic Idealize.ShloMosaic.TcCoe Cert.KernelIdeal Cert.KernelIdeal.Gen
open Idealize.ShloMosaic.Pipeline (Dat Cfg Window)

section Arrays
variable {V : (c : Dev nD) → (b : Ref sig .tc) → Buf (Elt Ideal) ((c : Thread nD τ).loc b)} {c : Dev nD}
  {Q K U G : Fin 17408 → Fin 512 → ℝ} {f : Fin 17408 → Fin 8 → ℝ} (H : Holds V c Q K U G f)
include H

set_option maxHeartbeats 1200000 in
/-- Every program point writes its block right: in each of the eight cases the four stored tiles are the four pairs of heads. -/
theorem good (t : Fin cfg2.N) : Good V c Q K U G f t := fun r L hr => by
  have e : View.ld (Val := Elt Ideal) (S := S128x128) (e' := .f32) (iblk2 V c 3 t) (Rect.unit (s := S128x128) ![0, 0] ![128, 128] (inb le_rfl le_rfl)) = iblk2 V c 3 t :=
    View.ld_unit_zero (by funext a; fin_cases a <;> rfl) _ _
  have e4 : View.ld (Val := Elt Ideal) (S := S2176x128) (e' := .f32) (iblk2 V c 4 t) (Rect.unit (s := S2176x128) ![0, 0] ![2176, 128] (inb le_rfl le_rfl)) = iblk2 V c 4 t :=
    View.ld_unit_zero (by funext a; fin_cases a <;> rfl) _ _
  have e4' : View.ld (Val := Elt Ideal) (iblk2 V c 4 t) (Rect.unit ![0, 0] ![2176, 128] (inb le_rfl le_rfl)) = iblk2 V c 4 t := e4
  have cases : t.val % 17 ≤ 2 ∨ (3 ≤ t.val % 17 ∧ t.val % 17 ≤ 4) ∨ (5 ≤ t.val % 17 ∧ t.val % 17 ≤ 6) ∨ (7 ≤ t.val % 17 ∧ t.val % 17 ≤ 8) ∨ (9 ≤ t.val % 17 ∧ t.val % 17 ≤ 10) ∨ (11 ≤ t.val % 17 ∧ t.val % 17 ≤ 12) ∨ (13 ≤ t.val % 17 ∧ t.val % 17 ≤ 14) ∨ 15 ≤ t.val % 17 := by
    have : t.val % 17 < 17 := Nat.mod_lt _ (by decide)
    omega
  have p := fun {lk : Nat} (h : Fits lk) (hlk : lk ≠ 1) (hle : lk ≤ 2176) (hk : 128 * (t.val % 17) + 128 ≤ lk) (j : Fin 4) (o : Nat)
    (ho : o = 128 * j.val) {x : S128x128.Idx} => piece H h hlk hle t hk j o ho hr (L := L) (x := x)
  rcases cases with h | h | h | h | h | h | h | h
  on_goal 1 => rw [outsAt2_A V c t (by omega) (by omega) (by omega) (by omega) (by omega) (by omega) (by omega) (by omega)]
  on_goal 1 => replace p := @p 384 fits384 (by decide) (by decide) (by omega)
  on_goal 2 => rw [outsAt2_B V c t (by omega) (by omega) (by omega) (by omega) (by omega) (by omega) (by omega) (by omega)]
  on_goal 2 => replace p := @p 640 fits640 (by decide) (by decide) (by omega)
  on_goal 3 => rw [outsAt2_C V c t (by omega) (by omega) (by omega) (by omega) (by omega) (by omega) (by omega) (by omega)]
  on_goal 3 => replace p := @p 896 fits896 (by decide) (by decide) (by omega)
  on_goal 4 => rw [outsAt2_D V c t (by omega) (by omega) (by omega) (by omega) (by omega) (by omega) (by omega) (by omega)]
  on_goal 4 => replace p := @p 1152 fits1152 (by decide) (by decide) (by omega)
  on_goal 5 => rw [outsAt2_E V c t (by omega) (by omega) (by omega) (by omega) (by omega) (by omega) (by omega) (by omega)]
  on_goal 5 => replace p := @p 1408 fits1408 (by decide) (by decide) (by omega)
  on_goal 6 => rw [outsAt2_F V c t (by omega) (by omega) (by omega) (by omega) (by omega) (by omega) (by omega) (by omega)]
  on_goal 6 => replace p := @p 1664 fits1664 (by decide) (by decide) (by omega)
  on_goal 7 => rw [outsAt2_G V c t (by omega) (by omega) (by omega) (by omega) (by omega) (by omega) (by omega) (by omega)]
  on_goal 7 => replace p := @p 1920 fits1920 (by decide) (by decide) (by omega)
  on_goal 8 => rw [outsAt2_H V c t (by omega) (by omega) (by omega) (by omega) (by omega) (by omega) (by omega) (by omega)]
  on_goal 8 => replace p := @p 2176 fits2176 (by decide) (by decide) (by omega)
  all_goals
    frame_out
    canon_tiles x h
    all_goals
      try rw [(hs2_0 t).read_unread (iblk2 V c 0 t)]
      try rw [(hs2_1 t).read_unread (iblk2 V c 1 t)]
      try rw [(hs2_2 t).read_unread (iblk2 V c 2 t)]
      try rw [(hs2_3 t).read_unread (iblk2 V c 3 t)]
      try rw [(hs2_4 t).read_unread (iblk2 V c 4 t)]
      try rw [(hs2_5 t).read_unread (iblk2 V c 5 t)]
      try rw [e]
      try rw [e4]
    case' piece0 => refine Eq.trans ?_ (p 3 384 rfl h0 h1)
    case' piece1 => refine Eq.trans ?_ (p 2 256 rfl h0 h1)
    case' piece2 => refine Eq.trans ?_ (p 1 128 rfl h0 h1)
    case' piece3 => refine Eq.trans ?_ (p 0 0 rfl h0 (h1.trans (Nat.zero_add _).symm))
    all_goals
      generalize iblk2 V c 3 t = aq
      try rw [e4']
      try generalize View.ld (iblk2 V c 4 t) _ = ak
      generalize iblk2 V c 4 t = ak'
      generalize View.ld (iblk2 V c 0 t) _ = q
      generalize View.ld (iblk2 V c 1 t) _ = k
      generalize View.ld (iblk2 V c 2 t) _ = v
      generalize View.ld (iblk2 V c 5 t) _ = g
      refine congrFun ?_ _
      rfl

/-- What the result array holds after the call. -/
theorem array (R : Fin 17408) (L : Fin 512) (hR : 112 ≤ R.val % 2176) :
    (dat2 V c).arrAt 6 cfg2.N (ix2 R L) = (outAt Q K U G f R L : EReal) := by
  have key : ∀ i : S17408x512.Idx, 112 ≤ (i 0).val % 2176 → (dat2 V c).arrAt 6 cfg2.N i = (outAt Q K U G f (i 0) (i 1) : EReal) := by
    refine fun i => (dat2 V c).arrAt_forall_of_covers 6 (fun i v => 112 ≤ (i 0).val % 2176 → v = (outAt Q K U G f (i 0) (i 1) : EReal))
      (by decide +kernel) (fun t hf y => ?_) i
    blk_simp
    rw [after2_6]
    intro h
    rw [(idx t).2.2.2.2.2.2.1.1] at h
    have e0 : (win2_6.blk t).view.emb y 0 = qRow t (y 0) := by
      apply Fin.ext; blk_simp [idx t]; show _ = 128 * t.val + (y 0).val; omega
    have e1 : (win2_6.blk t).view.emb y 1 = y 1 := by
      apply Fin.ext; blk_simp [idx t]
    rw [e0, e1]
    refine Eq.trans (congrArg _ ?_) (good H t (y 0) (y 1) ?_)
    · funext a; fin_cases a <;> rfl
    · have := (y 0).isLt
      change (y 0).val < 128 at this
      omega
  exact key (ix2 R L) hR

end Arrays

end Cert.KernelIdeal.Fox
-- ==== Proof.KernelValue.lean ====
/-
  The kernel's results over real inputs: its host lines' operands, the three calls one after the other, and the arrays
  they leave.
-/
module

public import proofs.«01_k».proof.Proof.ProjValue
public import proofs.«01_k».proof.Proof.FcumValue
public import proofs.«01_k».proof.Proof.FoxCases
public import proofs.«01_k».proof.Proof.Gen.KernelIdeal.Frame.Fold0
public import Idealize.ShloMosaic.Lib.StableHlo.ReadAt

@[expose] public section

set_option maxRecDepth 16384

noncomputable section

namespace Cert.KernelIdeal.Value

open Idealize.ShloMosaic Idealize.ShloMosaic.TcCoe Idealize.ShloMosaic.StableHlo
open Cert.KernelIdeal Cert.KernelIdeal.Gen Cert.KernelIdeal.Fox Cert.KernelIdeal.Proj Cert.KernelIdeal.Fcum

/-- The arguments hold the real numbers `X` (prompts), `M` (meta tokens), `W` (weights) and `B` (gate bias). -/
structure Inputs (m : (ℓ : Loc nD τ sig) → Buf (Elt Ideal) ℓ) (c : Dev nD) (X : Fin 8 → Fin 2048 → Fin 1024 → ℝ)
    (M : Fin 16 → Fin 1024 → ℝ) (W : Fin 1024 → Fin 3080 → ℝ) (B : Fin 8 → ℝ) : Prop where
  prompt : ∀ n s k, m ((c : Thread nD τ).loc main_arg0) (ix3 n s k) = (X n s k : EReal)
  tokens : ∀ s k, m ((c : Thread nD τ).loc main_arg1) (ix2 s k) = (M s k : EReal)
  weights : ∀ k j, m ((c : Thread nD τ).loc main_arg2) (ix3 0 k j) = (W k j : EReal)
  bias : ∀ a, m ((c : Thread nD τ).loc main_arg3) (ix2 0 a) = (B a : EReal)

variable {m : (ℓ : Loc nD τ sig) → Buf (Elt Ideal) ℓ} {ρ : Dev nD → PrngReg} {c : Dev nD} {X : Fin 8 → Fin 2048 → Fin 1024 → ℝ}
  {M : Fin 16 → Fin 1024 → ℝ} {W : Fin 1024 → Fin 3080 → ℝ} {B : Fin 8 → ℝ} (H : Inputs m c X M W B)

/-- Row `t` of sequence `n`: 112 zero rows, the meta tokens, the prompt. -/
def seqRow (X : Fin 8 → Fin 2048 → Fin 1024 → ℝ) (M : Fin 16 → Fin 1024 → ℝ) (n : Fin 8) (t : Fin 2176) (k : Fin 1024) : ℝ :=
  if t.val < 112 then 0 else if h : t.val < 128 then M ⟨t.val - 112, by omega⟩ k else X n ⟨t.val - 128, by omega⟩ k

/-- The rows of all sequences under one another. -/
def rowsOf (X : Fin 8 → Fin 2048 → Fin 1024 → ℝ) (M : Fin 16 → Fin 1024 → ℝ) (R : Fin 17408) (k : Fin 1024) : ℝ :=
  seqRow X M ⟨R.val / 2176, by omega⟩ ⟨R.val % 2176, by omega⟩ k

theorem sitofp_zero : FloatOps.sitofp (F := Ideal) FTy.f32 (0#32) = ((0 : ℝ) : EReal) := by
  show (((0#32 : BitVec 32).toInt : ℝ) : EReal) = _
  simp

include H in
theorem in_rows (R : Fin 17408) (k : Fin 1024) : V4 m ρ c main_v3 (ix2 R k) = (rowsOf X M R k : EReal) := by
  show W4 m ρ c (Proc.devRef .tc main_v3) (ix2 R k) = _
  rw [W4_of m ρ c main_v3 (by decide), W3_of m ρ c main_v3 (by decide), W2_of m ρ c main_v3 (by decide)]
  unfold W1
  after_reads_at
  rw [rowsOf, seqRow]
  have hR : R.val % 2176 < 2176 := Nat.mod_lt _ (by decide)
  by_cases h1 : R.val % 2176 < 112
  · rw [dif_pos h1, if_pos h1]
    after_reads_at
    rfl
  by_cases h2 : R.val % 2176 < 128
  · rw [dif_neg h1, dif_pos (by omega), if_neg h1, dif_pos h2, ← H.tokens]
    after_reads_at
  · rw [dif_neg h1, dif_neg (by omega), if_neg h1, dif_neg h2, ← H.prompt]
    after_reads_at
    have e : R.val % 2176 - 112 - 16 = R.val % 2176 - 128 := by omega
    simp only [e]

include H in
theorem in_weights (k : Fin 1024) (j : Fin 3072) : V4 m ρ c main_v6 (ix2 k j) = (W k ⟨j.val, by omega⟩ : EReal) := by
  show W4 m ρ c (Proc.devRef .tc main_v6) (ix2 k j) = _
  rw [W4_of m ρ c main_v6 (by decide), W3_of m ρ c main_v6 (by decide), W2_of m ρ c main_v6 (by decide)]
  unfold W1
  after_reads_at
  exact H.weights k _

include H in
theorem in_gateWeights (k : Fin 1024) (l : Fin 128) : V4 m ρ c main_v9 (ix2 k l) = ((if h : l.val < 8 then W k ⟨3072 + l.val, by omega⟩ else 0 : ℝ) : EReal) := by
  show W4 m ρ c (Proc.devRef .tc main_v9) (ix2 k l) = _
  rw [W4_of m ρ c main_v9 (by decide)]
  unfold W3 W2 W1
  after_reads_at
  split
  · exact H.weights k _
  · exact sitofp_zero

include H in
theorem in_bias (l : Fin 128) : V4 m ρ c main_v12 (ix2 0 l) = ((if h : l.val < 8 then B ⟨l.val, h⟩ else 0 : ℝ) : EReal) := by
  show W4 m ρ c (Proc.devRef .tc main_v12) (ix2 0 l) = _
  unfold W4 W3 W2 W1
  after_reads_at
  split
  · exact H.bias _
  · exact sitofp_zero

/-- The first six column blocks of the weights. -/
def mainW (W : Fin 1024 → Fin 3080 → ℝ) (k : Fin 1024) (j : Fin 3072) : ℝ := W k ⟨j.val, by omega⟩
/-- The gates' weights, zero beyond the heads. -/
def gateW (W : Fin 1024 → Fin 3080 → ℝ) (k : Fin 1024) (l : Fin 128) : ℝ := if h : l.val < 8 then W k ⟨3072 + l.val, by omega⟩ else 0
/-- The gates' bias, zero beyond the heads. -/
def gateB (B : Fin 8 → ℝ) (l : Fin 128) : ℝ := if h : l.val < 8 then B ⟨l.val, h⟩ else 0

include H in
theorem operands : Operands (V4 m ρ) c (rowsOf X M) (mainW W) (gateW W) (gateB B) :=
  ⟨in_rows H, in_weights H, in_gateWeights H, in_bias H⟩

/-- A column block of the projections. -/
def col (X : Fin 8 → Fin 2048 → Fin 1024 → ℝ) (M : Fin 16 → Fin 1024 → ℝ) (W : Fin 1024 → Fin 3080 → ℝ) (o : ℕ) (ho : o ≤ 2560) : Fin 17408 → Fin 512 → ℝ :=
  column (rowsOf X M) (mainW W) o ho
/-- The forget gates' logarithms. -/
def gates (X : Fin 8 → Fin 2048 → Fin 1024 → ℝ) (M : Fin 16 → Fin 1024 → ℝ) (W : Fin 1024 → Fin 3080 → ℝ) (B : Fin 8 → ℝ) : Fin 17408 → Fin 128 → ℝ :=
  gateOf (rowsOf X M) (gateW W) (gateB B)

theorem gates_zero (R : Fin 17408) (l : Fin 128) (hl : 8 ≤ l.val) : gates X M W B R l = 0 := by
  rw [gates, gateOf, if_neg (by omega)]

include H in
theorem at_u (R : Fin 17408) (L : Fin 512) : V5 m ρ c main_v13_0 (ix2 R L) = (col X M W 0 (by decide) R L : EReal) := by
  show W5 m ρ c (Proc.devRef .tc (Pipeline.arrRef spec0 4)) _ = _
  rw [W5_arr]; exact u_array (operands H) R L
include H in
theorem at_q (R : Fin 17408) (L : Fin 512) : V5 m ρ c main_v13_2 (ix2 R L) = (col X M W 1024 (by decide) R L : EReal) := by
  show W5 m ρ c (Proc.devRef .tc (Pipeline.arrRef spec0 6)) _ = _
  rw [W5_arr]; exact q_array (operands H) R L
include H in
theorem at_k (R : Fin 17408) (L : Fin 512) : V5 m ρ c main_v13_3 (ix2 R L) = (col X M W 1536 (by decide) R L : EReal) := by
  show W5 m ρ c (Proc.devRef .tc (Pipeline.arrRef spec0 7)) _ = _
  rw [W5_arr]; exact k_array (operands H) R L
include H in
theorem at_v (R : Fin 17408) (L : Fin 512) : V5 m ρ c main_v13_4 (ix2 R L) = (col X M W 2048 (by decide) R L : EReal) := by
  show W5 m ρ c (Proc.devRef .tc (Pipeline.arrRef spec0 8)) _ = _
  rw [W5_arr]; exact v_array (operands H) R L
include H in
theorem at_gb (R : Fin 17408) (L : Fin 512) : V5 m ρ c main_v13_5 (ix2 R L) = (col X M W 2560 (by decide) R L : EReal) := by
  show W5 m ρ c (Proc.devRef .tc (Pipeline.arrRef spec0 9)) _ = _
  rw [W5_arr]; exact gb_array (operands H) R L
include H in
theorem at_lf (R : Fin 17408) (l : Fin 128) : V5 m ρ c main_v13_6 (ix2 R l) = (gates X M W B R l : EReal) := by
  show W5 m ρ c (Proc.devRef .tc (Pipeline.arrRef spec0 10)) _ = _
  rw [W5_arr]; exact lf_array (operands H) R l

include H in
/-- What the attention's call finds in its operands. -/
theorem holds : Holds (V6 m ρ) c (col X M W 1024 (by decide)) (col X M W 1536 (by decide)) (col X M W 2048 (by decide)) (col X M W 2560 (by decide))
    (decay (gates X M W B)) where
  q R x := (congrFun (W6_of m ρ c main_v13_2 (by decide)) _).trans (at_q H R x)
  k R x := (congrFun (W6_of m ρ c main_v13_3 (by decide)) _).trans (at_k H R x)
  v R x := (congrFun (W6_of m ρ c main_v13_4 (by decide)) _).trans (at_v H R x)
  g R x := (congrFun (W6_of m ρ c main_v13_5 (by decide)) _).trans (at_gb H R x)
  aq R x hx := (congrFun (W6_arr m ρ c 1) _).trans (aq_of (at_lf H) gates_zero R x hx)
  ak R x hx := (congrFun (W6_arr m ρ c 2) _).trans (ak_of (at_lf H) gates_zero R x hx)

/-- Row `t` of sequence `n` among the rows under one another. -/
def rowIn (n : Fin 8) (t : ℕ) (ht : t < 2176) : Fin 17408 := ⟨n.val * 2176 + t, by omega⟩

/-- The attention's gated output at row `t` of sequence `n`. -/
def attended (X : Fin 8 → Fin 2048 → Fin 1024 → ℝ) (M : Fin 16 → Fin 1024 → ℝ) (W : Fin 1024 → Fin 3080 → ℝ) (B : Fin 8 → ℝ) (R : Fin 17408) (L : Fin 512) : ℝ :=
  outAt (col X M W 1024 (by decide)) (col X M W 1536 (by decide)) (col X M W 2048 (by decide)) (col X M W 2560 (by decide)) (decay (gates X M W B)) R L

include H in
theorem out_attended (n : Fin 8) (t : Fin 2064) (L : Fin 512) :
    W8 m ρ c (Proc.devRef .tc main_v17) (ix3 n t L) = (attended X M W B (rowIn n (112 + t.val) (by omega)) L : EReal) := by
  unfold W8
  after_reads_at
  exact (congrFun (W7_arr m ρ c 6) _).trans (array (holds H) (rowIn n (112 + t.val) (by omega)) L (by show 112 ≤ (n.val * 2176 + (112 + t.val)) % 2176; omega))

include H in
theorem out_pool (n : Fin 8) (p : Fin 15) (L : Fin 512) :
    W8 m ρ c (Proc.devRef .tc main_v20) (ix4 0 n p L) = (col X M W 0 (by decide) (rowIn n (2161 + p.val) (by omega)) L : EReal) := by
  unfold W8
  after_reads_at
  exact (congrFun ((W7_of m ρ c main_v13_0 (by decide)).trans (W6_of m ρ c main_v13_0 (by decide))) _).trans (at_u H _ _)

include H in
theorem out_key (n : Fin 8) (t : Fin 2064) (h : Fin 8) (d : Fin 64) :
    W8 m ρ c (Proc.devRef .tc main_v23) (ix5 0 n t h d) = (col X M W 1536 (by decide) (rowIn n (112 + t.val) (by omega)) ⟨h.val * 64 + d.val, by omega⟩ : EReal) := by
  unfold W8
  after_reads_at
  exact (congrFun ((W7_of m ρ c main_v13_3 (by decide)).trans (W6_of m ρ c main_v13_3 (by decide))) _).trans (at_k H _ _)

include H in
theorem out_value (n : Fin 8) (t : Fin 2064) (h : Fin 8) (d : Fin 64) :
    W8 m ρ c (Proc.devRef .tc main_v26) (ix5 0 n t h d) = (col X M W 2048 (by decide) (rowIn n (112 + t.val) (by omega)) ⟨h.val * 64 + d.val, by omega⟩ : EReal) := by
  unfold W8
  after_reads_at
  exact (congrFun ((W7_of m ρ c main_v13_4 (by decide)).trans (W6_of m ρ c main_v13_4 (by decide))) _).trans (at_v H _ _)

include H in
theorem out_gates (n : Fin 8) (t : Fin 2064) (h : Fin 8) :
    W8 m ρ c (Proc.devRef .tc main_v29) (ix4 0 n t h) = (gates X M W B (rowIn n (112 + t.val) (by omega)) ⟨h.val, by omega⟩ : EReal) := by
  unfold W8
  after_reads_at
  exact (congrFun ((W7_of m ρ c main_v13_6 (by decide)).trans (W6_of m ρ c main_v13_6 (by decide))) _).trans (at_lf H _ _)

end Cert.KernelIdeal.Value
-- ==== Proof.RunningSum.lean ====
/-
  A running sum along the middle axis, read from a sum over a window that ends at the entry itself.
-/
module

public import proofs.«01_k».proof.Proof.Softmax
public import Idealize.ShloMosaic.Lib.Pointwise
public import Idealize.ShloMosaic.Lib.Pointwise.IndexVar

@[expose] public section

noncomputable section

namespace Cert.Num

open Idealize.ShloMosaic

theorem foldl_add_eq_sum {n : ℕ} (g : Fin n → EReal) (v : EReal) :
    (List.finRange n).foldl (fun r i => r + g i) v = v + ∑ i, g i := by
  have h : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [h, ← List.ofFn_eq_map, List.sum_ofFn]

/-- A window one wide in the first and last axes holds the entries of the middle one. -/
def windowEquiv (T : ℕ) : (⟨3, ![1, T, 1]⟩ : Shape).Idx ≃ Fin T where
  toFun i := i 1
  invFun w := ix3 0 w 0
  left_inv i := by
    funext a
    fin_cases a
    · exact Fin.ext (by have := (i 0).isLt; simp at this ⊢; omega)
    · rfl
    · exact Fin.ext (by have := (i 2).isLt; simp at this ⊢; omega)
  right_inv _ := rfl

/-- Of the window's entries those that are not padding, summed. -/
theorem sum_window (T t : ℕ) (ht : t < T) (f : ℕ → ℝ) :
    (∑ w : Fin T, if T - 1 ≤ t + w.val then (f (t + w.val - (T - 1)) : EReal) else 0)
      = ((∑ u ∈ Finset.range (t + 1), f u : ℝ) : EReal) := by
  rw [Fin.sum_univ_eq_sum_range (fun w => if T - 1 ≤ t + w then (f (t + w - (T - 1)) : EReal) else 0) T]
  obtain ⟨a, rfl⟩ : ∃ a, T = a + (t + 1) := ⟨T - (t + 1), by omega⟩
  rw [Finset.sum_range_add, Finset.sum_eq_zero, zero_add]
  · rw [← Cert.Num.coe_sum]
    refine Finset.sum_congr rfl fun u _ => ?_
    rw [if_pos (by omega)]
    congr 2
    omega
  · intro w hw
    rw [Finset.mem_range] at hw
    exact if_neg (by omega)

/-- The window that ends at an entry sums what is up to it. -/
theorem running_sum {N T H : ℕ} (x : (⟨3, ![N, T, H]⟩ : Shape).Idx → EReal) (P : ℕ) (hP : P = T - 1)
    (h : (⟨3, ![N, T, H]⟩ : Shape).ReduceWindows ![1, T, 1] ![1, 1, 1] ![0, P, 0] ![0, 0, 0] ⟨3, ![N, T, H]⟩)
    (n : Fin N) (t : Fin T) (k : Fin H) (f : ℕ → ℝ) (hf : ∀ u : Fin T, x (ix3 n u k) = (f u.val : EReal)) :
    Ideal.hostReduceWindowAdd ![1, T, 1] ![1, 1, 1] ![0, P, 0] ![0, 0, 0] h x 0 (ix3 n t k)
      = ((∑ u ∈ Finset.range (t.val + 1), f u : ℝ) : EReal) := by
  subst hP
  rw [Ideal.hostReduceWindowAdd, Host.reduceWindow]
  refine (foldl_add_eq_sum _ _).trans ?_
  rw [zero_add, ← sum_window T t.val t.isLt f]
  refine Fintype.sum_equiv ((⟨3, ![1, T, 1]⟩ : Shape).rowMajor.symm.trans (windowEquiv T)) _ _ fun i => ?_
  set j := (⟨3, ![1, T, 1]⟩ : Shape).rowMajor.symm i with hj
  have j0 : (j 0).val = 0 := by have := (j 0).isLt; simp at this; omega
  have j2 : (j 2).val = 0 := by have := (j 2).isLt; simp at this; omega
  have hw : (((⟨3, ![1, T, 1]⟩ : Shape).rowMajor.symm.trans (windowEquiv T)) i).val = (j 1).val := rfl
  have b1 : (j 1).val < T := (j 1).isLt
  rw [hw]
  by_cases c : T - 1 ≤ t.val + (j 1).val
  · rw [if_pos c]
    have u : t.val + (j 1).val - (T - 1) < T := by omega
    refine (dif_pos (fun a => ?_)).trans ?_
    · fin_cases a
      · exact ⟨Nat.zero_le _, by show n.val * 1 + (j 0).val - 0 < N; omega⟩
      · exact ⟨by show T - 1 ≤ t.val * 1 + (j 1).val; omega, by show t.val * 1 + (j 1).val - (T - 1) < T; omega⟩
      · exact ⟨Nat.zero_le _, by show k.val * 1 + (j 2).val - 0 < H; omega⟩
    · rw [← hf ⟨_, u⟩]
      congr 1
      funext a
      fin_cases a
      · exact Fin.ext (by show n.val * 1 + (j 0).val - 0 = n.val; omega)
      · exact Fin.ext (by show t.val * 1 + (j 1).val - (T - 1) = _; simp)
      · exact Fin.ext (by show k.val * 1 + (j 2).val - 0 = k.val; omega)
  · rw [if_neg c]
    refine dif_neg fun hc => c ?_
    have := (hc 1).1
    change T - 1 ≤ t.val * 1 + (j 1).val at this
    omega

/-- A window that holds an entry and the one before. -/
def pairEquiv : (⟨2, ![2, 1]⟩ : Shape).Idx ≃ Fin 2 where
  toFun i := i 0
  invFun w := ix2 w 0
  left_inv i := by
    funext a
    fin_cases a
    · rfl
    · exact Fin.ext (by have := (i 1).isLt; simp at this ⊢; omega)
  right_inv _ := rfl

/-- The second of two running sums is the sum of both entries. -/
theorem window_two {H : ℕ} (x : (⟨2, ![2, H]⟩ : Shape).Idx → EReal)
    (h : (⟨2, ![2, H]⟩ : Shape).ReduceWindows ![2, 1] ![1, 1] ![1, 0] ![0, 0] ⟨2, ![2, H]⟩) (k : Fin H) :
    Ideal.hostReduceWindowAdd ![2, 1] ![1, 1] ![1, 0] ![0, 0] h x 0 (ix2 1 k) = x (ix2 0 k) + x (ix2 1 k) := by
  rw [Ideal.hostReduceWindowAdd, Host.reduceWindow]
  refine (foldl_add_eq_sum _ _).trans ?_
  rw [zero_add, ← Fin.sum_univ_two fun w => x (ix2 w k)]
  refine Fintype.sum_equiv ((⟨2, ![2, 1]⟩ : Shape).rowMajor.symm.trans pairEquiv) _ _ fun i => ?_
  set j := (⟨2, ![2, 1]⟩ : Shape).rowMajor.symm i with hj
  have j1 : (j 1).val = 0 := by have := (j 1).isLt; simp at this; omega
  have b0 : (j 0).val < 2 := (j 0).isLt
  have hw : ((⟨2, ![2, 1]⟩ : Shape).rowMajor.symm.trans pairEquiv) i = j 0 := rfl
  rw [hw]
  refine (dif_pos (fun a => ?_)).trans ?_
  · fin_cases a
    · exact ⟨by show 1 ≤ 1 * 1 + (j 0).val; omega, by show 1 * 1 + (j 0).val - 1 < 2; omega⟩
    · exact ⟨Nat.zero_le _, by show k.val * 1 + (j 1).val - 0 < H; omega⟩
  · congr 1
    funext a
    fin_cases a
    · exact Fin.ext (by show 1 * 1 + (j 0).val - 1 = (j 0).val; omega)
    · exact Fin.ext (by show k.val * 1 + (j 1).val - 0 = k.val; omega)

end Cert.Num
-- ==== Proof.RefValue.lean ====
/-
  The reference over real inputs: the projections, the forget gates and their running sums, the masked scores, the
  softmax's weighted mean, the gate on it.
-/
module

public import proofs.«01_k».proof.Proof.KernelValue
public import proofs.«01_k».proof.Proof.RunningSum
public import proofs.«01_k».proof.Proof.Gen.ReferenceIdeal.Run
public import Idealize.ShloMosaic.Lib.Pointwise
public import Idealize.ShloMosaic.Lib.Pointwise.IndexVar

@[expose] public section

set_option maxRecDepth 16384

noncomputable section

namespace Cert.ReferenceIdeal.Stages

open Idealize.ShloMosaic Idealize.ShloMosaic.TcCoe Idealize.ShloMosaic.StableHlo Idealize.ShloMosaic.WordCmp
open Cert.ReferenceIdeal Cert.ReferenceIdeal.Gen
open Cert.KernelIdeal.Value (seqRow)
open Cert.KernelIdeal.Proj (logSig)

variable (a0 : FVec Ideal S8x2048x1024 .f32) (a1 : FVec Ideal S16x1024 .f32) (a2 : FVec Ideal S1x1024x3080 .f32) (a3 : FVec Ideal S1x8 .f32)

/-- The sequences with their meta tokens and padding in front. -/
def rows : FVec Ideal S8x2176x1024 .f32 :=
  concatenate S8x2176x1024 1 [⟨S8x112x1024, broadcastInDim S8x112x1024 ![] bcast_S_S8x112x1024 (constant S_ .f32 0x00000000#32)⟩,
    ⟨S8x16x1024, broadcastInDim S8x16x1024 ![1, 2] bcast_S16x1024_S8x16x1024_1_2 a1⟩, ⟨S8x2048x1024, a0⟩]
    concatenates_S8x112x1024_S8x16x1024_S8x2048x1024_S8x2176x1024_d1

/-- All columns of the projections. -/
def proj : FVec Ideal S8x2176x3080 .f32 :=
  Host.dotGeneral dot_S8x2176x1024_S1024x3080_S8x2176x3080_2_0_01_1_n_n none (rows a0 a1) (shapeCast _ a2 shapeCasts_S1x1024x3080_S1024x3080)

def queries (z : FVec Ideal S8x2176x3080 .f32) : FVec Ideal S8x2176x8x64 .f32 :=
  shapeCast _ (extractStridedSlice S8x2176x512 ![0, 0, 1024] z slices_S8x2176x3080_S8x2176x512_0_0_1024) shapeCasts_S8x2176x512_S8x2176x8x64
def keys (z : FVec Ideal S8x2176x3080 .f32) : FVec Ideal S8x2176x8x64 .f32 :=
  shapeCast _ (extractStridedSlice S8x2176x512 ![0, 0, 1536] z slices_S8x2176x3080_S8x2176x512_0_0_1536) shapeCasts_S8x2176x512_S8x2176x8x64
def values (z : FVec Ideal S8x2176x3080 .f32) : FVec Ideal S8x2176x8x64 .f32 :=
  shapeCast _ (extractStridedSlice S8x2176x512 ![0, 0, 2048] z slices_S8x2176x3080_S8x2176x512_0_0_2048) shapeCasts_S8x2176x512_S8x2176x8x64

def zero8 : FVec Ideal S8x2176x8 .f32 := broadcastInDim S8x2176x8 ![] bcast_S_S8x2176x8 (constant S_ .f32 0x00000000#32)

/-- The forget gates before the logistic function. -/
def preGate (z : FVec Ideal S8x2176x3080 .f32) : FVec Ideal S8x2176x8 .f32 :=
  addf (extractStridedSlice S8x2176x8 ![0, 0, 3072] z slices_S8x2176x3080_S8x2176x8_0_0_3072)
    (broadcastInDim S8x2176x8 ![0, 1, 2] bcast_S1x1x8_S8x2176x8_0_1_2 (broadcastInDim S1x1x8 ![2] bcast_S8_S1x1x8_2 (shapeCast _ a3 shapeCasts_S1x8_S8)))

/-- The logarithm of the logistic function. -/
def logSigV (x : FVec Ideal S8x2176x8 .f32) : FVec Ideal S8x2176x8 .f32 :=
  Host.negf (select (cmpf .une (subf (Host.negf x) zero8) (subf (Host.negf x) zero8)) (addf (Host.negf x) zero8)
    (addf (maximumf (Host.negf x) zero8) (Host.log1p (Host.exp (Host.negf (Host.absf (subf (Host.negf x) zero8)))))))

def notPad : IVec S2176 1 := cmpi .sge (iotaInDim S2176 32 0) (broadcastInDim S2176 ![] bcast_S_S2176 (constantI S_ 32 112#32))

/-- The gates' logarithms, zero on the padding. -/
def gatesV (x : FVec Ideal S8x2176x8 .f32) : FVec Ideal S8x2176x8 .f32 :=
  select (broadcastInDim S8x2176x8 ![0, 1, 2] bcast_S1x2176x1_S8x2176x8_0_1_2 (broadcastInDim S1x2176x1 ![1] bcast_S2176_S1x2176x1_1 notPad)) (logSigV x)
    (broadcastInDim S8x2176x8 ![] bcast_S_S8x2176x8 (id (constant S_ .f32 0x00000000#32)))

/-- Their running sums. -/
def sumsV (l : FVec Ideal S8x2176x8 .f32) : FVec Ideal S8x2176x8 .f32 :=
  Host.reduceWindowAdd ![1, 2176, 1] ![1, 1, 1] ![0, 2175, 0] ![0, 0, 0] l (broadcastInDim S_ ![] bcast_S_S_ (constant S_ .f32 0x00000000#32))
    reduceWindows_S8x2176x8_S8x2176x8_w1s1p0_0_w2176s1p2175_0_w1s1p0_0 h_S_

def allowed : IVec S2176x2176 1 :=
  andi (cmpi .sle (broadcastInDim S2176x2176 ![0, 1] bcast_S1x2176_S2176x2176_0_1 (broadcastInDim S1x2176 ![1] bcast_S2176_S1x2176_1 (iotaInDim S2176 32 0)))
      (broadcastInDim S2176x2176 ![0, 1] bcast_S2176x1_S2176x2176_0_1 (broadcastInDim S2176x1 ![0] bcast_S2176_S2176x1_0 (iotaInDim S2176 32 0))))
    (broadcastInDim S2176x2176 ![0, 1] bcast_S1x2176_S2176x2176_0_1 (broadcastInDim S1x2176 ![1] bcast_S2176_S1x2176_1 notPad))

def asColumn (x : FVec Ideal S8x8x2176 .f32) : FVec Ideal S8x8x2176x2176 .f32 :=
  broadcastInDim S8x8x2176x2176 ![0, 1, 2, 3] bcast_S8x8x2176x1_S8x8x2176x2176_0_1_2_3 (broadcastInDim S8x8x2176x1 ![0, 1, 2] bcast_S8x8x2176_S8x8x2176x1_0_1_2 x)

/-- The masked scores. -/
def scores (q k : FVec Ideal S8x2176x8x64 .f32) (s : FVec Ideal S8x2176x8 .f32) : FVec Ideal S8x8x2176x2176 .f32 :=
  select (broadcastInDim S8x8x2176x2176 ![2, 3] bcast_S2176x2176_S8x8x2176x2176_2_3 allowed)
    (subf (addf (mulf (Host.dotGeneral dot_S8x2176x8x64_S8x2176x8x64_S8x8x2176x2176_3_3_1_1_02_02 none q k)
        (broadcastInDim S8x8x2176x2176 ![] bcast_S_S8x8x2176x2176 (constant S_ .f32 0x3E000000#32)))
      (asColumn (transpose S8x8x2176 [0, 2, 1] s transposes_S8x2176x8_S8x8x2176_0_2_1)))
      (broadcastInDim S8x8x2176x2176 ![0, 1, 2, 3] bcast_S8x8x1x2176_S8x8x2176x2176_0_1_2_3
        (broadcastInDim S8x8x1x2176 ![0, 1, 3] bcast_S8x8x2176_S8x8x1x2176_0_1_3 (transpose S8x8x2176 [0, 2, 1] s transposes_S8x2176x8_S8x8x2176_0_2_1))))
    (broadcastInDim S8x8x2176x2176 ![] bcast_S_S8x8x2176x2176 (id (constant S_ .f32 0xFF800000#32)))

/-- Each row's largest score. -/
def rowMax (s : FVec Ideal S8x8x2176x2176 .f32) : FVec Ideal S8x8x2176 .f32 :=
  Host.reduce FloatOps.maximumf s (constant S_ .f32 0xFF800000#32) reducesTo_S8x8x2176x2176_S8x8x2176_d3 h_S_

/-- The exponentials of the scores less their row's `r`. -/
def powersOf (s : FVec Ideal S8x8x2176x2176 .f32) (r : FVec Ideal S8x8x2176 .f32) : FVec Ideal S8x8x2176x2176 .f32 :=
  Host.exp (subf s (asColumn (maximumf (broadcastInDim S8x8x2176 ![] bcast_S_S8x8x2176 (constant S_ .f32 0xFF800000#32)) r)))

/-- The exponentials of the scores over their row's largest. -/
def powers (s : FVec Ideal S8x8x2176x2176 .f32) : FVec Ideal S8x8x2176x2176 .f32 := powersOf s (rowMax s)

/-- The softmax's weights. -/
def weights (e : FVec Ideal S8x8x2176x2176 .f32) : FVec Ideal S8x8x2176x2176 .f32 :=
  Host.divf e (asColumn (Host.reduceAdd e (constant S_ .f32 0x00000000#32) reducesTo_S8x8x2176x2176_S8x8x2176_d3 h_S_))

/-- The weighted means, heads beside one another. -/
def mixed (v : FVec Ideal S8x2176x8x64 .f32) (p : FVec Ideal S8x8x2176x2176 .f32) : FVec Ideal S8x2176x512 .f32 :=
  shapeCast _ (transpose S8x2176x8x64 [0, 3, 1, 2] (Host.dotGeneral dot_S8x2176x8x64_S8x8x2176x2176_S8x8x64x2176_1_3_3_2_02_01 none v p)
    transposes_S8x8x64x2176_S8x2176x8x64_0_3_1_2) shapeCasts_S8x2176x8x64_S8x2176x512

def gateCols (z : FVec Ideal S8x2176x3080 .f32) : FVec Ideal S8x2176x512 .f32 := extractStridedSlice S8x2176x512 ![0, 0, 2560] z slices_S8x2176x3080_S8x2176x512_0_0_2560
def one512 : FVec Ideal S8x2176x512 .f32 := broadcastInDim S8x2176x512 ![] bcast_S_S8x2176x512 (constant S_ .f32 0x3F800000#32)

/-- The gated result. -/
def gated (o g : FVec Ideal S8x2176x512 .f32) : FVec Ideal S8x2064x512 .bf16 :=
  extractStridedSlice S8x2064x512 ![0, 112, 0] (truncf .bf16 (mulf o (mulf g (Host.divf one512 (addf one512 (Host.exp (Host.negf g)))))) bitsLt_bf16_f32)
    slices_S8x2176x512_S8x2064x512_0_112_0

/-- The last fifteen rows of the first columns. -/
def poolRows (z : FVec Ideal S8x2176x3080 .f32) : FVec Ideal S1x8x15x512 .f32 :=
  broadcastInDim S1x8x15x512 ![1, 2, 3] bcast_S8x15x512_S1x8x15x512_1_2_3 (extractStridedSlice S8x15x512 ![0, 2161, 0]
    (extractStridedSlice S8x2176x512 ![0, 0, 0] z slices_S8x2176x3080_S8x2176x512_0_0_0) slices_S8x2176x512_S8x15x512_0_2161_0)

/-- Keys or values without the padding. -/
def kept (x : FVec Ideal S8x2176x8x64 .f32) : FVec Ideal S1x8x2064x8x64 .f32 :=
  broadcastInDim S1x8x2064x8x64 ![1, 2, 3, 4] bcast_S8x2064x8x64_S1x8x2064x8x64_1_2_3_4
    (extractStridedSlice S8x2064x8x64 ![0, 112, 0, 0] x slices_S8x2176x8x64_S8x2064x8x64_0_112_0_0)

/-- The gates' logarithms without the padding. -/
def keptGates (x : FVec Ideal S8x2176x8 .f32) : FVec Ideal S1x8x2064x8 .f32 :=
  broadcastInDim S1x8x2064x8 ![1, 2, 3] bcast_S8x2064x8_S1x8x2064x8_1_2_3
    (extractStridedSlice S8x2064x8 ![0, 112, 0] x slices_S8x2176x8_S8x2064x8_0_112_0)

theorem gates_eq (m : (ℓ : Loc nD τ sig) → Buf (Elt Ideal) ℓ) (c : Dev nD) :
    Cert.ReferenceIdeal.Value.res_main_v71 m c =
      keptGates (gatesV (preGate (m ((c.tc : Thread nD τ).loc main_arg3))
        (proj (m ((c.tc : Thread nD τ).loc main_arg0)) (m ((c.tc : Thread nD τ).loc main_arg1)) (m ((c.tc : Thread nD τ).loc main_arg2))))) := by
  unfold Cert.ReferenceIdeal.Value.res_main_v71
  rfl

theorem res_eq (m : (ℓ : Loc nD τ sig) → Buf (Elt Ideal) ℓ) (c : Dev nD) :
    Cert.ReferenceIdeal.Value.res_main_v63 m c =
      (let z := proj (m ((c.tc : Thread nD τ).loc main_arg0)) (m ((c.tc : Thread nD τ).loc main_arg1)) (m ((c.tc : Thread nD τ).loc main_arg2))
       gated (mixed (values z) (weights (powers (scores (queries z) (keys z) (sumsV (gatesV (preGate (m ((c.tc : Thread nD τ).loc main_arg3)) z))))))) (gateCols z)) := by
  unfold Cert.ReferenceIdeal.Value.res_main_v63
  rfl

/-- The arguments hold real numbers. -/
structure Args (X : Fin 8 → Fin 2048 → Fin 1024 → ℝ) (M : Fin 16 → Fin 1024 → ℝ) (W : Fin 1024 → Fin 3080 → ℝ) (B : Fin 8 → ℝ) : Prop where
  prompt : ∀ n s k, a0 (ix3 n s k) = (X n s k : EReal)
  tokens : ∀ s k, a1 (ix2 s k) = (M s k : EReal)
  weights : ∀ k j, a2 (ix3 0 k j) = (W k j : EReal)
  bias : ∀ a, a3 (ix2 0 a) = (B a : EReal)

section
variable {a0 a1 a2 a3}
variable {X : Fin 8 → Fin 2048 → Fin 1024 → ℝ} {M : Fin 16 → Fin 1024 → ℝ} {W : Fin 1024 → Fin 3080 → ℝ} {B : Fin 8 → ℝ}
  (H : Args a0 a1 a2 a3 X M W B)

include H in
theorem rows_apply (n : Fin 8) (t : Fin 2176) (k : Fin 1024) : rows a0 a1 (ix3 n t k) = (seqRow X M n t k : EReal) := by
  rw [seqRow]
  by_cases h1 : t.val < 112
  · rw [if_pos h1]
    pointwise [rows]
    rw [dif_pos h1]; rfl
  by_cases h2 : t.val < 128
  · rw [if_neg h1, dif_pos h2, ← H.tokens]
    pointwise [rows]
    rw [dif_neg h1, dif_pos (by omega)]
  · rw [if_neg h1, dif_neg h2, ← H.prompt]
    pointwise [rows]
    rw [dif_neg h1, dif_neg (by omega)]
    have e : t.val - 112 - 16 = t.val - 128 := by omega
    simp only [e]

/-- Column `j` of the projection of row `t` of sequence `n`. -/
def entry (X : Fin 8 → Fin 2048 → Fin 1024 → ℝ) (M : Fin 16 → Fin 1024 → ℝ) (W : Fin 1024 → Fin 3080 → ℝ) (n : Fin 8) (t : Fin 2176) (j : Fin 3080) : ℝ :=
  ∑ k : Fin 1024, seqRow X M n t k * W k j

include H in
theorem proj_apply (n : Fin 8) (t : Fin 2176) (j : Fin 3080) : proj a0 a1 a2 (ix3 n t j) = (entry X M W n t j : EReal) := by
  pointwise [proj]
  exact Cert.Num.sum_eq_coe _ _ _ fun k _ => by rw [rows_apply H, H.weights, EReal.coe_mul]
end

theorem preGate_apply (z : FVec Ideal S8x2176x3080 .f32) (n : Fin 8) (t : Fin 2176) (h : Fin 8) :
    preGate a3 z (ix3 n t h) = z (ix3 n t ⟨3072 + h.val, by omega⟩) + a3 (ix2 0 h) := by
  pointwise [preGate]

theorem logSigV_apply (x : FVec Ideal S8x2176x8 .f32) (n : Fin 8) (t : Fin 2176) (h : Fin 8) (z : ℝ) (hz : x (ix3 n t h) = (z : EReal)) :
    logSigV x (ix3 n t h) = (logSig z : EReal) := by
  pointwise [logSigV, zero8]
  rw [hz, ← EReal.coe_neg, if_neg (by simp)]
  have ha : FloatOps.absf (F := Ideal) (φ := .f32) ((-z : ℝ) : EReal) = ((|z| : ℝ) : EReal) := by
    show max ((-z : ℝ) : EReal) (-((-z : ℝ) : EReal)) = _
    rw [← EReal.coe_neg, ← EReal.coe_strictMono.monotone.map_max, neg_neg, max_comm]; rfl
  rw [ha, ← EReal.coe_neg, Cert.Num.log1p_exp_coe, ← EReal.coe_zero, ← EReal.coe_strictMono.monotone.map_max, ← EReal.coe_add, ← EReal.coe_neg, logSig]
  congr 1
  rw [neg_add, ← min_neg_neg, neg_neg, neg_zero]; ring

theorem gatesV_apply (x : FVec Ideal S8x2176x8 .f32) (n : Fin 8) (t : Fin 2176) (h : Fin 8) :
    gatesV x (ix3 n t h) = if 112 ≤ t.val then logSigV x (ix3 n t h) else 0 := by
  pointwise [gatesV, notPad]
  have ht : t.val < 2 ^ (32 - 1) := by omega
  rw [cmpi_sge_ofNat ht (by decide : 112 < 2 ^ (32 - 1)), Scalar.select]
  have e : id (constant (F := Ideal) S_ FTy.f32 0#32) ix0 = (0 : EReal) := by
    simp [constant]
  rw [e]
  by_cases h : 112 ≤ t.val
  · rw [if_pos h]; exact if_pos ((ofBool_decide_eq_one_iff _).2 h)
  · rw [if_neg h]; exact if_neg fun h' => h ((ofBool_decide_eq_one_iff _).1 h')

/-- A running sum is the sum of the entries up to its own. -/
theorem sumsV_apply (l : FVec Ideal S8x2176x8 .f32) (n : Fin 8) (t : Fin 2176) (h : Fin 8) (f : ℕ → ℝ)
    (hf : ∀ u : Fin 2176, l (ix3 n u h) = (f u.val : EReal)) :
    sumsV l (ix3 n t h) = ((∑ u ∈ Finset.range (t.val + 1), f u : ℝ) : EReal) := by
  have e : broadcastInDim S_ ![] bcast_S_S_ (constant (F := Ideal) S_ .f32 0x00000000#32) (Shape.Idx.first h_S_) = (0 : EReal) := by
    simp [broadcastInDim, constant]
  rw [sumsV, Host.reduceWindowAdd, Ideal.hostReduceWindowAdd_def, e]
  exact Cert.Num.running_sum l 2175 rfl _ n t h f hf

theorem neg_inf : Ideal.ofBits FTy.f32 4286578688#32 = ⊥ := by simp [Ideal.ofBits, Ideal.ieee]

theorem scores_apply (q k : FVec Ideal S8x2176x8x64 .f32) (s : FVec Ideal S8x2176x8 .f32) (n h : Fin 8) (t u : Fin 2176) :
    scores q k s (ix4 n h t u) = if 112 ≤ u.val ∧ u.val ≤ t.val then
      (∑ d : Fin 64, q (ix4 n t h d) * k (ix4 n u h d)) * ((1 / 8 : ℝ) : EReal) + s (ix3 n t h) - s (ix3 n u h) else ⊥ := by
  pointwise [scores, asColumn, allowed, notPad]
  have ht : t.val < 2 ^ (32 - 1) := by omega
  have hu : u.val < 2 ^ (32 - 1) := by omega
  have e8 : Ideal.ofBits FTy.f32 1040187392#32 = ((1 / 8 : ℝ) : EReal) := by
    simp [Ideal.ofBits, Ideal.ieee, -EReal.coe_mul]; norm_num
  have e : id (constant (F := Ideal) S_ FTy.f32 4286578688#32) ix0 = (⊥ : EReal) := neg_inf
  rw [e8, e, cmpi_sle_ofNat hu ht, cmpi_sge_ofNat hu (by decide : 112 < 2 ^ (32 - 1)), andi_ofBool, ← Bool.decide_and, Scalar.select]
  by_cases h : 112 ≤ u.val ∧ u.val ≤ t.val
  · rw [if_pos h]; exact if_pos ((ofBool_decide_eq_one_iff _).2 h.symm)
  · rw [if_neg h]; exact if_neg fun h' => h ((ofBool_decide_eq_one_iff _).1 h').symm

theorem rowMax_apply (s : FVec Ideal S8x8x2176x2176 .f32) (n h : Fin 8) (t : Fin 2176) :
    rowMax s (ix3 n h t) = Finset.univ.fold max ⊥ fun x => s (ix4 n h t x) := by
  rw [rowMax, Host.reduce_eq_fold]
  refine (Shape.ReducesTo.fold_fiber_r4_a3 _ _ _ _ _).trans ?_
  show Finset.univ.fold max (Ideal.ofBits FTy.f32 4286578688#32) _ = _
  rw [neg_inf]
  rfl

theorem powersOf_apply (s : FVec Ideal S8x8x2176x2176 .f32) (r : FVec Ideal S8x8x2176 .f32) (n h : Fin 8) (t u : Fin 2176) :
    powersOf s r (ix4 n h t u) = Ideal.exp (s (ix4 n h t u) - r (ix3 n h t)) := by
  pointwise [powersOf, asColumn]
  rw [neg_inf, max_eq_right bot_le]

theorem powers_apply (s : FVec Ideal S8x8x2176x2176 .f32) (n h : Fin 8) (t u : Fin 2176) :
    powers s (ix4 n h t u) = Ideal.exp (s (ix4 n h t u) - Finset.univ.fold max ⊥ fun x => s (ix4 n h t x)) := by
  rw [powers, powersOf_apply, rowMax_apply]

theorem weights_apply (e : FVec Ideal S8x8x2176x2176 .f32) (n h : Fin 8) (t u : Fin 2176) :
    weights e (ix4 n h t u) = Ideal.div (e (ix4 n h t u)) (∑ x : Fin 2176, e (ix4 n h t x)) := by
  pointwise [weights, asColumn]

theorem mixed_apply (v : FVec Ideal S8x2176x8x64 .f32) (p : FVec Ideal S8x8x2176x2176 .f32) (n : Fin 8) (t : Fin 2176) (L : Fin 512) :
    mixed v p (ix3 n t L) = ∑ u : Fin 2176, p (ix4 n ⟨L.val / 64, by omega⟩ t u) * v (ix4 n u ⟨L.val / 64, by omega⟩ ⟨L.val % 64, by omega⟩) := by
  pointwise [mixed]
  exact Finset.sum_congr rfl fun u _ => mul_comm _ _

theorem gated_apply (o g : FVec Ideal S8x2176x512 .f32) (n : Fin 8) (t : Fin 2064) (L : Fin 512) :
    gated o g (ix3 n t L) = o (ix3 n ⟨112 + t.val, by omega⟩ L) * (g (ix3 n ⟨112 + t.val, by omega⟩ L)
      * Ideal.div 1 (1 + Ideal.exp (0 - g (ix3 n ⟨112 + t.val, by omega⟩ L)))) := by
  pointwise [gated, one512]
  rw [zero_sub]

theorem queries_apply (z : FVec Ideal S8x2176x3080 .f32) (n : Fin 8) (t : Fin 2176) (h : Fin 8) (d : Fin 64) :
    queries z (ix4 n t h d) = z (ix3 n t ⟨1024 + (h.val * 64 + d.val), by omega⟩) := by
  pointwise [queries]

theorem keys_apply (z : FVec Ideal S8x2176x3080 .f32) (n : Fin 8) (t : Fin 2176) (h : Fin 8) (d : Fin 64) :
    keys z (ix4 n t h d) = z (ix3 n t ⟨1536 + (h.val * 64 + d.val), by omega⟩) := by
  pointwise [keys]

theorem values_apply (z : FVec Ideal S8x2176x3080 .f32) (n : Fin 8) (t : Fin 2176) (h : Fin 8) (d : Fin 64) :
    values z (ix4 n t h d) = z (ix3 n t ⟨2048 + (h.val * 64 + d.val), by omega⟩) := by
  pointwise [values]

theorem gateCols_apply (z : FVec Ideal S8x2176x3080 .f32) (n : Fin 8) (t : Fin 2176) (L : Fin 512) :
    gateCols z (ix3 n t L) = z (ix3 n t ⟨2560 + L.val, by omega⟩) := by
  pointwise [gateCols]

theorem poolRows_apply (z : FVec Ideal S8x2176x3080 .f32) (n : Fin 8) (p : Fin 15) (L : Fin 512) :
    poolRows z (ix4 0 n p L) = z (ix3 n ⟨2161 + p.val, by omega⟩ ⟨L.val, by omega⟩) := by
  pointwise [poolRows]

theorem kept_apply (x : FVec Ideal S8x2176x8x64 .f32) (n : Fin 8) (t : Fin 2064) (h : Fin 8) (d : Fin 64) :
    kept x (ix5 0 n t h d) = x (ix4 n ⟨112 + t.val, by omega⟩ h d) := by
  pointwise [kept]

theorem keptGates_apply (x : FVec Ideal S8x2176x8 .f32) (n : Fin 8) (t : Fin 2064) (h : Fin 8) :
    keptGates x (ix4 0 n t h) = x (ix3 n ⟨112 + t.val, by omega⟩ h) := by
  pointwise [keptGates]

end Cert.ReferenceIdeal.Stages
-- ==== Proof.RefResults.lean ====
/-
  The reference's results, as the real numbers the kernel's results are.
-/
module

public import proofs.«01_k».proof.Proof.RefValue

@[expose] public section

set_option maxRecDepth 16384

noncomputable section

namespace Cert.ReferenceIdeal.Stages

open Idealize.ShloMosaic Idealize.ShloMosaic.TcCoe
open Cert.ReferenceIdeal Cert.ReferenceIdeal.Gen
open Cert.KernelIdeal.Value (seqRow rowsOf col gates gateW gateB rowIn attended)
open Cert.KernelIdeal.Proj (logSig)
open Cert.KernelIdeal.Fcum (upTo seqOf decay)
open Cert.KernelIdeal.Fox (rowOf headOf laneOf scoreAt outAt)

variable {X : Fin 8 → Fin 2048 → Fin 1024 → ℝ} {M : Fin 16 → Fin 1024 → ℝ} {W : Fin 1024 → Fin 3080 → ℝ} {B : Fin 8 → ℝ}

theorem rowsOf_rowIn (n : Fin 8) (t : Fin 2176) (k : Fin 1024) : rowsOf X M (rowIn n t.val t.isLt) k = seqRow X M n t k := by
  have e1 : (⟨(rowIn n t.val t.isLt).val / 2176, by omega⟩ : Fin 8) = n := Fin.ext (by show (n.val * 2176 + t.val) / 2176 = n.val; omega)
  have e2 : (⟨(rowIn n t.val t.isLt).val % 2176, by omega⟩ : Fin 2176) = t := Fin.ext (by show (n.val * 2176 + t.val) % 2176 = t.val; omega)
  rw [rowsOf, e1, e2]

theorem col_rowIn (o : ℕ) (ho : o ≤ 2560) (n : Fin 8) (t : Fin 2176) (L : Fin 512) :
    col X M W o ho (rowIn n t.val t.isLt) L = entry X M W n t ⟨o + L.val, by omega⟩ := by
  rw [col, Cert.KernelIdeal.Proj.column, entry]
  exact Finset.sum_congr rfl fun k _ => by rw [rowsOf_rowIn]; rfl

theorem gates_rowIn (n : Fin 8) (t : Fin 2176) (h : Fin 8) :
    gates X M W B (rowIn n t.val t.isLt) ⟨h.val, by omega⟩
      = if 112 ≤ t.val then logSig (entry X M W n t ⟨3072 + h.val, by omega⟩ + B h) else 0 := by
  have e2 : (rowIn n t.val t.isLt).val % 2176 = t.val := by show (n.val * 2176 + t.val) % 2176 = t.val; omega
  have ew : ∀ k, gateW W k ⟨h.val, by omega⟩ = W k ⟨3072 + h.val, by omega⟩ := fun k => dif_pos h.isLt
  have eb : gateB B ⟨h.val, by omega⟩ = B h := dif_pos h.isLt
  rw [gates, Cert.KernelIdeal.Proj.gateOf, e2, entry, eb]
  simp only [ew, rowsOf_rowIn]
  by_cases c : 112 ≤ t.val
  · rw [if_pos c, if_pos ⟨c, h.isLt⟩]
  · rw [if_neg c, if_neg fun c' => c c'.1]

variable {z : FVec Ideal S8x2176x3080 .f32} {a3 : FVec Ideal S1x8 .f32}
  (hz : ∀ n t j, z (ix3 n t j) = (entry X M W n t j : EReal)) (hb : ∀ a, a3 (ix2 0 a) = (B a : EReal))

include hz hb in
theorem gates_value (n : Fin 8) (t : Fin 2176) (h : Fin 8) :
    gatesV (preGate a3 z) (ix3 n t h) = (gates X M W B (rowIn n t.val t.isLt) ⟨h.val, by omega⟩ : EReal) := by
  rw [gatesV_apply, gates_rowIn]
  by_cases c : 112 ≤ t.val
  · rw [if_pos c, if_pos c]
    exact logSigV_apply _ _ _ _ _ (by rw [preGate_apply, hz, hb, EReal.coe_add])
  · rw [if_neg c, if_neg c, EReal.coe_zero]

include hz hb in
theorem sums_value (n : Fin 8) (t : Fin 2176) (h : Fin 8) :
    sumsV (gatesV (preGate a3 z)) (ix3 n t h) = (decay (gates X M W B) (rowIn n t.val t.isLt) h : EReal) := by
  rw [sumsV_apply _ n t h (fun u => seqOf (gates X M W B) n.val u ⟨h.val, by omega⟩) fun u => ?_]
  · have e1 : (rowIn n t.val t.isLt).val / 2176 = n.val := by show (n.val * 2176 + t.val) / 2176 = n.val; omega
    have e2 : (rowIn n t.val t.isLt).val % 2176 = t.val := by show (n.val * 2176 + t.val) % 2176 = t.val; omega
    rw [decay, upTo, e1, e2]
  · rw [gates_value hz hb, seqOf, dif_pos (by omega : 2176 * n.val + u.val < 17408)]
    congr 2
    exact Fin.ext (by show n.val * 2176 + u.val = 2176 * n.val + u.val; omega)

theorem rowOf_rowIn (n : Fin 8) (t u : Fin 2176) : rowOf (rowIn n t.val t.isLt) u = rowIn n u.val u.isLt :=
  Fin.ext (by show (n.val * 2176 + t.val) / 2176 * 2176 + u.val = n.val * 2176 + u.val; omega)

include hz hb in
theorem scores_value (n h : Fin 8) (t u : Fin 2176) :
    scores (queries z) (keys z) (sumsV (gatesV (preGate a3 z))) (ix4 n h t u) =
      if 112 ≤ u.val ∧ u.val ≤ t.val then
        (scoreAt (col X M W 1024 (by decide)) (col X M W 1536 (by decide)) (decay (gates X M W B)) h (rowIn n t.val t.isLt) u : EReal) else ⊥ := by
  rw [scores_apply, sums_value hz hb, sums_value hz hb, scoreAt, rowOf_rowIn]
  refine if_congr Iff.rfl ?_ rfl
  rw [EReal.coe_sub, EReal.coe_add, EReal.coe_mul]
  congr 3
  refine Cert.Num.sum_eq_coe _ _ _ fun d _ => ?_
  have e : ∀ o, o + (h.val * 64 + d.val) = o + (laneOf h d).val := fun o => by show _ = o + (64 * h.val + d.val); omega
  rw [queries_apply, keys_apply, hz, hz, col_rowIn, col_rowIn, EReal.coe_mul]
  simp only [e]

include hz hb in
theorem attended_value (n : Fin 8) (t : Fin 2064) (L : Fin 512) :
    gated (mixed (values z) (weights (powers (scores (queries z) (keys z) (sumsV (gatesV (preGate a3 z))))))) (gateCols z) (ix3 n t L)
      = (attended X M W B (rowIn n (112 + t.val) (by omega)) L : EReal) := by
  have e2 : (rowIn n (112 + t.val) (by omega)).val % 2176 = 112 + t.val := by show (n.val * 2176 + (112 + t.val)) % 2176 = _; omega
  have hg : gateCols z (ix3 n ⟨112 + t.val, by omega⟩ L) = (col X M W 2560 (by decide) (rowIn n (112 + t.val) (by omega)) L : EReal) := by
    rw [gateCols_apply, hz, ← col_rowIn 2560 (by decide)]
  rw [gated_apply, hg, Cert.Num.silu_coe, attended, outAt, EReal.coe_mul]
  congr 1
  rw [mixed_apply]
  simp only [weights_apply, powers_apply]
  rw [e2]
  refine Cert.Num.softmax_before _ _ _ (fun u => scores_value hz hb n (headOf L) ⟨112 + t.val, by omega⟩ u) (i₀ := ⟨112, by omega⟩) ⟨le_rfl, by show 112 ≤ 112 + t.val; omega⟩ _ _ fun u => ?_
  have e : (2048 + (L.val / 64 * 64 + L.val % 64)) = 2048 + L.val := by omega
  rw [values_apply, hz, rowOf_rowIn n ⟨112 + t.val, by omega⟩ u, col_rowIn]
  simp only [e]

end Cert.ReferenceIdeal.Stages
-- ==== Proof.Run.lean ====
/-
  The launched program's run: every weakly fair execution ends with each array at the contents that the three calls and
  the host lines between them leave.
-/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every array outside the scopes ends at the last boundary's contents. -/
theorem run : θ_run defs (onTc (τ := τ) (main (F := F))) ⟨m, fun _ => 0, ρ⟩ (fun r => ∀ c : Dev nD, ∀ b ∈ Pipeline.ucRefs τ sig,
    r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c b hb => h c b hb)

end Cert.KernelIdeal.Run
-- ==== Proof.Equation.lean ====
/-
  The two programs' results are the same arrays, over finite arguments.
-/
module

public import proofs.«01_k».proof.Proof.RefResults
public import proofs.«01_k».proof.Proof.Run
public import proofs.«01_k».proof.Defs
public import proofs.«01_k».proof.Proof.Gen.Pre_finite

@[expose] public section

set_option maxRecDepth 16384

noncomputable section

namespace Cert.Equation

open Idealize.ShloMosaic Idealize.ShloMosaic.TcCoe
open Cert.KernelIdeal.Value (Inputs)

/-- An extended real whose absolute value is below infinity is a real number. -/
theorem real_of_abs_lt (a : EReal) (h : max a (-a) < ⊤) : a = (a.toReal : EReal) := by
  refine (EReal.coe_toReal (fun e => ?_) fun e => ?_).symm
  · rw [e] at h; simp at h
  · rw [e] at h; simp at h

theorem inf_bits : Ideal.ofBits FTy.f32 0x7F800000#32 = ⊤ := by simp [Ideal.ofBits, Ideal.ieee]

/-- What the precondition says of one entry. -/
theorem real_of_lt (a : EReal) (h : FloatOps.cmpf (F := Ideal) (φ := .f32) .olt (FloatOps.absf (F := Ideal) (φ := .f32) a) (Ideal.ofBits FTy.f32 0x7F800000#32) = 1#1) :
    a = (a.toReal : EReal) := by
  rw [inf_bits] at h
  refine real_of_abs_lt a ?_
  by_contra hc
  have : FloatOps.cmpf (F := Ideal) (φ := .f32) .olt (FloatOps.absf (F := Ideal) (φ := .f32) a) (⊤ : EReal) = BitVec.ofBool (decide (max a (-a) < (⊤ : EReal))) := rfl
  rw [this, decide_eq_false hc] at h
  exact absurd h (by decide)

section Kernel
open Cert.KernelIdeal Cert.KernelIdeal.Gen

/-- The arguments as real numbers. -/
theorem inputs (m : (ℓ : Loc nD τ sig) → Buf (Elt Ideal) ℓ) (h : Cert.Pre_KernelIdeal_finite (hPre_finite := Cert.Pre_finite.Gen.facts) m) (c : Dev nD) :
    Inputs m c (fun n s k => (m ((c : Thread nD τ).loc main_arg0) (ix3 n s k) : EReal).toReal)
      (fun s k => (m ((c : Thread nD τ).loc main_arg1) (ix2 s k) : EReal).toReal)
      (fun k j => (m ((c : Thread nD τ).loc main_arg2) (ix3 0 k j) : EReal).toReal)
      (fun a => (m ((c : Thread nD τ).loc main_arg3) (ix2 0 a) : EReal).toReal) where
  prompt n s k := real_of_lt _ (congrFun (h c).1 (ix3 n s k))
  tokens s k := real_of_lt _ (congrFun (h c).2.1 (ix2 s k))
  weights k j := real_of_lt _ (congrFun (h c).2.2.1 (ix3 0 k j))
  bias a := real_of_lt _ (congrFun (h c).2.2.2 (ix2 0 a))

end Kernel

section Equal
open Cert.KernelIdeal.Gen (W8)
open Cert.ReferenceIdeal.Stages

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
  {X : Fin 8 → Fin 2048 → Fin 1024 → ℝ} {M : Fin 16 → Fin 1024 → ℝ} {W : Fin 1024 → Fin 3080 → ℝ} {B : Fin 8 → ℝ} (H : Inputs m c X M W B)
  {a0 : FVec Ideal Cert.ReferenceIdeal.S8x2048x1024 .f32} {a1 : FVec Ideal Cert.ReferenceIdeal.S16x1024 .f32}
  {a2 : FVec Ideal Cert.ReferenceIdeal.S1x1024x3080 .f32} {a3 : FVec Ideal Cert.ReferenceIdeal.S1x8 .f32} (A : Args a0 a1 a2 a3 X M W B)

include H A

theorem attended_eq : gated (mixed (values (proj a0 a1 a2)) (weights (powers (scores (queries (proj a0 a1 a2)) (keys (proj a0 a1 a2))
    (sumsV (gatesV (preGate a3 (proj a0 a1 a2)))))))) (gateCols (proj a0 a1 a2)) = W8 m ρ c (Proc.devRef .tc Cert.KernelIdeal.main_v17) := by
  funext i
  rw [eq_ix3 i]
  exact (attended_value (proj_apply A) A.bias _ _ _).trans (Cert.KernelIdeal.Value.out_attended H _ _ _).symm

theorem pool_eq : poolRows (proj a0 a1 a2) = W8 m ρ c (Proc.devRef .tc Cert.KernelIdeal.main_v20) := by
  have key : ∀ (n : Fin 8) (p : Fin 15) (L : Fin 512), poolRows (proj a0 a1 a2) (ix4 0 n p L) = W8 m ρ c (Proc.devRef .tc Cert.KernelIdeal.main_v20) (ix4 0 n p L) := fun n p L => by
    rw [poolRows_apply, proj_apply A, Cert.KernelIdeal.Value.out_pool H, col_rowIn 0 (by decide) n ⟨2161 + p.val, by omega⟩]
    simp only [Nat.zero_add]
  funext i
  have e : i 0 = (0 : Fin 1) := Subsingleton.elim (α := Fin 1) _ _
  rw [eq_ix4 i, e]
  exact key (i 1) (i 2) (i 3)

theorem key_eq : kept (keys (proj a0 a1 a2)) = W8 m ρ c (Proc.devRef .tc Cert.KernelIdeal.main_v23) := by
  have key : ∀ (n : Fin 8) (t : Fin 2064) (h : Fin 8) (d : Fin 64), kept (keys (proj a0 a1 a2)) (ix5 0 n t h d) = W8 m ρ c (Proc.devRef .tc Cert.KernelIdeal.main_v23) (ix5 0 n t h d) := fun n t h d => by
    rw [kept_apply, keys_apply, proj_apply A, Cert.KernelIdeal.Value.out_key H, col_rowIn 1536 (by decide) n ⟨112 + t.val, by omega⟩]
  funext i
  have e : i 0 = (0 : Fin 1) := Subsingleton.elim (α := Fin 1) _ _
  rw [eq_ix5 i, e]
  exact key (i 1) (i 2) (i 3) (i 4)

theorem value_eq : kept (values (proj a0 a1 a2)) = W8 m ρ c (Proc.devRef .tc Cert.KernelIdeal.main_v26) := by
  have key : ∀ (n : Fin 8) (t : Fin 2064) (h : Fin 8) (d : Fin 64), kept (values (proj a0 a1 a2)) (ix5 0 n t h d) = W8 m ρ c (Proc.devRef .tc Cert.KernelIdeal.main_v26) (ix5 0 n t h d) := fun n t h d => by
    rw [kept_apply, values_apply, proj_apply A, Cert.KernelIdeal.Value.out_value H, col_rowIn 2048 (by decide) n ⟨112 + t.val, by omega⟩]
  funext i
  have e : i 0 = (0 : Fin 1) := Subsingleton.elim (α := Fin 1) _ _
  rw [eq_ix5 i, e]
  exact key (i 1) (i 2) (i 3) (i 4)

theorem gate_eq : keptGates (gatesV (preGate a3 (proj a0 a1 a2))) = W8 m ρ c (Proc.devRef .tc Cert.KernelIdeal.main_v29) := by
  funext i
  have e : i 0 = (0 : Fin 1) := Subsingleton.elim (α := Fin 1) _ _
  rw [eq_ix4 i, e]
  exact ((keptGates_apply _ _ _ _).trans (gates_value (proj_apply A) A.bias _ _ _)).trans (Cert.KernelIdeal.Value.out_gates H _ _ _).symm

end Equal

theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hag
  have A : ∀ c : Dev Cert.KernelIdeal.nD, Cert.ReferenceIdeal.Stages.Args _ _ _ _ _ _ _ _ := fun c =>
    ⟨fun n s k => (congrFun (hag c).1 _).trans ((inputs m hpre c).prompt n s k),
     fun s k => (congrFun (hag c).2.1 _).trans ((inputs m hpre c).tokens s k),
     fun k j => (congrFun (hag c).2.2.1 _).trans ((inputs m hpre c).weights k j),
     fun a => (congrFun (hag c).2.2.2 _).trans ((inputs m hpre c).bias a)⟩
  refine ⟨_, _, _, _, _, (θ_run _ _ _).mono (fun r h c => ⟨h c _ (Cert.KernelIdeal.Gen.mem_uc Cert.KernelIdeal.main_v17 (by decide)),
      h c _ (Cert.KernelIdeal.Gen.mem_uc Cert.KernelIdeal.main_v20 (by decide)), h c _ (Cert.KernelIdeal.Gen.mem_uc Cert.KernelIdeal.main_v23 (by decide)),
      h c _ (Cert.KernelIdeal.Gen.mem_uc Cert.KernelIdeal.main_v26 (by decide)), h c _ (Cert.KernelIdeal.Gen.mem_uc Cert.KernelIdeal.main_v29 (by decide)),
      (h c _ (Cert.KernelIdeal.Gen.mem_uc Cert.KernelIdeal.main_arg0 (by decide))).trans (Cert.KernelIdeal.Gen.W8_main_arg0 m g c),
      (h c _ (Cert.KernelIdeal.Gen.mem_uc Cert.KernelIdeal.main_arg1 (by decide))).trans (Cert.KernelIdeal.Gen.W8_main_arg1 m g c),
      (h c _ (Cert.KernelIdeal.Gen.mem_uc Cert.KernelIdeal.main_arg2 (by decide))).trans (Cert.KernelIdeal.Gen.W8_main_arg2 m g c),
      (h c _ (Cert.KernelIdeal.Gen.mem_uc Cert.KernelIdeal.main_arg3 (by decide))).trans (Cert.KernelIdeal.Gen.W8_main_arg3 m g c)⟩) (Cert.KernelIdeal.Run.run m g), ?_⟩
  refine (θ_run _ _ _).mono (fun r h c => ?_) (Cert.ReferenceIdeal.Value.run (F := Ideal) m' g')
  obtain ⟨h0, h1, h2, h3, h4, hargs⟩ := h c
  exact ⟨h0.trans ((Cert.ReferenceIdeal.Stages.res_eq m' c).trans (attended_eq (inputs m hpre c) (A c))), h1.trans (pool_eq (inputs m hpre c) (A c)),
    h2.trans (key_eq (inputs m hpre c) (A c)), h3.trans (value_eq (inputs m hpre c) (A c)),
    h4.trans ((Cert.ReferenceIdeal.Stages.gates_eq m' c).trans (gate_eq (inputs m hpre c) (A c))), hargs⟩

end Cert.Equation
-- ==== Proof.OddSpec.lean ====
/-
  The odd layer's parts as functions of rows of extended reals: the output projection with its residual, the layer
  norm, the forget gate between its lower bound and one.
-/
module

public import Idealize.ShloMosaic.PureOps.Ideal

@[expose] public section

noncomputable section

namespace Cert.Odd

open Idealize.ShloMosaic

/-- The mean of a row. -/
def mean (x : Fin 1024 → EReal) : EReal := Ideal.div (∑ k, x k) (Ideal.ofBits .f32 0x44800000#32)

/-- The layer norm of a row, with gain `g` and offset `b`. -/
def layerNorm (x g b : Fin 1024 → EReal) (j : Fin 1024) : EReal :=
  (x j - mean x) * Ideal.rsqrt (mean (fun k => (x k - mean x) * (x k - mean x)) + Ideal.ofBits .f32 0x3727C5AC#32) * g j + b j

/-- A row of the scaled residual and the projection of two branches' rows beside one another. -/
def merged (x y : Fin 512 → EReal) (W : Fin 1024 → Fin 1024 → EReal) (h : Fin 1024 → EReal) (j : Fin 1024) : EReal :=
  Ideal.ofBits .f32 0x3FB504F3#32 * h j + ((∑ k : Fin 512, x k * W ⟨k.val, by omega⟩ j) + ∑ k : Fin 512, y k * W ⟨512 + k.val, by omega⟩ j)

/-- The next layer's row at position `t` of a sequence: zero on the padding. -/
def nextRow (t : ℕ) (x y : Fin 512 → EReal) (W : Fin 1024 → Fin 1024 → EReal) (h g b : Fin 1024 → EReal) (j : Fin 1024) : EReal :=
  if 112 ≤ t then layerNorm (merged x y W h) g b j else 0

/-- The lower bound of the second layer's forget gate, from the two layers' parameters. -/
def lower (x y : EReal) : EReal :=
  Ideal.div (Ideal.exp (x - max x y)) (Ideal.exp (x - max x y) + Ideal.exp (y - max x y))
    + Ideal.div (Ideal.exp (y - max x y)) (Ideal.exp (x - max x y) + Ideal.exp (y - max x y))
    - Ideal.div (Ideal.exp (x - max x y)) (Ideal.exp (x - max x y) + Ideal.exp (y - max x y))

/-- The forget gate above its lower bound `l`. -/
def forget (l z : EReal) : EReal := l + (1 - l) * Ideal.div 1 (1 + Ideal.exp (0 - z))

/-- The entry of a row's product with the weights whose column is `j`. -/
def product (h : Fin 1024 → EReal) (W : Fin 1024 → Fin 3328 → EReal) (j : Fin 3328) : EReal := ∑ k : Fin 1024, h k * W k j

end Cert.Odd
-- ==== Proof.NormValue.lean ====
/-
  What the arrays of the two output projections hold: the layer norm of the merged rows, zero on the padding rows.
-/
module

public import proofs.«01_k».proof.Proof.OddSpec
public import proofs.«01_k».proof.Proof.Gen.Kernel2Ideal.Frame
public import Idealize.ShloMosaic.Lib.Pipeline.ValueKit
public import Idealize.ShloMosaic.Lib.Pointwise
public import Idealize.ShloMosaic.Lib.Pointwise.IndexVar
public import Idealize.ShloMosaic.Lib.WordCmp

@[expose] public section

set_option maxRecDepth 16384

noncomputable section

namespace Cert.Kernel2Ideal.Norm

open Idealize.ShloMosaic Idealize.ShloMosaic.TcCoe Idealize.ShloMosaic.WordCmp
open Cert.Kernel2Ideal Cert.Kernel2Ideal.Gen Cert.Odd

variable (n : Fin 4) (x : Vec Ideal S544x512 .bf16) (wx : Vec Ideal S512x1024 .bf16) (y : Vec Ideal S544x512 .bf16) (wy : Vec Ideal S512x1024 .bf16)
  (h : Vec Ideal S544x1024 .f32) (g b : Vec Ideal S1x1024 .f32)

/-- A block's row of the residual and the two branches' products. -/
def mergedRow (r : Fin 544) (j : Fin 1024) : EReal :=
  Ideal.ofBits .f32 0x3FB504F3#32 * h (ix2 r j) + ((∑ k : Fin 512, x (ix2 r k) * wx (ix2 k j)) + ∑ k : Fin 512, y (ix2 r k) * wy (ix2 k j))

theorem scaled_apply (r : Fin 544) (j : Fin 1024) : k0_pay2 x wx y wy h g (ix2 r j)
    = (mergedRow x wx y wy h r j - mean (mergedRow x wx y wy h r)) * Ideal.rsqrt (mean (fun k => (mergedRow x wx y wy h r k - mean (mergedRow x wx y wy h r))
        * (mergedRow x wx y wy h r k - mean (mergedRow x wx y wy h r))) + Ideal.ofBits .f32 0x3727C5AC#32) * g (ix2 0 j) := by
  pointwise [k0_pay2]
  rfl

/-- The position of row `r` of block `n` of a sequence is on the padding or not. -/
theorem notPad : ∀ (n : Fin 4) (r : Fin 544), IntOp.cmpi CmpIPredicate.sge (IntOp.addi (Scalar.muli (BitVec.ofNat 32 n.val) 544#32) (BitVec.ofNat 32 r.val)) 112#32
    = BitVec.ofBool (decide (112 ≤ 544 * n.val + r.val)) := by decide +kernel

theorem select_of {p : Prop} [Decidable p] (u v : EReal) : Scalar.select (BitVec.ofBool (decide p)) u v = if p then u else v := by
  rw [Scalar.select]
  by_cases hp : p
  · rw [if_pos hp]; exact if_pos ((ofBool_decide_eq_one_iff _).2 hp)
  · rw [if_neg hp]; exact if_neg fun h' => hp ((ofBool_decide_eq_one_iff _).1 h')

theorem block_apply (r : Fin 544) (j : Fin 1024) : k0_pay1 (BitVec.ofNat 32 n.val) (k0_pay2 x wx y wy h g) b (ix2 r j)
    = if 112 ≤ 544 * n.val + r.val then layerNorm (mergedRow x wx y wy h r) (fun k => g (ix2 0 k)) (fun k => b (ix2 0 k)) j else 0 := by
  have e : ∀ s : FVec Ideal S544x1024 .f32, k0_pay1 (BitVec.ofNat 32 n.val) s b (ix2 r j) = if 112 ≤ 544 * n.val + r.val then s (ix2 r j) + b (ix2 0 j) else 0 := fun s => by
    pointwise [k0_pay1]
    rw [notPad n r, select_of]
  rw [e, scaled_apply]
  rfl

/-- The operands of an output projection: two branches' rows, their weights, the residual's rows, gain and offset. -/
structure Holds (A B : Fin 17408 → Fin 512 → EReal) (W : Fin 1024 → Fin 1024 → EReal) (H : Fin 17408 → Fin 1024 → EReal) (G O : Fin 1024 → EReal)
    (a b : S17408x512.Idx → Ideal .bf16) (h : S17408x1024.Idx → Ideal .f32) (wa wb : S512x1024.Idx → Ideal .bf16) (g o : S1x1024.Idx → Ideal .f32) : Prop where
  first : ∀ R k, a (ix2 R k) = A R k
  second : ∀ R k, b (ix2 R k) = B R k
  rows : ∀ R k, h (ix2 R k) = H R k
  upper : ∀ k j, wa (ix2 k j) = W ⟨k.val, by omega⟩ j
  lower : ∀ k j, wb (ix2 k j) = W ⟨512 + k.val, by omega⟩ j
  gain : ∀ k, g (ix2 0 k) = G k
  offset : ∀ k, o (ix2 0 k) = O k

variable {A B : Fin 17408 → Fin 512 → EReal} {W : Fin 1024 → Fin 1024 → EReal} {H : Fin 17408 → Fin 1024 → EReal} {G O : Fin 1024 → EReal}

/-- The layer's output at row `R` of all sequences under one another. -/
def nextAt (A B : Fin 17408 → Fin 512 → EReal) (W : Fin 1024 → Fin 1024 → EReal) (H : Fin 17408 → Fin 1024 → EReal) (G O : Fin 1024 → EReal)
    (R : Fin 17408) (j : Fin 1024) : EReal := nextRow (R.val % 2176) (A R) (B R) W (H R) G O j

/-- The array's row under row `r` of block `t`. -/
def rowAt (t : ℕ) (ht : t < 32) (r : Fin 544) : Fin 17408 := ⟨544 * t + r.val, by omega⟩

variable {n x wx y wy h g b} in
/-- A block whose operands are the arrays' entries under it holds the layer's output under it. -/
theorem block_of (t : ℕ) (ht : t < 32) (r : Fin 544) (j : Fin 1024) (hn : n.val = t % 4) (hx : ∀ k, x (ix2 r k) = A (rowAt t ht r) k) (hy : ∀ k, y (ix2 r k) = B (rowAt t ht r) k)
    (hh : ∀ k, h (ix2 r k) = H (rowAt t ht r) k) (hwx : ∀ k j, wx (ix2 k j) = W ⟨k.val, by omega⟩ j) (hwy : ∀ k j, wy (ix2 k j) = W ⟨512 + k.val, by omega⟩ j)
    (hg : ∀ k, g (ix2 0 k) = G k) (hb : ∀ k, b (ix2 0 k) = O k) :
    k0_pay1 (BitVec.ofNat 32 n.val) (k0_pay2 x wx y wy h g) b (ix2 r j) = nextAt A B W H G O (rowAt t ht r) j := by
  have eR : (rowAt t ht r).val % 2176 = 544 * n.val + r.val := by rw [hn]; show (544 * t + r.val) % 2176 = _; omega
  have eM : mergedRow x wx y wy h r = merged (A (rowAt t ht r)) (B (rowAt t ht r)) W (H (rowAt t ht r)) := by
    funext j; rw [mergedRow, merged]; simp only [hx, hy, hh, hwx, hwy]
  rw [block_apply, nextAt, nextRow, eR, eM, show (fun k => g (ix2 0 k)) = G from funext hg, show (fun k => b (ix2 0 k)) = O from funext hb]

section Arrays
variable {V : (c : Dev nD) → (b : Ref sig .tc) → Buf (Elt Ideal) ((c : Thread nD τ).loc b)} {c : Dev nD}

theorem at0 (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = t.val ∧ win0_7.index t 1 = 0)
    ∧ (grid0.coords t 1).val = t.val % 4 := by
  revert t; decide +kernel

theorem at2 (t : Fin cfg2.N) : (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = 0 ∧ win2_3.index t 1 = 0) ∧ (win2_4.index t 0 = 0 ∧ win2_4.index t 1 = 0)
    ∧ (win2_5.index t 0 = 0 ∧ win2_5.index t 1 = 0) ∧ (win2_6.index t 0 = 0 ∧ win2_6.index t 1 = 0) ∧ (win2_7.index t 0 = t.val ∧ win2_7.index t 1 = 0)
    ∧ (grid2.coords t 1).val = t.val % 4 := by
  revert t; decide +kernel

section Region0
variable (Q : Holds A B W H G O (V c main_v10) (V c main_v11) (V c main_v12) (V c main_v2) (V c main_v5) (V c main_v7) (V c main_v9))

include Q in
/-- A block of the operands' rows. -/
theorem rows0 (t : Fin cfg0.N) (r : Fin 544) : (∀ k, iblk0 V c 0 t (ix2 r k) = A (rowAt t.val t.isLt r) k) ∧ (∀ k, iblk0 V c 1 t (ix2 r k) = B (rowAt t.val t.isLt r) k)
    ∧ ∀ k, iblk0 V c 2 t (ix2 r k) = H (rowAt t.val t.isLt r) k :=
  ⟨fun k => by rw [← Q.first]; blk_ext [iblk0, rowAt, at0 t], fun k => by rw [← Q.second]; blk_ext [iblk0, rowAt, at0 t],
    fun k => by rw [← Q.rows]; blk_ext [iblk0, rowAt, at0 t]⟩

include Q in
/-- The operands that every block reads whole. -/
theorem whole0 (t : Fin cfg0.N) : (∀ k j, iblk0 V c 3 t (ix2 k j) = W ⟨k.val, by omega⟩ j) ∧ (∀ k j, iblk0 V c 4 t (ix2 k j) = W ⟨512 + k.val, by omega⟩ j)
    ∧ (∀ k, iblk0 V c 5 t (ix2 0 k) = G k) ∧ ∀ k, iblk0 V c 6 t (ix2 0 k) = O k :=
  ⟨fun k j => by rw [← Q.upper]; blk_ext [iblk0, at0 t], fun k j => by rw [← Q.lower]; blk_ext [iblk0, at0 t],
    fun k => by rw [← Q.gain]; blk_ext [iblk0, at0 t], fun k => by rw [← Q.offset]; blk_ext [iblk0, at0 t]⟩

include Q in
/-- The even layer's output projection. -/
theorem even_array (R : Fin 17408) (j : Fin 1024) : (dat0 V c).arrAt 7 cfg0.N (ix2 R j) = nextAt A B W H G O R j := by
  have key := (dat0 V c).arrAt_eq_of_covers 7 (fun i => nextAt A B W H G O (i 0) (i 1)) (by decide +kernel) (fun t hf y => by
    have e0 : (win0_7.blk t).view.emb y 0 = rowAt t.val t.isLt (y 0) := by apply Fin.ext; blk_simp [at0 t]; show _ = 544 * t.val + (y 0).val; omega
    have e1 : (win0_7.blk t).view.emb y 1 = y 1 := by apply Fin.ext; blk_simp [at0 t]
    have q := rows0 Q t (y 0)
    have q' := whole0 Q t
    have e := block_of (n := ⟨t.val % 4, Nat.mod_lt _ (by decide)⟩) t.val t.isLt (y 0) (y 1) rfl q.1 q.2.1 q.2.2 q'.1 q'.2.1 q'.2.2.1 q'.2.2.2
    rw [after0_7]; frame_out
    show _ = nextAt A B W H G O ((win0_7.blk t).view.emb y 0) ((win0_7.blk t).view.emb y 1)
    rw [e0, e1, (at0 t).2.2.2.2.2.2.2.2]
    exact Eq.trans (congrArg (fun i => k0_pay1 (BitVec.ofNat 32 (t.val % 4)) (k0_pay2 (iblk0 V c 0 t) (iblk0 V c 3 t) (iblk0 V c 1 t) (iblk0 V c 4 t) (iblk0 V c 2 t) (iblk0 V c 5 t)) (iblk0 V c 6 t) i)
      (by funext a; fin_cases a <;> rfl)) e)
  rw [key]; rfl

end Region0

section Region2
variable (Q : Holds A B W H G O (V c main_v27) (V c main_v28) (V c main_v13) (V c main_v19) (V c main_v22) (V c main_v24) (V c main_v26))

include Q in
/-- A block of the operands' rows. -/
theorem rows2 (t : Fin cfg2.N) (r : Fin 544) : (∀ k, iblk2 V c 0 t (ix2 r k) = A (rowAt t.val t.isLt r) k) ∧ (∀ k, iblk2 V c 1 t (ix2 r k) = B (rowAt t.val t.isLt r) k)
    ∧ ∀ k, iblk2 V c 2 t (ix2 r k) = H (rowAt t.val t.isLt r) k :=
  ⟨fun k => by rw [← Q.first]; blk_ext [iblk2, rowAt, at2 t], fun k => by rw [← Q.second]; blk_ext [iblk2, rowAt, at2 t],
    fun k => by rw [← Q.rows]; blk_ext [iblk2, rowAt, at2 t]⟩

include Q in
/-- The operands that every block reads whole. -/
theorem whole2 (t : Fin cfg2.N) : (∀ k j, iblk2 V c 3 t (ix2 k j) = W ⟨k.val, by omega⟩ j) ∧ (∀ k j, iblk2 V c 4 t (ix2 k j) = W ⟨512 + k.val, by omega⟩ j)
    ∧ (∀ k, iblk2 V c 5 t (ix2 0 k) = G k) ∧ ∀ k, iblk2 V c 6 t (ix2 0 k) = O k :=
  ⟨fun k j => by rw [← Q.upper]; blk_ext [iblk2, at2 t], fun k j => by rw [← Q.lower]; blk_ext [iblk2, at2 t],
    fun k => by rw [← Q.gain]; blk_ext [iblk2, at2 t], fun k => by rw [← Q.offset]; blk_ext [iblk2, at2 t]⟩

include Q in
/-- The odd layer's output projection. -/
theorem odd_array (R : Fin 17408) (j : Fin 1024) : (dat2 V c).arrAt 7 cfg2.N (ix2 R j) = nextAt A B W H G O R j := by
  have key := (dat2 V c).arrAt_eq_of_covers 7 (fun i => nextAt A B W H G O (i 0) (i 1)) (by decide +kernel) (fun t hf y => by
    have e0 : (win2_7.blk t).view.emb y 0 = rowAt t.val t.isLt (y 0) := by apply Fin.ext; blk_simp [at2 t]; show _ = 544 * t.val + (y 0).val; omega
    have e1 : (win2_7.blk t).view.emb y 1 = y 1 := by apply Fin.ext; blk_simp [at2 t]
    have q := rows2 Q t (y 0)
    have q' := whole2 Q t
    have e := block_of (n := ⟨t.val % 4, Nat.mod_lt _ (by decide)⟩) t.val t.isLt (y 0) (y 1) rfl q.1 q.2.1 q.2.2 q'.1 q'.2.1 q'.2.2.1 q'.2.2.2
    rw [after2_7]; frame_out
    show _ = nextAt A B W H G O ((win2_7.blk t).view.emb y 0) ((win2_7.blk t).view.emb y 1)
    rw [e0, e1, (at2 t).2.2.2.2.2.2.2.2]
    exact Eq.trans (congrArg (fun i => k2_pay1 (BitVec.ofNat 32 (t.val % 4)) (k2_pay2 (iblk2 V c 0 t) (iblk2 V c 3 t) (iblk2 V c 1 t) (iblk2 V c 4 t) (iblk2 V c 2 t) (iblk2 V c 5 t)) (iblk2 V c 6 t) i)
      (by funext a; fin_cases a <;> rfl)) e)
  rw [key]; rfl

end Region2

end Arrays

end Cert.Kernel2Ideal.Norm
-- ==== Proof.OddValue.lean ====
/-
  What the arrays of the odd layer's input projection hold: column blocks of the product of the rows with the weights,
  and the forget gate's complement and logarithm, zero on the padding rows.
-/
module

public import proofs.«01_k».proof.Proof.NormValue

@[expose] public section

set_option maxRecDepth 16384

noncomputable section

namespace Cert.Kernel2Ideal.Odd

open Idealize.ShloMosaic Idealize.ShloMosaic.TcCoe
open Cert.Kernel2Ideal Cert.Kernel2Ideal.Gen Cert.Kernel2Ideal.Norm Cert.Odd

theorem wide_apply (x : Vec Ideal S544x1024 .f32) (w : Vec Ideal S1024x512 .bf16) (r : Fin 544) (l : Fin 512) :
    k1_pay7 x w (ix2 r l) = ∑ k : Fin 1024, x (ix2 r k) * w (ix2 k l) := by
  pointwise [k1_pay7, k1_pay4]

theorem narrow_apply (x : Vec Ideal S544x1024 .f32) (w : Vec Ideal S1024x128 .bf16) (r : Fin 544) (l : Fin 128) :
    k1_pay1 (k1_pay4 x) w (ix2 r l) = ∑ k : Fin 1024, x (ix2 r k) * w (ix2 k l) := by
  pointwise [k1_pay1, k1_pay4]

theorem lower_apply (x y : Vec Ideal S1x512 .f32) (l : Fin 512) : k1_pay5 x y (ix2 0 l) = lower (x (ix2 0 l)) (y (ix2 0 l)) := by
  pointwise [k1_pay5]
  rfl

theorem rest_apply (x y : Vec Ideal S1x512 .f32) (l : Fin 512) : k1_pay8 x y (ix2 0 l) = 1 - lower (x (ix2 0 l)) (y (ix2 0 l)) := by
  have e : ∀ s : FVec Ideal S1x512 .f32, subf (broadcast S1x512 (Scalar.ofBits (F := Ideal) .f32 0x3F800000#32)) s (ix2 0 l) = 1 - s (ix2 0 l) := fun s => by pointwise
  rw [← lower_apply]; exact e _

theorem grow_apply (x : Vec Ideal S544x1024 .f32) (w : Vec Ideal S1024x512 .bf16) (r : Fin 544) (l : Fin 512) :
    k1_pay9 x w (ix2 r l) = 1 + Ideal.exp (0 - k1_pay7 x w (ix2 r l)) := by
  rw [wide_apply]
  pointwise [k1_pay9, k1_pay4]

theorem pad_apply (i : grid1.Coords) (n : Fin 4) (hn : (i 1).val = n.val) (r : Fin 544) : k1_pay6 i (ix2 r 0) = BitVec.ofBool (decide (112 ≤ 544 * n.val + r.val)) := by
  rw [← notPad n r, ← hn]
  pointwise [k1_pay6]

variable (u v : FVec Ideal S1x512 .f32) (p : IVec S544x1 1) (e : FVec Ideal S544x512 .f32)

theorem complement_apply (r : Fin 544) (l : Fin 512) : k1_pay12 u p v e k1_pay10 (ix2 r l)
    = Scalar.select (p (ix2 r 0)) (1 - (u (ix2 0 l) + v (ix2 0 l) * Ideal.div 1 (e (ix2 r l)))) 0 := by
  pointwise [k1_pay12, k1_pay11, k1_pay10]

theorem log_apply (r : Fin 544) (l : Fin 512) : k1_pay13 u p v e k1_pay10 (ix2 r l)
    = Scalar.select (p (ix2 r 0)) (Ideal.log (u (ix2 0 l) + v (ix2 0 l) * Ideal.div 1 (e (ix2 r l)))) 0 := by
  pointwise [k1_pay13, k1_pay11, k1_pay10]

section Arrays
variable {V : (c : Dev nD) → (b : Ref sig .tc) → Buf (Elt Ideal) ((c : Thread nD τ).loc b)} {c : Dev nD}

theorem rows_cast (i : grid1.Coords) (x0 : Vec Ideal S544x1024 .f32) (x1 : Vec Ideal S1024x3328 .bf16) (x2 : Vec Ideal S2x512 .f32) :
    k1_pay17 i x0 x1 x2 = k1_pay4 x0 :=
  congrArg k1_pay4 (View.ld_unit_lit (Val := Elt Ideal) (S := S544x1024) (e := .f32) _ x0 (by decide))

theorem gate_cast (f : FVec Ideal S1x512 .f32 → IVec S544x1 1 → FVec Ideal S1x512 .f32 → FVec Ideal S544x512 .f32 → FVec Ideal S544x512 .f32 → FVec Ideal S544x512 .f32)
    (i : grid1.Coords) (x0 : Vec Ideal S544x1024 .f32) (x1 : Vec Ideal S1024x3328 .bf16) (x2 : Vec Ideal S2x512 .f32) :
    f (k1_pay18 i x0 x1 x2) (k1_pay19 i x0 x1 x2) (k1_pay20 i x0 x1 x2) (k1_pay21 i x0 x1 x2) (k1_pay22 i x0 x1 x2)
      = f (k1_pay5 (View.ld x2 r1_1) (View.ld x2 r1_2)) (k1_pay6 i) (k1_pay8 (View.ld x2 r1_1) (View.ld x2 r1_2)) (k1_pay9 x0 (View.ld x1 r1_5)) k1_pay10 :=
  congrArg (fun z => f (k1_pay5 (View.ld x2 r1_1) (View.ld x2 r1_2)) (k1_pay6 i) (k1_pay8 (View.ld x2 r1_1) (View.ld x2 r1_2)) (k1_pay9 z (View.ld x1 r1_5)) k1_pay10)
    (View.ld_unit_lit (Val := Elt Ideal) (S := S544x1024) (e := .f32) _ x0 (by decide))

/-- The operands of the odd layer's projection: rows, weights and the two layers' gate parameters. -/
structure Operands (V : (c : Dev nD) → (b : Ref sig .tc) → Buf (Elt Ideal) ((c : Thread nD τ).loc b)) (c : Dev nD)
    (H : Fin 17408 → Fin 1024 → EReal) (W : Fin 1024 → Fin 3328 → EReal) (P : Fin 2 → Fin 512 → EReal) : Prop where
  rows : ∀ R k, V c main_v13 (ix2 R k) = H R k
  weights : ∀ k j, V c main_v15 (ix2 k j) = W k j
  params : ∀ a l, V c main_arg7 (ix2 a l) = P a l

variable {H : Fin 17408 → Fin 1024 → EReal} {W : Fin 1024 → Fin 3328 → EReal} {P : Fin 2 → Fin 512 → EReal} (Q : Operands V c H W P)

theorem at1 (t : Fin cfg1.N) : (win1_0.index t 0 = t.val ∧ win1_0.index t 1 = 0) ∧ (win1_1.index t 0 = 0 ∧ win1_1.index t 1 = 0)
    ∧ (win1_2.index t 0 = 0 ∧ win1_2.index t 1 = 0) ∧ (grid1.coords t 1).val = t.val % 4 := by
  revert t; decide +kernel

theorem out1 (t : Fin cfg1.N) : (win1_3.index t 0 = t.val ∧ win1_3.index t 1 = 0) ∧ (win1_4.index t 0 = t.val ∧ win1_4.index t 1 = 0)
    ∧ (win1_5.index t 0 = t.val ∧ win1_5.index t 1 = 0) ∧ (win1_6.index t 0 = t.val ∧ win1_6.index t 1 = 0)
    ∧ (win1_7.index t 0 = t.val ∧ win1_7.index t 1 = 0) ∧ (win1_8.index t 0 = t.val ∧ win1_8.index t 1 = 0)
    ∧ (win1_9.index t 0 = t.val ∧ win1_9.index t 1 = 0) ∧ (win1_10.index t 0 = t.val ∧ win1_10.index t 1 = 0)
    ∧ (win1_11.index t 0 = t.val ∧ win1_11.index t 1 = 0) := by
  revert t; decide +kernel

include Q in
theorem blk_rows (t : Fin cfg1.N) (r : Fin 544) (k : Fin 1024) : iblk1 V c 0 t (ix2 r k) = H (rowAt t.val t.isLt r) k := by
  rw [← Q.rows]; blk_ext [iblk1, rowAt, at1 t]

include Q in
theorem blk_weights (t : Fin cfg1.N) (k : Fin 1024) (j : Fin 3328) : iblk1 V c 1 t (ix2 k j) = W k j := by
  rw [← Q.weights]; blk_ext [iblk1, at1 t]

include Q in
theorem blk_params (t : Fin cfg1.N) (a : Fin 2) (l : Fin 512) : iblk1 V c 2 t (ix2 a l) = P a l := by
  rw [← Q.params]; blk_ext [iblk1, at1 t]

/-- The entry of the column block that starts at `o`. -/
def column (H : Fin 17408 → Fin 1024 → EReal) (W : Fin 1024 → Fin 3328 → EReal) (w o : ℕ) (ho : o + w ≤ 3328) (R : Fin 17408) (l : Fin w) : EReal :=
  product (H R) W ⟨o + l.val, by omega⟩

/-- The forget gate at row `R`. -/
def gateAt (H : Fin 17408 → Fin 1024 → EReal) (W : Fin 1024 → Fin 3328 → EReal) (P : Fin 2 → Fin 512 → EReal) (R : Fin 17408) (l : Fin 512) : EReal :=
  forget (lower (P 0 l) (P 1 l)) (column H W 512 512 (by decide) R l)

include Q in
/-- One block of a column block, 512 wide. -/
theorem wide_block (t : Fin cfg1.N) (o : ℕ) (ho : o + 512 ≤ 3328) (w : Vec Ideal S1024x512 .bf16)
    (hw : ∀ k l, w (ix2 k l) = iblk1 V c 1 t (ix2 k ⟨o + l.val, by omega⟩)) (r : Fin 544) (l : Fin 512) :
    k1_pay7 (iblk1 V c 0 t) w (ix2 r l) = column H W 512 o ho (rowAt t.val t.isLt r) l := by
  rw [wide_apply, column, product]
  exact Finset.sum_congr rfl fun k _ => by rw [hw, blk_rows Q, blk_weights Q]

include Q in
/-- The same at the array's index under `y`. -/
theorem wide_at (t : Fin cfg1.N) (o : ℕ) (ho : o + 512 ≤ 3328) (w : Vec Ideal S1024x512 .bf16)
    (hw : ∀ k l, w (ix2 k l) = iblk1 V c 1 t (ix2 k ⟨o + l.val, by omega⟩)) (y : S544x512.Idx) (i : S17408x512.Idx)
    (h0 : (i 0).val = t.val * 544 + (y 0).val) (h1 : (i 1).val = (y 1).val) :
    k1_pay7 (iblk1 V c 0 t) w y = column H W 512 o ho (i 0) (i 1) := by
  have e0 : i 0 = rowAt t.val t.isLt (y 0) := Fin.ext (by rw [h0]; show _ = 544 * t.val + (y 0).val; omega)
  have e1 : i 1 = y 1 := Fin.ext h1
  rw [e0, e1]
  exact Eq.trans (congrArg (fun i => k1_pay7 (iblk1 V c 0 t) w i) (by funext a; fin_cases a <;> rfl)) (wide_block Q t o ho w hw (y 0) (y 1))

include Q in
/-- One block of a column block, 128 wide. -/
theorem narrow_block (t : Fin cfg1.N) (o : ℕ) (ho : o + 128 ≤ 3328) (w : Vec Ideal S1024x128 .bf16)
    (hw : ∀ k l, w (ix2 k l) = iblk1 V c 1 t (ix2 k ⟨o + l.val, by omega⟩)) (r : Fin 544) (l : Fin 128) :
    k1_pay1 (k1_pay4 (iblk1 V c 0 t)) w (ix2 r l) = column H W 128 o ho (rowAt t.val t.isLt r) l := by
  rw [narrow_apply, column, product]
  exact Finset.sum_congr rfl fun k _ => by rw [hw, blk_rows Q, blk_weights Q]

include Q in
/-- The same at the array's index under `y`. -/
theorem narrow_at (t : Fin cfg1.N) (o : ℕ) (ho : o + 128 ≤ 3328) (w : Vec Ideal S1024x128 .bf16)
    (hw : ∀ k l, w (ix2 k l) = iblk1 V c 1 t (ix2 k ⟨o + l.val, by omega⟩)) (y : S544x128.Idx) (i : S17408x128.Idx)
    (h0 : (i 0).val = t.val * 544 + (y 0).val) (h1 : (i 1).val = (y 1).val) :
    k1_pay1 (k1_pay4 (iblk1 V c 0 t)) w y = column H W 128 o ho (i 0) (i 1) := by
  have e0 : i 0 = rowAt t.val t.isLt (y 0) := Fin.ext (by rw [h0]; show _ = 544 * t.val + (y 0).val; omega)
  have e1 : i 1 = y 1 := Fin.ext h1
  rw [e0, e1]
  exact Eq.trans (congrArg (fun i => k1_pay1 (k1_pay4 (iblk1 V c 0 t)) w i) (by funext a; fin_cases a <;> rfl)) (narrow_block Q t o ho w hw (y 0) (y 1))

include Q in
/-- One block of the forget gate. -/
theorem gate_block (t : Fin cfg1.N) (r : Fin 544) (l : Fin 512) (u v : Vec Ideal S1x512 .f32) (w : Vec Ideal S1024x512 .bf16)
    (hu : ∀ l, u (ix2 0 l) = iblk1 V c 2 t (ix2 0 l)) (hv : ∀ l, v (ix2 0 l) = iblk1 V c 2 t (ix2 1 l))
    (hw : ∀ k l, w (ix2 k l) = iblk1 V c 1 t (ix2 k ⟨512 + l.val, by omega⟩)) :
    k1_pay5 u v (ix2 0 l) + k1_pay8 u v (ix2 0 l) * Ideal.div 1 (k1_pay9 (iblk1 V c 0 t) w (ix2 r l)) = gateAt H W P (rowAt t.val t.isLt r) l := by
  rw [lower_apply, rest_apply, grow_apply, hu, hv, blk_params Q, blk_params Q, wide_block Q t 512 (by decide) w hw r l]
  rfl

include Q in
/-- What the gate's blocks hold: zero on the padding, else `f` of the gate. -/
theorem masked_block (t : Fin cfg1.N) (f : EReal → EReal) (s : FVec Ideal S544x512 .f32) (u v : Vec Ideal S1x512 .f32) (w : Vec Ideal S1024x512 .bf16)
    (hs : ∀ r l, s (ix2 r l) = Scalar.select (k1_pay6 (grid1.coords t) (ix2 r 0))
      (f (k1_pay5 u v (ix2 0 l) + k1_pay8 u v (ix2 0 l) * Ideal.div 1 (k1_pay9 (iblk1 V c 0 t) w (ix2 r l)))) 0)
    (hu : ∀ l, u (ix2 0 l) = iblk1 V c 2 t (ix2 0 l)) (hv : ∀ l, v (ix2 0 l) = iblk1 V c 2 t (ix2 1 l))
    (hw : ∀ k l, w (ix2 k l) = iblk1 V c 1 t (ix2 k ⟨512 + l.val, by omega⟩)) (r : Fin 544) (l : Fin 512) :
    s (ix2 r l) = if 112 ≤ (rowAt t.val t.isLt r).val % 2176 then f (gateAt H W P (rowAt t.val t.isLt r) l) else 0 := by
  have eR : (rowAt t.val t.isLt r).val % 2176 = 544 * (t.val % 4) + r.val := by show (544 * t.val + r.val) % 2176 = _; omega
  rw [hs, gate_block Q t r l u v w hu hv hw, pad_apply _ ⟨t.val % 4, Nat.mod_lt _ (by decide)⟩ (at1 t).2.2.2, select_of, eR]

/-- `f` of the forget gate at row `R`, zero on the padding. -/
def masked (f : EReal → EReal) (H : Fin 17408 → Fin 1024 → EReal) (W : Fin 1024 → Fin 3328 → EReal) (P : Fin 2 → Fin 512 → EReal) (R : Fin 17408) (l : Fin 512) : EReal :=
  if 112 ≤ R.val % 2176 then f (gateAt H W P R l) else 0

include Q in
/-- The same at the array's index under `y`. -/
theorem masked_at (t : Fin cfg1.N) (f : EReal → EReal) (s : FVec Ideal S544x512 .f32) (u v : Vec Ideal S1x512 .f32) (w : Vec Ideal S1024x512 .bf16)
    (hs : ∀ r l, s (ix2 r l) = Scalar.select (k1_pay6 (grid1.coords t) (ix2 r 0))
      (f (k1_pay5 u v (ix2 0 l) + k1_pay8 u v (ix2 0 l) * Ideal.div 1 (k1_pay9 (iblk1 V c 0 t) w (ix2 r l)))) 0)
    (hu : ∀ l, u (ix2 0 l) = iblk1 V c 2 t (ix2 0 l)) (hv : ∀ l, v (ix2 0 l) = iblk1 V c 2 t (ix2 1 l))
    (hw : ∀ k l, w (ix2 k l) = iblk1 V c 1 t (ix2 k ⟨512 + l.val, by omega⟩)) (y : S544x512.Idx) (i : S17408x512.Idx)
    (h0 : (i 0).val = t.val * 544 + (y 0).val) (h1 : (i 1).val = (y 1).val) :
    s y = masked f H W P (i 0) (i 1) := by
  have e0 : i 0 = rowAt t.val t.isLt (y 0) := Fin.ext (by rw [h0]; show _ = 544 * t.val + (y 0).val; omega)
  have e1 : i 1 = y 1 := Fin.ext h1
  rw [e0, e1]
  exact Eq.trans (congrArg s (by funext a; fin_cases a <;> rfl)) (masked_block Q t f s u v w hs hu hv hw (y 0) (y 1))

include Q in
theorem q_array (R : Fin 17408) (L : Fin 512) : (dat1 V c).arrAt 3 cfg1.N (ix2 R L) = column H W 512 0 (by decide) R L := by
  rw [(dat1 V c).arrAt_eq_of_covers 3 (fun i => column H W 512 0 (by decide) (i 0) (i 1)) (by decide +kernel) fun t _ y => by
    rw [after1_3]; frame_out
    exact wide_at Q t 0 (by decide) (View.ld (iblk1 V c 1 t) r1_3) (fun k l => by pointwise) y
      ((win1_3.blk t).view.emb y) (by blk_simp [out1 t]) (by blk_simp [out1 t])]
  rfl

include Q in
theorem i_array (R : Fin 17408) (L : Fin 512) : (dat1 V c).arrAt 6 cfg1.N (ix2 R L) = column H W 512 1024 (by decide) R L := by
  rw [(dat1 V c).arrAt_eq_of_covers 6 (fun i => column H W 512 1024 (by decide) (i 0) (i 1)) (by decide +kernel) fun t _ y => by
    rw [after1_6]; frame_out; rw [rows_cast]
    exact wide_at Q t 1024 (by decide) (View.ld (iblk1 V c 1 t) r1_6) (fun k l => by pointwise) y
      ((win1_6.blk t).view.emb y) (by blk_simp [out1 t]) (by blk_simp [out1 t])]
  rfl

include Q in
theorem g_array (R : Fin 17408) (L : Fin 512) : (dat1 V c).arrAt 7 cfg1.N (ix2 R L) = column H W 512 1536 (by decide) R L := by
  rw [(dat1 V c).arrAt_eq_of_covers 7 (fun i => column H W 512 1536 (by decide) (i 0) (i 1)) (by decide +kernel) fun t _ y => by
    rw [after1_7]; frame_out; rw [rows_cast]
    exact wide_at Q t 1536 (by decide) (View.ld (iblk1 V c 1 t) r1_7) (fun k l => by pointwise) y
      ((win1_7.blk t).view.emb y) (by blk_simp [out1 t]) (by blk_simp [out1 t])]
  rfl

include Q in
theorem wq_array (R : Fin 17408) (L : Fin 512) : (dat1 V c).arrAt 8 cfg1.N (ix2 R L) = column H W 512 2048 (by decide) R L := by
  rw [(dat1 V c).arrAt_eq_of_covers 8 (fun i => column H W 512 2048 (by decide) (i 0) (i 1)) (by decide +kernel) fun t _ y => by
    rw [after1_8]; frame_out; rw [rows_cast]
    exact wide_at Q t 2048 (by decide) (View.ld (iblk1 V c 1 t) r1_8) (fun k l => by pointwise) y
      ((win1_8.blk t).view.emb y) (by blk_simp [out1 t]) (by blk_simp [out1 t])]
  rfl

include Q in
theorem wk_array (R : Fin 17408) (L : Fin 128) : (dat1 V c).arrAt 9 cfg1.N (ix2 R L) = column H W 128 2560 (by decide) R L := by
  rw [(dat1 V c).arrAt_eq_of_covers 9 (fun i => column H W 128 2560 (by decide) (i 0) (i 1)) (by decide +kernel) fun t _ y => by
    rw [after1_9]; frame_out; rw [rows_cast]
    exact narrow_at Q t 2560 (by decide) (View.ld (iblk1 V c 1 t) r1_9) (fun k l => by pointwise) y
      ((win1_9.blk t).view.emb y) (by blk_simp [out1 t]) (by blk_simp [out1 t])]
  rfl

include Q in
theorem wv_array (R : Fin 17408) (L : Fin 128) : (dat1 V c).arrAt 10 cfg1.N (ix2 R L) = column H W 128 2688 (by decide) R L := by
  rw [(dat1 V c).arrAt_eq_of_covers 10 (fun i => column H W 128 2688 (by decide) (i 0) (i 1)) (by decide +kernel) fun t _ y => by
    rw [after1_10]; frame_out; rw [rows_cast]
    exact narrow_at Q t 2688 (by decide) (View.ld (iblk1 V c 1 t) r1_11) (fun k l => by pointwise) y
      ((win1_10.blk t).view.emb y) (by blk_simp [out1 t]) (by blk_simp [out1 t])]
  rfl

include Q in
theorem wg_array (R : Fin 17408) (L : Fin 512) : (dat1 V c).arrAt 11 cfg1.N (ix2 R L) = column H W 512 2816 (by decide) R L := by
  rw [(dat1 V c).arrAt_eq_of_covers 11 (fun i => column H W 512 2816 (by decide) (i 0) (i 1)) (by decide +kernel) fun t _ y => by
    rw [after1_11]; frame_out; rw [rows_cast]
    exact wide_at Q t 2816 (by decide) (View.ld (iblk1 V c 1 t) r1_12) (fun k l => by pointwise) y
      ((win1_11.blk t).view.emb y) (by blk_simp [out1 t]) (by blk_simp [out1 t])]
  rfl

include Q in
theorem kc_array (R : Fin 17408) (L : Fin 512) : (dat1 V c).arrAt 4 cfg1.N (ix2 R L) = masked (fun z => 1 - z) H W P R L := by
  rw [(dat1 V c).arrAt_eq_of_covers 4 (fun i => masked (fun z => 1 - z) H W P (i 0) (i 1)) (by decide +kernel) fun t _ y => by
    rw [after1_4]; frame_out; rw [gate_cast k1_pay12]
    exact masked_at Q t (fun z => 1 - z) _ (View.ld (iblk1 V c 2 t) r1_1) (View.ld (iblk1 V c 2 t) r1_2) (View.ld (iblk1 V c 1 t) r1_5)
      (fun r l => complement_apply _ _ _ _ r l) (fun l => by pointwise) (fun l => by pointwise) (fun k l => by pointwise) y
      ((win1_4.blk t).view.emb y) (by blk_simp [out1 t]) (by blk_simp [out1 t])]
  rfl

include Q in
theorem lf_array (R : Fin 17408) (L : Fin 512) : (dat1 V c).arrAt 5 cfg1.N (ix2 R L) = masked Ideal.log H W P R L := by
  rw [(dat1 V c).arrAt_eq_of_covers 5 (fun i => masked Ideal.log H W P (i 0) (i 1)) (by decide +kernel) fun t _ y => by
    rw [after1_5]; frame_out; rw [gate_cast k1_pay13]
    exact masked_at Q t Ideal.log _ (View.ld (iblk1 V c 2 t) r1_1) (View.ld (iblk1 V c 2 t) r1_2) (View.ld (iblk1 V c 1 t) r1_5)
      (fun r l => log_apply _ _ _ _ r l) (fun l => by pointwise) (fun l => by pointwise) (fun k l => by pointwise) y
      ((win1_5.blk t).view.emb y) (by blk_simp [out1 t]) (by blk_simp [out1 t])]
  rfl

end Arrays

end Cert.Kernel2Ideal.Odd
-- ==== Proof.OddKernel.lean ====
/-
  The second kernel's results: its host lines' operands, the three calls one after the other, and the arrays they leave.
-/
module

public import proofs.«01_k».proof.Proof.OddValue
public import Idealize.ShloMosaic.Lib.StableHlo.ReadAt

@[expose] public section

set_option maxRecDepth 16384

noncomputable section

namespace Cert.Kernel2Ideal.Value

open Idealize.ShloMosaic Idealize.ShloMosaic.TcCoe Idealize.ShloMosaic.StableHlo
open Cert.Kernel2Ideal Cert.Kernel2Ideal.Gen Cert.Kernel2Ideal.Norm Cert.Kernel2Ideal.Odd Cert.Odd

/-- The rows of all sequences under one another. -/
def flat {d : ℕ} (a : Fin 8 → Fin 2176 → Fin d → EReal) (R : Fin 17408) (k : Fin d) : EReal := a ⟨R.val / 2176, by omega⟩ ⟨R.val % 2176, by omega⟩ k

/-- The arguments hold the branches' rows `A0`, `A1`, `A8`, `A9`, the layer's input `H`, the output projections' weights `WE`, `WL`, the norms' gains and
    offsets, the odd layer's weights `WP` and its gate parameters `P`. -/
structure Inputs (m : (ℓ : Loc nD τ sig) → Buf (Elt Ideal) ℓ) (c : Dev nD) (A0 A1 A8 A9 : Fin 8 → Fin 2176 → Fin 512 → EReal) (H : Fin 8 → Fin 2176 → Fin 1024 → EReal)
    (WE WL : Fin 1024 → Fin 1024 → EReal) (G4 O5 G11 O12 : Fin 1024 → EReal) (WP : Fin 1024 → Fin 3328 → EReal) (P : Fin 2 → Fin 512 → EReal) : Prop where
  i0 : ∀ n s k, m ((c : Thread nD τ).loc main_arg0) (ix3 n s k) = A0 n s k
  i1 : ∀ n s k, m ((c : Thread nD τ).loc main_arg1) (ix3 n s k) = A1 n s k
  i2 : ∀ n s k, m ((c : Thread nD τ).loc main_arg2) (ix3 n s k) = H n s k
  i3 : ∀ k j, m ((c : Thread nD τ).loc main_arg3) (ix3 0 k j) = WE k j
  i4 : ∀ k, m ((c : Thread nD τ).loc main_arg4) (ix2 0 k) = G4 k
  i5 : ∀ k, m ((c : Thread nD τ).loc main_arg5) (ix2 0 k) = O5 k
  i6 : ∀ k j, m ((c : Thread nD τ).loc main_arg6) (ix3 0 k j) = WP k j
  i7 : ∀ a l, m ((c : Thread nD τ).loc main_arg7) (ix2 a l) = P a l
  i8 : ∀ n s k, m ((c : Thread nD τ).loc main_arg8) (ix3 n s k) = A8 n s k
  i9 : ∀ n s k, m ((c : Thread nD τ).loc main_arg9) (ix3 n s k) = A9 n s k
  i10 : ∀ k j, m ((c : Thread nD τ).loc main_arg10) (ix3 0 k j) = WL k j
  i11 : ∀ k, m ((c : Thread nD τ).loc main_arg11) (ix2 0 k) = G11 k
  i12 : ∀ k, m ((c : Thread nD τ).loc main_arg12) (ix2 0 k) = O12 k

variable {m : (ℓ : Loc nD τ sig) → Buf (Elt Ideal) ℓ} {ρ : Dev nD → PrngReg} {c : Dev nD}
  {A0 A1 A8 A9 : Fin 8 → Fin 2176 → Fin 512 → EReal} {H : Fin 8 → Fin 2176 → Fin 1024 → EReal}
  {WE WL : Fin 1024 → Fin 1024 → EReal} {G4 O5 G11 O12 : Fin 1024 → EReal} {WP : Fin 1024 → Fin 3328 → EReal} {P : Fin 2 → Fin 512 → EReal}
  (I : Inputs m c A0 A1 A8 A9 H WE WL G4 O5 G11 O12 WP P)

include I in
theorem even_holds : Holds (flat A0) (flat A1) WE (flat H) G4 O5
    (V1 m ρ c main_v10) (V1 m ρ c main_v11) (V1 m ρ c main_v12) (V1 m ρ c main_v2) (V1 m ρ c main_v5) (V1 m ρ c main_v7) (V1 m ρ c main_v9) where
  first R k := by
    rw [flat, ← I.i0]
    show W1 m ρ c (Proc.devRef .tc main_v10) (ix2 R k) = _
    unfold W1
    after_reads_at
  second R k := by
    rw [flat, ← I.i1]
    show W1 m ρ c (Proc.devRef .tc main_v11) (ix2 R k) = _
    unfold W1
    after_reads_at
  rows R k := by
    rw [flat, ← I.i2]
    show W1 m ρ c (Proc.devRef .tc main_v12) (ix2 R k) = _
    unfold W1
    after_reads_at
  upper k j := by
    rw [← I.i3]
    show W1 m ρ c (Proc.devRef .tc main_v2) (ix2 k j) = _
    unfold W1
    after_reads_at
  lower k j := by
    rw [← I.i3]
    show W1 m ρ c (Proc.devRef .tc main_v5) (ix2 k j) = _
    unfold W1
    after_reads_at
  gain k := by
    rw [← I.i4]
    show W1 m ρ c (Proc.devRef .tc main_v7) (ix2 0 k) = _
    unfold W1
    after_reads_at
  offset k := by
    rw [← I.i5]
    show W1 m ρ c (Proc.devRef .tc main_v9) (ix2 0 k) = _
    unfold W1
    after_reads_at

/-- The odd layer's input. -/
def oddIn (A0 A1 : Fin 8 → Fin 2176 → Fin 512 → EReal) (H : Fin 8 → Fin 2176 → Fin 1024 → EReal) (WE : Fin 1024 → Fin 1024 → EReal) (G4 O5 : Fin 1024 → EReal) :
    Fin 17408 → Fin 1024 → EReal := nextAt (flat A0) (flat A1) WE (flat H) G4 O5

include I in
theorem at_in (R : Fin 17408) (k : Fin 1024) : W2 m ρ c (Proc.devRef .tc main_v13) (ix2 R k) = oddIn A0 A1 H WE G4 O5 R k :=
  (congrFun (W2_arr m ρ c 7) _).trans (even_array (even_holds I) R k)

include I in
theorem odd_operands : Operands (V3 m ρ) c (oddIn A0 A1 H WE G4 O5) WP P where
  rows R k := (congrFun (W3_of m ρ c main_v13 (by decide)) _).trans (at_in I R k)
  weights k j := by
    rw [← I.i6]
    show W3 m ρ c (Proc.devRef .tc main_v15) (ix2 k j) = _
    unfold W3
    after_reads_at
    exact congrFun (W2_args m ρ c main_arg6 (by decide)) _
  params a l := (congrFun (W3_args m ρ c main_arg7 (by decide)) _).trans (I.i7 a l)

include I in
theorem odd_holds : Holds (flat A8) (flat A9) WL (oddIn A0 A1 H WE G4 O5) G11 O12
    (V5 m ρ c main_v27) (V5 m ρ c main_v28) (V5 m ρ c main_v13) (V5 m ρ c main_v19) (V5 m ρ c main_v22) (V5 m ρ c main_v24) (V5 m ρ c main_v26) where
  first R k := by
    rw [flat, ← I.i8]
    show W5 m ρ c (Proc.devRef .tc main_v27) (ix2 R k) = _
    unfold W5
    after_reads_at
    exact congrFun (W4_args m ρ c main_arg8 (by decide)) _
  second R k := by
    rw [flat, ← I.i9]
    show W5 m ρ c (Proc.devRef .tc main_v28) (ix2 R k) = _
    unfold W5
    after_reads_at
    exact congrFun (W4_args m ρ c main_arg9 (by decide)) _
  rows R k := (congrFun ((W5_of m ρ c main_v13 (by decide)).trans ((W4_of m ρ c main_v13 (by decide)).trans (W3_of m ρ c main_v13 (by decide)))) _).trans (at_in I R k)
  upper k j := by
    rw [← I.i10]
    show W5 m ρ c (Proc.devRef .tc main_v19) (ix2 k j) = _
    unfold W5
    after_reads_at
    exact congrFun (W4_args m ρ c main_arg10 (by decide)) _
  lower k j := by
    rw [← I.i10]
    show W5 m ρ c (Proc.devRef .tc main_v22) (ix2 k j) = _
    unfold W5
    after_reads_at
    exact congrFun (W4_args m ρ c main_arg10 (by decide)) _
  gain k := by
    rw [← I.i11]
    show W5 m ρ c (Proc.devRef .tc main_v24) (ix2 0 k) = _
    unfold W5
    after_reads_at
    exact congrFun (W4_args m ρ c main_arg11 (by decide)) _
  offset k := by
    rw [← I.i12]
    show W5 m ρ c (Proc.devRef .tc main_v26) (ix2 0 k) = _
    unfold W5
    after_reads_at
    exact congrFun (W4_args m ρ c main_arg12 (by decide)) _

/-- Row `t` of sequence `n` among the rows under one another. -/
def rowIn (n : Fin 8) (t : ℕ) (ht : t < 2176) : Fin 17408 := ⟨n.val * 2176 + t, by omega⟩

include I in
theorem out_final (n : Fin 8) (t : Fin 2048) (j : Fin 1024) : W7 m ρ c (Proc.devRef .tc main_v37) (ix3 n t j)
    = nextAt (flat A8) (flat A9) WL (oddIn A0 A1 H WE G4 O5) G11 O12 (rowIn n (128 + t.val) (by omega)) j := by
  unfold W7
  after_reads_at
  exact (congrFun (W6_arr m ρ c 7) _).trans (odd_array (odd_holds I) (rowIn n (128 + t.val) (by omega)) j)

/-- An array that the odd layer's projection leaves stays until the last host lines. -/
theorem kept (r : Ref sig .tc) (h1 : r ∉ hostOps2_W) (h2 : ∀ w : Fin cfg2.W, Pipeline.arrRef spec2 w = r → (cfg2.win w).isOut = false) :
    W6 m ρ c (Proc.devRef .tc r) = W4 m ρ c (Proc.devRef .tc r) := (W6_of m ρ c r h2).trans (W5_of m ρ c r h1)

variable (n : Fin 8) (t : Fin 2176) (l : Fin 512)

include I in
theorem out_q : W7 m ρ c (Proc.devRef .tc main_v38) (ix3 n t l) = column (oddIn A0 A1 H WE G4 O5) WP 512 0 (by decide) (rowIn n t.val t.isLt) l := by
  unfold W7
  after_reads_at
  exact (congrFun ((kept main_v16_0 (by decide) (by decide)).trans (W4_arr m ρ c 3)) _).trans (q_array (odd_operands I) (rowIn n t.val t.isLt) l)
include I in
theorem out_k : W7 m ρ c (Proc.devRef .tc main_v39) (ix3 n t l) = masked (fun z => 1 - z) (oddIn A0 A1 H WE G4 O5) WP P (rowIn n t.val t.isLt) l := by
  unfold W7
  after_reads_at
  exact (congrFun ((kept main_v16_1 (by decide) (by decide)).trans (W4_arr m ρ c 4)) _).trans (kc_array (odd_operands I) (rowIn n t.val t.isLt) l)
include I in
theorem out_lf : W7 m ρ c (Proc.devRef .tc main_v40) (ix3 n t l) = masked Ideal.log (oddIn A0 A1 H WE G4 O5) WP P (rowIn n t.val t.isLt) l := by
  unfold W7
  after_reads_at
  exact (congrFun ((kept main_v16_2 (by decide) (by decide)).trans (W4_arr m ρ c 5)) _).trans (lf_array (odd_operands I) (rowIn n t.val t.isLt) l)
include I in
theorem out_i : W7 m ρ c (Proc.devRef .tc main_v41) (ix3 n t l) = column (oddIn A0 A1 H WE G4 O5) WP 512 1024 (by decide) (rowIn n t.val t.isLt) l := by
  unfold W7
  after_reads_at
  exact (congrFun ((kept main_v16_3 (by decide) (by decide)).trans (W4_arr m ρ c 6)) _).trans (i_array (odd_operands I) (rowIn n t.val t.isLt) l)
include I in
theorem out_g : W7 m ρ c (Proc.devRef .tc main_v42) (ix3 n t l) = column (oddIn A0 A1 H WE G4 O5) WP 512 1536 (by decide) (rowIn n t.val t.isLt) l := by
  unfold W7
  after_reads_at
  exact (congrFun ((kept main_v16_4 (by decide) (by decide)).trans (W4_arr m ρ c 7)) _).trans (g_array (odd_operands I) (rowIn n t.val t.isLt) l)
include I in
theorem out_wq : W7 m ρ c (Proc.devRef .tc main_v43) (ix3 n t l) = column (oddIn A0 A1 H WE G4 O5) WP 512 2048 (by decide) (rowIn n t.val t.isLt) l := by
  unfold W7
  after_reads_at
  exact (congrFun ((kept main_v16_5 (by decide) (by decide)).trans (W4_arr m ρ c 8)) _).trans (wq_array (odd_operands I) (rowIn n t.val t.isLt) l)
include I in
theorem out_wg : W7 m ρ c (Proc.devRef .tc main_v44) (ix3 n t l) = column (oddIn A0 A1 H WE G4 O5) WP 512 2816 (by decide) (rowIn n t.val t.isLt) l := by
  unfold W7
  after_reads_at
  exact (congrFun ((kept main_v16_8 (by decide) (by decide)).trans (W4_arr m ρ c 11)) _).trans (wg_array (odd_operands I) (rowIn n t.val t.isLt) l)

variable (a : Fin 2) (d : Fin 64)

include I in
theorem out_wk : W7 m ρ c (Proc.devRef .tc main_v30) (ix4 n t a d)
    = column (oddIn A0 A1 H WE G4 O5) WP 128 2560 (by decide) (rowIn n t.val t.isLt) ⟨a.val * 64 + d.val, by omega⟩ := by
  unfold W7
  after_reads_at
  exact (congrFun ((kept main_v16_6 (by decide) (by decide)).trans (W4_arr m ρ c 9)) _).trans (wk_array (odd_operands I) (rowIn n t.val t.isLt) _)
include I in
theorem out_wv : W7 m ρ c (Proc.devRef .tc main_v31) (ix4 n t a d)
    = column (oddIn A0 A1 H WE G4 O5) WP 128 2688 (by decide) (rowIn n t.val t.isLt) ⟨a.val * 64 + d.val, by omega⟩ := by
  unfold W7
  after_reads_at
  exact (congrFun ((kept main_v16_7 (by decide) (by decide)).trans (W4_arr m ρ c 10)) _).trans (wv_array (odd_operands I) (rowIn n t.val t.isLt) _)
include I in
theorem out_newKeys (s : Fin 128) : W7 m ρ c (Proc.devRef .tc main_v33) (ix5 0 n s a d)
    = column (oddIn A0 A1 H WE G4 O5) WP 128 2560 (by decide) (rowIn n (2048 + s.val) (by omega)) ⟨a.val * 64 + d.val, by omega⟩ := by
  unfold W7
  after_reads_at
  exact (congrFun ((kept main_v16_6 (by decide) (by decide)).trans (W4_arr m ρ c 9)) _).trans (wk_array (odd_operands I) _ _)
include I in
theorem out_newValues (s : Fin 128) : W7 m ρ c (Proc.devRef .tc main_v35) (ix5 0 n s a d)
    = column (oddIn A0 A1 H WE G4 O5) WP 128 2688 (by decide) (rowIn n (2048 + s.val) (by omega)) ⟨a.val * 64 + d.val, by omega⟩ := by
  unfold W7
  after_reads_at
  exact (congrFun ((kept main_v16_7 (by decide) (by decide)).trans (W4_arr m ρ c 10)) _).trans (wv_array (odd_operands I) _ _)

end Cert.Kernel2Ideal.Value
-- ==== Proof.OddRun.lean ====
/-
  The launched program's run: every weakly fair execution ends with each array at the contents that the second program's three calls and
  the host lines between them leave.
-/
module

public import proofs.«01_k».proof.Proof.Gen.Kernel2Ideal.Frame

@[expose] public section

set_option maxRecDepth 16384

noncomputable section

namespace Cert.Kernel2Ideal.Run

open Idealize.ShloMosaic Idealize.ShloMosaic.TcCoe Idealize.ShloMosaic.Tactic
open Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every array outside the scopes ends at the last boundary's contents. -/
theorem run : θ_run defs (onTc (τ := τ) (main (F := F))) ⟨m, fun _ => 0, ρ⟩ (fun r => ∀ c : Dev nD, ∀ b ∈ Pipeline.ucRefs τ sig,
    r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c b hb => h c b hb)

end Cert.Kernel2Ideal.Run
-- ==== Proof.OddRef.lean ====
/-
  The second reference: the two layers' output projections and norms, the odd layer's projections and its forget gate.
-/
module

public import proofs.«01_k».proof.Proof.OddSpec
public import proofs.«01_k».proof.Proof.RunningSum
public import proofs.«01_k».proof.Proof.Gen.Reference2Ideal.Run
public import Idealize.ShloMosaic.Lib.Pointwise
public import Idealize.ShloMosaic.Lib.Pointwise.IndexVar
public import Idealize.ShloMosaic.Lib.WordCmp

@[expose] public section

set_option maxRecDepth 16384

noncomputable section

namespace Cert.Reference2Ideal.Stages

open Idealize.ShloMosaic Idealize.ShloMosaic.TcCoe Idealize.ShloMosaic.StableHlo Idealize.ShloMosaic.WordCmp
open Cert.Reference2Ideal Cert.Reference2Ideal.Gen Cert.Odd

abbrev Half : Type := FVec Ideal S8x2176x512 .bf16
abbrev Rows : Type := FVec Ideal S8x2176x1024 .f32
abbrev Square : Type := FVec Ideal S1x1024x1024 .f32
abbrev Params : Type := FVec Ideal S1x1024 .f32
abbrev Columns : Type := FVec Ideal S8x2176x3328 .f32
abbrev Pair : Type := FVec Ideal S2x512 .f32
abbrev Part : Type := FVec Ideal S8x2176x512 .f32

/-- The positions after the padding. -/
def notPad : IVec S1x2176x1 1 :=
  broadcastInDim S1x2176x1 ![1] bcast_S2176_S1x2176x1_1 (cmpi .sge (iotaInDim S2176 32 0) (broadcastInDim S2176 ![] bcast_S_S2176 (constantI S_ 32 112#32)))

/-- Two branches' rows beside one another. -/
def beside (x y : Half) : FVec Ideal S8x2176x1024 .bf16 :=
  concatenate S8x2176x1024 2 [⟨S8x2176x512, x⟩, ⟨S8x2176x512, y⟩] concatenates_S8x2176x512_S8x2176x512_S8x2176x1024_d2

/-- The scaled residual and the output projection. -/
def sumRows (x y : Half) (W : Square) (h : Rows) : Rows :=
  addf (mulf (broadcastInDim S8x2176x1024 ![] bcast_S_S8x2176x1024 (constant S_ .f32 0x3FB504F3#32)) h)
    (Host.dotGeneral dot_S8x2176x1024_S1024x1024_S8x2176x1024_2_0_01_1_n_n none (extf .f32 (beside x y) bitsLt_bf16_f32) (shapeCast _ W shapeCasts_S1x1024x1024_S1024x1024))

/-- The rows' means. -/
def means (x : Rows) : FVec Ideal S8x2176x1 .f32 :=
  Host.divf (broadcastInDim S8x2176x1 ![0, 1] bcast_S8x2176_S8x2176x1_0_1 (Host.reduceAdd x (constant S_ .f32 0x00000000#32) reducesTo_S8x2176x1024_S8x2176_d2 h_S_))
    (broadcastInDim S8x2176x1 ![] bcast_S_S8x2176x1 (constant S_ .f32 0x44800000#32))

/-- The rows with their means taken off. -/
def centred (x : Rows) : Rows := subf x (broadcastInDim S8x2176x1024 ![0, 1, 2] bcast_S8x2176x1_S8x2176x1024_0_1_2 (means x))

/-- A gain or an offset at every row. -/
def spread (g : Params) : Rows :=
  broadcastInDim S8x2176x1024 ![0, 1, 2] bcast_S1x1x1024_S8x2176x1024_0_1_2 (broadcastInDim S1x1x1024 ![2] bcast_S1024_S1x1x1024_2 (shapeCast _ g shapeCasts_S1x1024_S1024))

/-- Centred rows over their deviation, with gain and offset. -/
def scaled (d : Rows) (g b : Params) : Rows :=
  addf (mulf (mulf d (broadcastInDim S8x2176x1024 ![0, 1, 2] bcast_S8x2176x1_S8x2176x1024_0_1_2
    (Host.rsqrt (addf (means (mulf d d)) (broadcastInDim S8x2176x1 ![] bcast_S_S8x2176x1 (constant S_ .f32 0x3727C5AC#32)))))) (spread g)) (spread b)

/-- The rows with the padding cleared. -/
def cleared (x : Rows) : Rows :=
  select (broadcastInDim S8x2176x1024 ![0, 1, 2] bcast_S1x2176x1_S8x2176x1024_0_1_2 notPad) x
    (broadcastInDim S8x2176x1024 ![] bcast_S_S8x2176x1024 (id (constant S_ .f32 0x00000000#32)))

/-- A layer's end. -/
def next (x y : Half) (W : Square) (h : Rows) (g b : Params) : Rows := cleared (scaled (centred (sumRows x y W h)) g b)

/-- All columns of the odd layer's projections. -/
def proj (h : Rows) (W : FVec Ideal S1x1024x3328 .f32) : Columns :=
  Host.dotGeneral dot_S8x2176x1024_S1024x3328_S8x2176x3328_2_0_01_1_n_n none h (shapeCast _ W shapeCasts_S1x1024x3328_S1024x3328)

/-- The powers of the gate's parameters below the larger one. -/
def powers (a : Pair) : Pair :=
  Host.exp (subf a (broadcastInDim S2x512 ![0, 1] bcast_S1x512_S2x512_0_1 (broadcastInDim S1x512 ![1] bcast_S512_S1x512_1
    (maximumf (broadcastInDim S512 ![] bcast_S_S512 (constant S_ .f32 0xFF800000#32)) (Host.reduce FloatOps.maximumf a (constant S_ .f32 0xFF800000#32) reducesTo_S2x512_S512_d0 h_S_)))))

/-- The two layers' shares. -/
def shares (e : Pair) : Pair :=
  Host.divf e (broadcastInDim S2x512 ![0, 1] bcast_S1x512_S2x512_0_1 (broadcastInDim S1x512 ![1] bcast_S512_S1x512_1
    (Host.reduceAdd e (constant S_ .f32 0x00000000#32) reducesTo_S2x512_S512_d0 h_S_)))

/-- The shares' running sums. -/
def sums (s : Pair) : Pair :=
  Host.reduceWindowAdd ![2, 1] ![1, 1] ![1, 0] ![0, 0] s (broadcastInDim S_ ![] bcast_S_S_ (constant S_ .f32 0x00000000#32)) reduceWindows_S2x512_S2x512_w2s1p1_0_w1s1p0_0 h_S_

/-- The lower bound that sums and shares give the second layer. -/
def bound (u s : Pair) : FVec Ideal S512 .f32 :=
  shapeCast _ (extractStridedSlice S1x512 ![1, 0] (subf u (broadcastInDim S2x512 ![0, 1] bcast_S1x512_S2x512_0_1 (broadcastInDim S1x512 ![1] bcast_S512_S1x512_1
    (shapeCast _ (extractStridedSlice S1x512 ![0, 0] s slices_S2x512_S1x512_0_0) shapeCasts_S1x512_S512)))) slices_S2x512_S1x512_1_0) shapeCasts_S1x512_S512

/-- The parameters' lower bound. -/
def lowest (a : Pair) : FVec Ideal S512 .f32 := bound (sums (shares (powers a))) (shares (powers a))

/-- The forget gate above its lower bound. -/
def gate (l : FVec Ideal S512 .f32) (z : Columns) : Part :=
  addf (broadcastInDim S8x2176x512 ![0, 1, 2] bcast_S1x1x512_S8x2176x512_0_1_2 (broadcastInDim S1x1x512 ![2] bcast_S512_S1x1x512_2 l))
    (mulf (broadcastInDim S8x2176x512 ![0, 1, 2] bcast_S1x1x512_S8x2176x512_0_1_2 (broadcastInDim S1x1x512 ![2] bcast_S512_S1x1x512_2
        (subf (broadcastInDim S512 ![] bcast_S_S512 (constant S_ .f32 0x3F800000#32)) l)))
      (Host.divf (broadcastInDim S8x2176x512 ![] bcast_S_S8x2176x512 (constant S_ .f32 0x3F800000#32))
        (addf (broadcastInDim S8x2176x512 ![] bcast_S_S8x2176x512 (constant S_ .f32 0x3F800000#32))
          (Host.exp (Host.negf (extractStridedSlice S8x2176x512 ![0, 0, 512] z slices_S8x2176x3328_S8x2176x512_0_0_512))))))

/-- A part with the padding cleared. -/
def clearedPart (x : Part) : Part :=
  select (broadcastInDim S8x2176x512 ![0, 1, 2] bcast_S1x2176x1_S8x2176x512_0_1_2 notPad) x
    (broadcastInDim S8x2176x512 ![] bcast_S_S8x2176x512 (id (constant S_ .f32 0x00000000#32)))

/-- What the gate does not forget. -/
def rest (f : Part) : Part := subf (broadcastInDim S8x2176x512 ![] bcast_S_S8x2176x512 (constant S_ .f32 0x3F800000#32)) f

theorem notPad_apply (t : Fin 2176) : notPad (ix3 0 t 0) = BitVec.ofBool (decide (112 ≤ t.val)) := by
  pointwise [notPad]
  exact cmpi_sge_ofNat (by omega) (by decide : 112 < 2 ^ (32 - 1))

theorem select_of (p : Prop) [Decidable p] (x y : EReal) : Scalar.select (BitVec.ofBool (decide p)) x y = if p then x else y := by
  rw [Scalar.select]
  by_cases h : p
  · rw [if_pos h]; exact if_pos ((ofBool_decide_eq_one_iff _).2 h)
  · rw [if_neg h]; exact if_neg fun h' => h ((ofBool_decide_eq_one_iff _).1 h')

theorem cleared_apply (x : Rows) (n : Fin 8) (t : Fin 2176) (j : Fin 1024) : cleared x (ix3 n t j) = if 112 ≤ t.val then x (ix3 n t j) else 0 := by
  pointwise [cleared]
  rw [notPad_apply, select_of]
  have e : id (constant (F := Ideal) S_ FTy.f32 0#32) ix0 = (0 : EReal) := by simp [constant]
  rw [e]

theorem clearedPart_apply (x : Part) (n : Fin 8) (t : Fin 2176) (l : Fin 512) : clearedPart x (ix3 n t l) = if 112 ≤ t.val then x (ix3 n t l) else 0 := by
  pointwise [clearedPart]
  rw [notPad_apply, select_of]
  have e : id (constant (F := Ideal) S_ FTy.f32 0#32) ix0 = (0 : EReal) := by simp [constant]
  rw [e]

theorem beside_first (x y : Half) (n : Fin 8) (t : Fin 2176) (k : Fin 512) : beside x y (ix3 n t ⟨k.val, by omega⟩) = x (ix3 n t k) := by
  pointwise [beside]

theorem beside_second (x y : Half) (n : Fin 8) (t : Fin 2176) (k : Fin 512) : beside x y (ix3 n t ⟨512 + k.val, by omega⟩) = y (ix3 n t k) := by
  pointwise [beside]

theorem sum_halves (f : Fin 1024 → EReal) : ∑ k, f k = (∑ k : Fin 512, f ⟨k.val, by omega⟩) + ∑ k : Fin 512, f ⟨512 + k.val, by omega⟩ :=
  Fin.sum_univ_add (a := 512) (b := 512) f

theorem sumRows_of (B : FVec Ideal S8x2176x1024 .bf16) (W : Square) (h : Rows) (n : Fin 8) (t : Fin 2176) (j : Fin 1024) :
    addf (mulf (broadcastInDim S8x2176x1024 ![] bcast_S_S8x2176x1024 (constant S_ .f32 0x3FB504F3#32)) h)
      (Host.dotGeneral dot_S8x2176x1024_S1024x1024_S8x2176x1024_2_0_01_1_n_n none (extf .f32 B bitsLt_bf16_f32) (shapeCast _ W shapeCasts_S1x1024x1024_S1024x1024)) (ix3 n t j)
      = Ideal.ofBits .f32 0x3FB504F3#32 * h (ix3 n t j) + ∑ k : Fin 1024, B (ix3 n t k) * W (ix3 0 k j) := by
  pointwise

theorem sumRows_apply (x y : Half) (W : Square) (h : Rows) (n : Fin 8) (t : Fin 2176) (j : Fin 1024) :
    sumRows x y W h (ix3 n t j) = merged (fun k => x (ix3 n t k)) (fun k => y (ix3 n t k)) (fun k j => W (ix3 0 k j)) (fun k => h (ix3 n t k)) j := by
  rw [sumRows, sumRows_of, sum_halves, merged]
  simp only [beside_first, beside_second]

theorem means_apply (x : Rows) (n : Fin 8) (t : Fin 2176) : means x (ix3 n t 0) = mean fun k => x (ix3 n t k) := by
  pointwise [means, mean]

theorem centred_apply (x : Rows) (n : Fin 8) (t : Fin 2176) (j : Fin 1024) : centred x (ix3 n t j) = x (ix3 n t j) - mean fun k => x (ix3 n t k) := by
  rw [← means_apply]
  pointwise [centred]

theorem scaled_of (d e : Rows) (g b : Params) (n : Fin 8) (t : Fin 2176) (j : Fin 1024) :
    addf (mulf (mulf d (broadcastInDim S8x2176x1024 ![0, 1, 2] bcast_S8x2176x1_S8x2176x1024_0_1_2
      (Host.rsqrt (addf (means e) (broadcastInDim S8x2176x1 ![] bcast_S_S8x2176x1 (constant S_ .f32 0x3727C5AC#32)))))) (spread g)) (spread b) (ix3 n t j)
      = d (ix3 n t j) * Ideal.rsqrt ((mean fun k => e (ix3 n t k)) + Ideal.ofBits .f32 0x3727C5AC#32) * g (ix2 0 j) + b (ix2 0 j) := by
  rw [← means_apply]
  pointwise [spread]

theorem next_apply (x y : Half) (W : Square) (h : Rows) (g b : Params) (n : Fin 8) (t : Fin 2176) (j : Fin 1024) :
    next x y W h g b (ix3 n t j) = nextRow t.val (fun k => x (ix3 n t k)) (fun k => y (ix3 n t k)) (fun k j => W (ix3 0 k j)) (fun k => h (ix3 n t k))
      (fun k => g (ix2 0 k)) (fun k => b (ix2 0 k)) j := by
  rw [next, cleared_apply, scaled, scaled_of, nextRow, layerNorm]
  have e : ∀ k, mulf (centred (sumRows x y W h)) (centred (sumRows x y W h)) (ix3 n t k)
      = centred (sumRows x y W h) (ix3 n t k) * centred (sumRows x y W h) (ix3 n t k) := fun _ => rfl
  simp only [e, centred_apply, sumRows_apply]

theorem proj_apply (h : Rows) (W : FVec Ideal S1x1024x3328 .f32) (n : Fin 8) (t : Fin 2176) (j : Fin 3328) :
    proj h W (ix3 n t j) = product (fun k => h (ix3 n t k)) (fun k j => W (ix3 0 k j)) j := by
  pointwise [proj, product]

theorem neg_inf : Ideal.ofBits FTy.f32 4286578688#32 = ⊥ := by simp [Ideal.ofBits, Ideal.ieee]

theorem larger (a : Pair) (l : Fin 512) : Host.reduce FloatOps.maximumf a (constant S_ .f32 0xFF800000#32) reducesTo_S2x512_S512_d0 h_S_ (ix1 l)
    = max (a (ix2 0 l)) (a (ix2 1 l)) := by
  rw [Host.reduce_eq_fold]
  refine (Shape.ReducesTo.fold_fiber_r2_a0 _ _ _ _ _).trans ?_
  show Finset.univ.fold max (Ideal.ofBits FTy.f32 4286578688#32) _ = _
  rw [neg_inf]
  have u : (Finset.univ : Finset (Fin 2)) = {0, 1} := by decide
  refine (congrArg (fun s => Finset.fold max ⊥ _ s) u).trans ?_
  rw [Finset.fold_insert (by decide), Finset.fold_singleton, max_eq_left bot_le]
  rfl

theorem powers_of (a : Pair) (r : FVec Ideal S512 .f32) (i : Fin 2) (l : Fin 512) :
    Host.exp (subf a (broadcastInDim S2x512 ![0, 1] bcast_S1x512_S2x512_0_1 (broadcastInDim S1x512 ![1] bcast_S512_S1x512_1
      (maximumf (broadcastInDim S512 ![] bcast_S_S512 (constant S_ .f32 0xFF800000#32)) r)))) (ix2 i l) = Ideal.exp (a (ix2 i l) - r (ix1 l)) := by
  pointwise
  rw [neg_inf, max_eq_right bot_le]

theorem shares_apply (e : Pair) (i : Fin 2) (l : Fin 512) : shares e (ix2 i l) = Ideal.div (e (ix2 i l)) (e (ix2 0 l) + e (ix2 1 l)) := by
  pointwise [shares]
  rw [Fin.sum_univ_two]

theorem sums_apply (s : Pair) (l : Fin 512) : sums s (ix2 1 l) = s (ix2 0 l) + s (ix2 1 l) := by
  have e : broadcastInDim S_ ![] bcast_S_S_ (constant (F := Ideal) S_ .f32 0x00000000#32) (Shape.Idx.first h_S_) = (0 : EReal) := by
    simp [broadcastInDim, constant]
  rw [sums, Host.reduceWindowAdd, Ideal.hostReduceWindowAdd_def, e]
  exact Cert.Num.window_two s _ l

theorem bound_apply (u s : Pair) (l : Fin 512) : bound u s (ix1 l) = u (ix2 1 l) - s (ix2 0 l) := by
  pointwise [bound]

theorem lowest_apply (a : Pair) (l : Fin 512) : lowest a (ix1 l) = lower (a (ix2 0 l)) (a (ix2 1 l)) := by
  have p : ∀ i, powers a (ix2 i l) = Ideal.exp (a (ix2 i l) - max (a (ix2 0 l)) (a (ix2 1 l))) := fun i => by rw [powers, powers_of, larger]
  rw [lowest, bound_apply, sums_apply, shares_apply, shares_apply, p, p, lower]

theorem gate_apply (v : FVec Ideal S512 .f32) (z : Columns) (n : Fin 8) (t : Fin 2176) (l : Fin 512) :
    gate v z (ix3 n t l) = forget (v (ix1 l)) (z (ix3 n t ⟨512 + l.val, by omega⟩)) := by
  pointwise [gate, forget]
  rw [zero_sub]

theorem rest_apply (f : Part) (n : Fin 8) (t : Fin 2176) (l : Fin 512) : rest f (ix3 n t l) = 1 - f (ix3 n t l) := by
  pointwise [rest]

theorem log_apply (f : Part) (n : Fin 8) (t : Fin 2176) (l : Fin 512) : Host.log f (ix3 n t l) = Ideal.log (f (ix3 n t l)) := by
  pointwise

end Cert.Reference2Ideal.Stages
-- ==== Proof.OddResults.lean ====
/-
  The second reference's results as the stages applied to its arguments, and their entries.
-/
module

public import proofs.«01_k».proof.Proof.OddRef

@[expose] public section

set_option maxRecDepth 16384

noncomputable section

namespace Cert.Reference2Ideal.Stages

open Idealize.ShloMosaic Idealize.ShloMosaic.TcCoe Idealize.ShloMosaic.StableHlo
open Cert.Reference2Ideal Cert.Reference2Ideal.Gen Cert.Odd

/-- The rows after the meta tokens and the padding. -/
def finalRows (x : Rows) : FVec Ideal S8x2048x1024 .f32 := extractStridedSlice S8x2048x1024 ![0, 128, 0] x slices_S8x2176x1024_S8x2048x1024_0_128_0

def part0 (z : Columns) : Part := extractStridedSlice S8x2176x512 ![0, 0, 0] z slices_S8x2176x3328_S8x2176x512_0_0_0
def part1024 (z : Columns) : Part := extractStridedSlice S8x2176x512 ![0, 0, 1024] z slices_S8x2176x3328_S8x2176x512_0_0_1024
def part1536 (z : Columns) : Part := extractStridedSlice S8x2176x512 ![0, 0, 1536] z slices_S8x2176x3328_S8x2176x512_0_0_1536
def part2048 (z : Columns) : Part := extractStridedSlice S8x2176x512 ![0, 0, 2048] z slices_S8x2176x3328_S8x2176x512_0_0_2048
def part2816 (z : Columns) : Part := extractStridedSlice S8x2176x512 ![0, 0, 2816] z slices_S8x2176x3328_S8x2176x512_0_0_2816

def keyCols (z : Columns) : FVec Ideal S8x2176x128 .f32 := extractStridedSlice S8x2176x128 ![0, 0, 2560] z slices_S8x2176x3328_S8x2176x128_0_0_2560
def valueCols (z : Columns) : FVec Ideal S8x2176x128 .f32 := extractStridedSlice S8x2176x128 ![0, 0, 2688] z slices_S8x2176x3328_S8x2176x128_0_0_2688

/-- The two heads of the keys or values. -/
def heads (x : FVec Ideal S8x2176x128 .f32) : FVec Ideal S8x2176x2x64 .f32 := shapeCast _ x shapeCasts_S8x2176x128_S8x2176x2x64

/-- The last window's positions. -/
def lastRows (x : FVec Ideal S8x2176x2x64 .f32) : FVec Ideal S1x8x128x2x64 .f32 :=
  broadcastInDim S1x8x128x2x64 ![1, 2, 3, 4] bcast_S8x128x2x64_S1x8x128x2x64_1_2_3_4 (extractStridedSlice S8x128x2x64 ![0, 2048, 0, 0] x slices_S8x2176x2x64_S8x128x2x64_0_2048_0_0)

section Results
variable (m : (ℓ : Loc nD τ sig) → Buf (Elt Ideal) ℓ) (c : Dev nD)

/-- The odd layer's input. -/
def oddRows : Rows := next (m ((c.tc : Thread nD τ).loc main_arg0)) (m ((c.tc : Thread nD τ).loc main_arg1)) (m ((c.tc : Thread nD τ).loc main_arg3)) (m ((c.tc : Thread nD τ).loc main_arg2)) (m ((c.tc : Thread nD τ).loc main_arg4)) (m ((c.tc : Thread nD τ).loc main_arg5))

/-- The odd layer's projections. -/
def oddCols : Columns := proj (oddRows m c) (m ((c.tc : Thread nD τ).loc main_arg6))

theorem final_eq : Cert.Reference2Ideal.Value.res_main_v127 m c = finalRows (next (m ((c.tc : Thread nD τ).loc main_arg8)) (m ((c.tc : Thread nD τ).loc main_arg9)) (m ((c.tc : Thread nD τ).loc main_arg10)) (oddRows m c) (m ((c.tc : Thread nD τ).loc main_arg11)) (m ((c.tc : Thread nD τ).loc main_arg12))) := by
  unfold Cert.Reference2Ideal.Value.res_main_v127
  rfl

theorem newKeys_eq : Cert.Reference2Ideal.Value.res_main_v129 m c = lastRows (heads (keyCols (oddCols m c))) := by
  unfold Cert.Reference2Ideal.Value.res_main_v129
  rfl

theorem newValues_eq : Cert.Reference2Ideal.Value.res_main_v131 m c = lastRows (heads (valueCols (oddCols m c))) := by
  unfold Cert.Reference2Ideal.Value.res_main_v131
  rfl

theorem q_eq : Cert.Reference2Ideal.Value.res_main_v57 m c = part0 (oddCols m c) := by
  unfold Cert.Reference2Ideal.Value.res_main_v57
  rfl

theorem kc_eq : Cert.Reference2Ideal.Value.res_main_v86 m c = clearedPart (rest (gate (lowest (m ((c.tc : Thread nD τ).loc main_arg7))) (oddCols m c))) := by
  unfold Cert.Reference2Ideal.Value.res_main_v86
  rfl

theorem lf_eq : Cert.Reference2Ideal.Value.res_main_v89 m c = clearedPart (Host.log (gate (lowest (m ((c.tc : Thread nD τ).loc main_arg7))) (oddCols m c))) := by
  unfold Cert.Reference2Ideal.Value.res_main_v89
  rfl

theorem i_eq : Cert.Reference2Ideal.Value.res_main_v59 m c = part1024 (oddCols m c) := by
  unfold Cert.Reference2Ideal.Value.res_main_v59
  rfl

theorem g_eq : Cert.Reference2Ideal.Value.res_main_v60 m c = part1536 (oddCols m c) := by
  unfold Cert.Reference2Ideal.Value.res_main_v60
  rfl

theorem wq_eq : Cert.Reference2Ideal.Value.res_main_v61 m c = part2048 (oddCols m c) := by
  unfold Cert.Reference2Ideal.Value.res_main_v61
  rfl

theorem wk_eq : Cert.Reference2Ideal.Value.res_main_v90 m c = heads (keyCols (oddCols m c)) := by
  unfold Cert.Reference2Ideal.Value.res_main_v90
  rfl

theorem wv_eq : Cert.Reference2Ideal.Value.res_main_v91 m c = heads (valueCols (oddCols m c)) := by
  unfold Cert.Reference2Ideal.Value.res_main_v91
  rfl

theorem wg_eq : Cert.Reference2Ideal.Value.res_main_v64 m c = part2816 (oddCols m c) := by
  unfold Cert.Reference2Ideal.Value.res_main_v64
  rfl

end Results

theorem finalRows_apply (x : Rows) (n : Fin 8) (t : Fin 2048) (j : Fin 1024) : finalRows x (ix3 n t j) = x (ix3 n ⟨128 + t.val, by omega⟩ j) := by
  pointwise [finalRows]
theorem part0_apply (z : Columns) (n : Fin 8) (t : Fin 2176) (l : Fin 512) : part0 z (ix3 n t l) = z (ix3 n t ⟨0 + l.val, by omega⟩) := by
  pointwise [part0]
theorem part1024_apply (z : Columns) (n : Fin 8) (t : Fin 2176) (l : Fin 512) : part1024 z (ix3 n t l) = z (ix3 n t ⟨1024 + l.val, by omega⟩) := by
  pointwise [part1024]
theorem part1536_apply (z : Columns) (n : Fin 8) (t : Fin 2176) (l : Fin 512) : part1536 z (ix3 n t l) = z (ix3 n t ⟨1536 + l.val, by omega⟩) := by
  pointwise [part1536]
theorem part2048_apply (z : Columns) (n : Fin 8) (t : Fin 2176) (l : Fin 512) : part2048 z (ix3 n t l) = z (ix3 n t ⟨2048 + l.val, by omega⟩) := by
  pointwise [part2048]
theorem part2816_apply (z : Columns) (n : Fin 8) (t : Fin 2176) (l : Fin 512) : part2816 z (ix3 n t l) = z (ix3 n t ⟨2816 + l.val, by omega⟩) := by
  pointwise [part2816]
theorem keyCols_apply (z : Columns) (n : Fin 8) (t : Fin 2176) (l : Fin 128) : keyCols z (ix3 n t l) = z (ix3 n t ⟨2560 + l.val, by omega⟩) := by
  pointwise [keyCols]
theorem valueCols_apply (z : Columns) (n : Fin 8) (t : Fin 2176) (l : Fin 128) : valueCols z (ix3 n t l) = z (ix3 n t ⟨2688 + l.val, by omega⟩) := by
  pointwise [valueCols]
theorem heads_apply (x : FVec Ideal S8x2176x128 .f32) (n : Fin 8) (t : Fin 2176) (a : Fin 2) (d : Fin 64) :
    heads x (ix4 n t a d) = x (ix3 n t ⟨a.val * 64 + d.val, by omega⟩) := by
  pointwise [heads]
theorem lastRows_apply (x : FVec Ideal S8x2176x2x64 .f32) (n : Fin 8) (t : Fin 128) (a : Fin 2) (d : Fin 64) :
    lastRows x (ix5 0 n t a d) = x (ix4 n ⟨2048 + t.val, by omega⟩ a d) := by
  pointwise [lastRows]

end Cert.Reference2Ideal.Stages
-- ==== Proof.OddEquation.lean ====
/-
  The second pair of programs leaves the same arrays, whatever the arguments hold.
-/
module

public import proofs.«01_k».proof.Proof.OddKernel
public import proofs.«01_k».proof.Proof.OddRun
public import proofs.«01_k».proof.Proof.OddResults
public import proofs.«01_k».proof.Defs

@[expose] public section

set_option maxRecDepth 16384

noncomputable section

namespace Cert.OddEquation

open Idealize.ShloMosaic Idealize.ShloMosaic.TcCoe
open Cert.Kernel2Ideal.Value (Inputs flat rowIn oddIn out_final out_newKeys out_newValues out_q out_k out_lf out_i out_g out_wq out_wk out_wv out_wg)
open Cert.Kernel2Ideal.Norm (nextAt)
open Cert.Kernel2Ideal.Odd (column masked gateAt)
open Cert.Kernel2Ideal.Gen (W7)
open Cert.Reference2Ideal.Stages Cert.Odd

theorem rowIn_mod (n : Fin 8) (t : ℕ) (ht : t < 2176) : (rowIn n t ht).val % 2176 = t := by
  show (n.val * 2176 + t) % 2176 = t
  omega

theorem flat_rowIn {d : ℕ} (A : Fin 8 → Fin 2176 → Fin d → EReal) (n : Fin 8) (t : ℕ) (ht : t < 2176) : flat A (rowIn n t ht) = A n ⟨t, ht⟩ := by
  funext k
  have q : (⟨(rowIn n t ht).val / 2176, by omega⟩ : Fin 8) = n := Fin.ext (by show (n.val * 2176 + t) / 2176 = n.val; omega)
  have r : (⟨(rowIn n t ht).val % 2176, by omega⟩ : Fin 2176) = ⟨t, ht⟩ := Fin.ext (rowIn_mod n t ht)
  rw [flat, q, r]

/-- Positions and features of an array of sequences. -/
abbrev entries {d : ℕ} {φ : FTy} (x : FVec Ideal ⟨3, ![8, 2176, d]⟩ φ) : Fin 8 → Fin 2176 → Fin d → EReal := fun n s k => x (ix3 n s k)
/-- Entries of one layer's weights. -/
abbrev table {a b : ℕ} (x : FVec Ideal ⟨3, ![1, a, b]⟩ .f32) : Fin a → Fin b → EReal := fun k j => x (ix3 0 k j)
/-- Entries of one layer's parameters. -/
abbrev line {a : ℕ} (x : FVec Ideal ⟨2, ![1, a]⟩ .f32) : Fin a → EReal := fun k => x (ix2 0 k)

/-- A layer's end at a position is the kernel's at its row. -/
theorem next_row (x y : Half) (W : Square) (h : Rows) (g b : Params) (A : Fin 17408 → Fin 1024 → EReal)
    (hA : ∀ n (t : Fin 2176), A (rowIn n t.val t.isLt) = fun k => h (ix3 n t k)) (n : Fin 8) (t : Fin 2176) (j : Fin 1024) :
    next x y W h g b (ix3 n t j) = nextAt (flat (entries x)) (flat (entries y)) (table W) A (line g) (line b) (rowIn n t.val t.isLt) j := by
  rw [next_apply, nextAt, rowIn_mod, flat_rowIn, flat_rowIn, hA]

/-- A column of the projections at a position is the kernel's at its row. -/
theorem proj_row (h : Rows) (W : FVec Ideal Cert.Reference2Ideal.S1x1024x3328 .f32) (A : Fin 17408 → Fin 1024 → EReal)
    (hA : ∀ n (t : Fin 2176) k, h (ix3 n t k) = A (rowIn n t.val t.isLt) k) (n : Fin 8) (t : Fin 2176) (w o : ℕ) (ho : o + w ≤ 3328) (l : Fin w) :
    proj h W (ix3 n t ⟨o + l.val, by omega⟩) = column A (table W) w o ho (rowIn n t.val t.isLt) l := by
  rw [proj_apply, column]
  simp only [hA]

section Equal

variable {m : (ℓ : Loc Cert.Kernel2Ideal.nD Cert.Kernel2Ideal.τ Cert.Kernel2Ideal.sig) → Buf (Elt Ideal) ℓ} {ρ : Dev Cert.Kernel2Ideal.nD → PrngReg} {c : Dev Cert.Kernel2Ideal.nD}
  {a0 a1 a8 a9 : Half} {a2 : Rows} {a3 a10 : Square} {a4 a5 a11 a12 : Params} {a6 : FVec Ideal Cert.Reference2Ideal.S1x1024x3328 .f32} {a7 : Pair}

/-- The kernel's arguments are the reference's. -/
theorem inputs (e0 : a0 = m ((c : Thread Cert.Kernel2Ideal.nD Cert.Kernel2Ideal.τ).loc Cert.Kernel2Ideal.main_arg0))
    (e1 : a1 = m ((c : Thread Cert.Kernel2Ideal.nD Cert.Kernel2Ideal.τ).loc Cert.Kernel2Ideal.main_arg1))
    (e2 : a2 = m ((c : Thread Cert.Kernel2Ideal.nD Cert.Kernel2Ideal.τ).loc Cert.Kernel2Ideal.main_arg2))
    (e3 : a3 = m ((c : Thread Cert.Kernel2Ideal.nD Cert.Kernel2Ideal.τ).loc Cert.Kernel2Ideal.main_arg3))
    (e4 : a4 = m ((c : Thread Cert.Kernel2Ideal.nD Cert.Kernel2Ideal.τ).loc Cert.Kernel2Ideal.main_arg4))
    (e5 : a5 = m ((c : Thread Cert.Kernel2Ideal.nD Cert.Kernel2Ideal.τ).loc Cert.Kernel2Ideal.main_arg5))
    (e6 : a6 = m ((c : Thread Cert.Kernel2Ideal.nD Cert.Kernel2Ideal.τ).loc Cert.Kernel2Ideal.main_arg6))
    (e7 : a7 = m ((c : Thread Cert.Kernel2Ideal.nD Cert.Kernel2Ideal.τ).loc Cert.Kernel2Ideal.main_arg7))
    (e8 : a8 = m ((c : Thread Cert.Kernel2Ideal.nD Cert.Kernel2Ideal.τ).loc Cert.Kernel2Ideal.main_arg8))
    (e9 : a9 = m ((c : Thread Cert.Kernel2Ideal.nD Cert.Kernel2Ideal.τ).loc Cert.Kernel2Ideal.main_arg9))
    (e10 : a10 = m ((c : Thread Cert.Kernel2Ideal.nD Cert.Kernel2Ideal.τ).loc Cert.Kernel2Ideal.main_arg10))
    (e11 : a11 = m ((c : Thread Cert.Kernel2Ideal.nD Cert.Kernel2Ideal.τ).loc Cert.Kernel2Ideal.main_arg11))
    (e12 : a12 = m ((c : Thread Cert.Kernel2Ideal.nD Cert.Kernel2Ideal.τ).loc Cert.Kernel2Ideal.main_arg12)) :
    Inputs m c (entries a0) (entries a1) (entries a8) (entries a9) (entries a2) (table a3) (table a10) (line a4) (line a5) (line a11) (line a12) (table a6) (fun i l => a7 (ix2 i l)) where
  i0 _ _ _ := (congrFun e0 _).symm
  i1 _ _ _ := (congrFun e1 _).symm
  i2 _ _ _ := (congrFun e2 _).symm
  i3 _ _ := (congrFun e3 _).symm
  i4 _ := (congrFun e4 _).symm
  i5 _ := (congrFun e5 _).symm
  i6 _ _ := (congrFun e6 _).symm
  i7 _ _ := (congrFun e7 _).symm
  i8 _ _ _ := (congrFun e8 _).symm
  i9 _ _ _ := (congrFun e9 _).symm
  i10 _ _ := (congrFun e10 _).symm
  i11 _ := (congrFun e11 _).symm
  i12 _ := (congrFun e12 _).symm

/-- The odd layer's input at a position. -/
theorem odd_row (a0 a1 : Half) (a2 : Rows) (a3 : Square) (a4 a5 : Params) (n : Fin 8) (t : Fin 2176) (k : Fin 1024) : next a0 a1 a3 a2 a4 a5 (ix3 n t k)
    = oddIn (entries a0) (entries a1) (entries a2) (table a3) (line a4) (line a5) (rowIn n t.val t.isLt) k :=
  next_row a0 a1 a3 a2 a4 a5 _ (fun n t => flat_rowIn _ n t.val t.isLt) n t k

/-- The forget gate at a position. -/
theorem gate_row (a0 a1 : Half) (a2 : Rows) (a3 : Square) (a4 a5 : Params) (a6 : FVec Ideal Cert.Reference2Ideal.S1x1024x3328 .f32) (a7 : Pair) (n : Fin 8) (t : Fin 2176) (l : Fin 512) :
    gate (lowest a7) (proj (next a0 a1 a3 a2 a4 a5) a6) (ix3 n t l)
      = gateAt (oddIn (entries a0) (entries a1) (entries a2) (table a3) (line a4) (line a5)) (table a6) (fun i l => a7 (ix2 i l)) (rowIn n t.val t.isLt) l := by
  rw [gate_apply, lowest_apply, gateAt, ← proj_row _ a6 _ (odd_row a0 a1 a2 a3 a4 a5)]

variable (I : Inputs m c (entries a0) (entries a1) (entries a8) (entries a9) (entries a2) (table a3) (table a10) (line a4) (line a5) (line a11) (line a12) (table a6) (fun i l => a7 (ix2 i l)))

include I

theorem final_same : finalRows (next a8 a9 a10 (next a0 a1 a3 a2 a4 a5) a11 a12) = W7 m ρ c (Proc.devRef .tc Cert.Kernel2Ideal.main_v37) := by
  have key : ∀ (n : Fin 8) (t : Fin 2048) (j : Fin 1024), finalRows (next a8 a9 a10 (next a0 a1 a3 a2 a4 a5) a11 a12) (ix3 n t j)
      = W7 m ρ c (Proc.devRef .tc Cert.Kernel2Ideal.main_v37) (ix3 n t j) := fun n t j => by
    rw [finalRows_apply, out_final I]
    exact next_row a8 a9 a10 _ a11 a12 _ (fun n t => funext fun k => (odd_row a0 a1 a2 a3 a4 a5 n t k).symm) n ⟨128 + t.val, by omega⟩ j
  funext i
  rw [eq_ix3 i]
  exact key _ _ _

theorem q_same : part0 (proj (next a0 a1 a3 a2 a4 a5) a6) = W7 m ρ c (Proc.devRef .tc Cert.Kernel2Ideal.main_v38) := by
  funext i
  rw [eq_ix3 i]
  exact ((part0_apply _ _ _ _).trans (proj_row _ a6 _ (odd_row a0 a1 a2 a3 a4 a5) _ _ 512 0 (by decide) _)).trans (out_q I _ _ _).symm

theorem i_same : part1024 (proj (next a0 a1 a3 a2 a4 a5) a6) = W7 m ρ c (Proc.devRef .tc Cert.Kernel2Ideal.main_v41) := by
  funext i
  rw [eq_ix3 i]
  exact ((part1024_apply _ _ _ _).trans (proj_row _ a6 _ (odd_row a0 a1 a2 a3 a4 a5) _ _ 512 1024 (by decide) _)).trans (out_i I _ _ _).symm

theorem g_same : part1536 (proj (next a0 a1 a3 a2 a4 a5) a6) = W7 m ρ c (Proc.devRef .tc Cert.Kernel2Ideal.main_v42) := by
  funext i
  rw [eq_ix3 i]
  exact ((part1536_apply _ _ _ _).trans (proj_row _ a6 _ (odd_row a0 a1 a2 a3 a4 a5) _ _ 512 1536 (by decide) _)).trans (out_g I _ _ _).symm

theorem wq_same : part2048 (proj (next a0 a1 a3 a2 a4 a5) a6) = W7 m ρ c (Proc.devRef .tc Cert.Kernel2Ideal.main_v43) := by
  funext i
  rw [eq_ix3 i]
  exact ((part2048_apply _ _ _ _).trans (proj_row _ a6 _ (odd_row a0 a1 a2 a3 a4 a5) _ _ 512 2048 (by decide) _)).trans (out_wq I _ _ _).symm

theorem wg_same : part2816 (proj (next a0 a1 a3 a2 a4 a5) a6) = W7 m ρ c (Proc.devRef .tc Cert.Kernel2Ideal.main_v44) := by
  funext i
  rw [eq_ix3 i]
  exact ((part2816_apply _ _ _ _).trans (proj_row _ a6 _ (odd_row a0 a1 a2 a3 a4 a5) _ _ 512 2816 (by decide) _)).trans (out_wg I _ _ _).symm

theorem kc_same : clearedPart (rest (gate (lowest a7) (proj (next a0 a1 a3 a2 a4 a5) a6))) = W7 m ρ c (Proc.devRef .tc Cert.Kernel2Ideal.main_v39) := by
  have key : ∀ (n : Fin 8) (t : Fin 2176) (l : Fin 512), clearedPart (rest (gate (lowest a7) (proj (next a0 a1 a3 a2 a4 a5) a6))) (ix3 n t l)
      = W7 m ρ c (Proc.devRef .tc Cert.Kernel2Ideal.main_v39) (ix3 n t l) := fun n t l => by
    rw [clearedPart_apply, rest_apply, gate_row, out_k I, masked, rowIn_mod]
  funext i
  rw [eq_ix3 i]
  exact key _ _ _

theorem lf_same : clearedPart (Host.log (gate (lowest a7) (proj (next a0 a1 a3 a2 a4 a5) a6))) = W7 m ρ c (Proc.devRef .tc Cert.Kernel2Ideal.main_v40) := by
  have key : ∀ (n : Fin 8) (t : Fin 2176) (l : Fin 512), clearedPart (Host.log (gate (lowest a7) (proj (next a0 a1 a3 a2 a4 a5) a6))) (ix3 n t l)
      = W7 m ρ c (Proc.devRef .tc Cert.Kernel2Ideal.main_v40) (ix3 n t l) := fun n t l => by
    rw [clearedPart_apply, log_apply, gate_row, out_lf I, masked, rowIn_mod]
  funext i
  rw [eq_ix3 i]
  exact key _ _ _

theorem wk_same : heads (keyCols (proj (next a0 a1 a3 a2 a4 a5) a6)) = W7 m ρ c (Proc.devRef .tc Cert.Kernel2Ideal.main_v30) := by
  funext i
  rw [eq_ix4 i]
  exact ((heads_apply _ _ _ _ _).trans ((keyCols_apply _ _ _ _).trans (proj_row _ a6 _ (odd_row a0 a1 a2 a3 a4 a5) _ _ 128 2560 (by decide) _))).trans (out_wk I _ _ _ _).symm

theorem wv_same : heads (valueCols (proj (next a0 a1 a3 a2 a4 a5) a6)) = W7 m ρ c (Proc.devRef .tc Cert.Kernel2Ideal.main_v31) := by
  funext i
  rw [eq_ix4 i]
  exact ((heads_apply _ _ _ _ _).trans ((valueCols_apply _ _ _ _).trans (proj_row _ a6 _ (odd_row a0 a1 a2 a3 a4 a5) _ _ 128 2688 (by decide) _))).trans (out_wv I _ _ _ _).symm

theorem newKeys_same : lastRows (heads (keyCols (proj (next a0 a1 a3 a2 a4 a5) a6))) = W7 m ρ c (Proc.devRef .tc Cert.Kernel2Ideal.main_v33) := by
  have key : ∀ (n : Fin 8) (t : Fin 128) (a : Fin 2) (d : Fin 64), lastRows (heads (keyCols (proj (next a0 a1 a3 a2 a4 a5) a6))) (ix5 0 n t a d)
      = W7 m ρ c (Proc.devRef .tc Cert.Kernel2Ideal.main_v33) (ix5 0 n t a d) := fun n t a d => by
    rw [lastRows_apply, heads_apply, keyCols_apply, out_newKeys I]
    exact proj_row _ a6 _ (odd_row a0 a1 a2 a3 a4 a5) n ⟨2048 + t.val, by omega⟩ 128 2560 (by decide) ⟨a.val * 64 + d.val, by omega⟩
  funext i
  have e : i 0 = (0 : Fin 1) := Subsingleton.elim (α := Fin 1) _ _
  rw [eq_ix5 i, e]
  exact key (i 1) (i 2) (i 3) (i 4)

theorem newValues_same : lastRows (heads (valueCols (proj (next a0 a1 a3 a2 a4 a5) a6))) = W7 m ρ c (Proc.devRef .tc Cert.Kernel2Ideal.main_v35) := by
  have key : ∀ (n : Fin 8) (t : Fin 128) (a : Fin 2) (d : Fin 64), lastRows (heads (valueCols (proj (next a0 a1 a3 a2 a4 a5) a6))) (ix5 0 n t a d)
      = W7 m ρ c (Proc.devRef .tc Cert.Kernel2Ideal.main_v35) (ix5 0 n t a d) := fun n t a d => by
    rw [lastRows_apply, heads_apply, valueCols_apply, out_newValues I]
    exact proj_row _ a6 _ (odd_row a0 a1 a2 a3 a4 a5) n ⟨2048 + t.val, by omega⟩ 128 2688 (by decide) ⟨a.val * 64 + d.val, by omega⟩
  funext i
  have e : i 0 = (0 : Fin 1) := Subsingleton.elim (α := Fin 1) _ _
  rw [eq_ix5 i, e]
  exact key (i 1) (i 2) (i 3) (i 4)

end Equal

theorem algebraic : Cert.algebraic_Kernel2Ideal_Reference2Ideal (hKernel2Ideal := Cert.Kernel2Ideal.Gen.facts) (hReference2Ideal := Cert.Reference2Ideal.Gen.facts) := by
  intro m g m' g' _ hag
  have I := fun c : Dev Cert.Kernel2Ideal.nD => inputs (m := m) (c := c) ((hag c).1) ((hag c).2.1) ((hag c).2.2.1) ((hag c).2.2.2.1) ((hag c).2.2.2.2.1) ((hag c).2.2.2.2.2.1) ((hag c).2.2.2.2.2.2.1) ((hag c).2.2.2.2.2.2.2.1) ((hag c).2.2.2.2.2.2.2.2.1) ((hag c).2.2.2.2.2.2.2.2.2.1) ((hag c).2.2.2.2.2.2.2.2.2.2.1) ((hag c).2.2.2.2.2.2.2.2.2.2.2.1) ((hag c).2.2.2.2.2.2.2.2.2.2.2.2)
  refine ⟨_, _, _, _, _, _, _, _, _, _, _, _, (θ_run _ _ _).mono (fun r h c => ⟨h c _ (Cert.Kernel2Ideal.Gen.mem_uc Cert.Kernel2Ideal.main_v37 (by decide)), h c _ (Cert.Kernel2Ideal.Gen.mem_uc Cert.Kernel2Ideal.main_v33 (by decide)), h c _ (Cert.Kernel2Ideal.Gen.mem_uc Cert.Kernel2Ideal.main_v35 (by decide)), h c _ (Cert.Kernel2Ideal.Gen.mem_uc Cert.Kernel2Ideal.main_v38 (by decide)), h c _ (Cert.Kernel2Ideal.Gen.mem_uc Cert.Kernel2Ideal.main_v39 (by decide)), h c _ (Cert.Kernel2Ideal.Gen.mem_uc Cert.Kernel2Ideal.main_v40 (by decide)), h c _ (Cert.Kernel2Ideal.Gen.mem_uc Cert.Kernel2Ideal.main_v41 (by decide)), h c _ (Cert.Kernel2Ideal.Gen.mem_uc Cert.Kernel2Ideal.main_v42 (by decide)), h c _ (Cert.Kernel2Ideal.Gen.mem_uc Cert.Kernel2Ideal.main_v43 (by decide)), h c _ (Cert.Kernel2Ideal.Gen.mem_uc Cert.Kernel2Ideal.main_v30 (by decide)), h c _ (Cert.Kernel2Ideal.Gen.mem_uc Cert.Kernel2Ideal.main_v31 (by decide)), h c _ (Cert.Kernel2Ideal.Gen.mem_uc Cert.Kernel2Ideal.main_v44 (by decide)),
      (h c _ (Cert.Kernel2Ideal.Gen.mem_uc Cert.Kernel2Ideal.main_arg0 (by decide))).trans (Cert.Kernel2Ideal.Gen.W7_main_arg0 m g c),
      (h c _ (Cert.Kernel2Ideal.Gen.mem_uc Cert.Kernel2Ideal.main_arg1 (by decide))).trans (Cert.Kernel2Ideal.Gen.W7_main_arg1 m g c),
      (h c _ (Cert.Kernel2Ideal.Gen.mem_uc Cert.Kernel2Ideal.main_arg2 (by decide))).trans (Cert.Kernel2Ideal.Gen.W7_main_arg2 m g c),
      (h c _ (Cert.Kernel2Ideal.Gen.mem_uc Cert.Kernel2Ideal.main_arg3 (by decide))).trans (Cert.Kernel2Ideal.Gen.W7_main_arg3 m g c),
      (h c _ (Cert.Kernel2Ideal.Gen.mem_uc Cert.Kernel2Ideal.main_arg4 (by decide))).trans (Cert.Kernel2Ideal.Gen.W7_main_arg4 m g c),
      (h c _ (Cert.Kernel2Ideal.Gen.mem_uc Cert.Kernel2Ideal.main_arg5 (by decide))).trans (Cert.Kernel2Ideal.Gen.W7_main_arg5 m g c),
      (h c _ (Cert.Kernel2Ideal.Gen.mem_uc Cert.Kernel2Ideal.main_arg6 (by decide))).trans (Cert.Kernel2Ideal.Gen.W7_main_arg6 m g c),
      (h c _ (Cert.Kernel2Ideal.Gen.mem_uc Cert.Kernel2Ideal.main_arg7 (by decide))).trans (Cert.Kernel2Ideal.Gen.W7_main_arg7 m g c),
      (h c _ (Cert.Kernel2Ideal.Gen.mem_uc Cert.Kernel2Ideal.main_arg8 (by decide))).trans (Cert.Kernel2Ideal.Gen.W7_main_arg8 m g c),
      (h c _ (Cert.Kernel2Ideal.Gen.mem_uc Cert.Kernel2Ideal.main_arg9 (by decide))).trans (Cert.Kernel2Ideal.Gen.W7_main_arg9 m g c),
      (h c _ (Cert.Kernel2Ideal.Gen.mem_uc Cert.Kernel2Ideal.main_arg10 (by decide))).trans (Cert.Kernel2Ideal.Gen.W7_main_arg10 m g c),
      (h c _ (Cert.Kernel2Ideal.Gen.mem_uc Cert.Kernel2Ideal.main_arg11 (by decide))).trans (Cert.Kernel2Ideal.Gen.W7_main_arg11 m g c),
      (h c _ (Cert.Kernel2Ideal.Gen.mem_uc Cert.Kernel2Ideal.main_arg12 (by decide))).trans (Cert.Kernel2Ideal.Gen.W7_main_arg12 m g c)⟩) (Cert.Kernel2Ideal.Run.run m g), ?_⟩
  refine (θ_run _ _ _).mono (fun r h c => ?_) (Cert.Reference2Ideal.Value.run (F := Ideal) m' g')
  obtain ⟨h0, h1, h2, h3, h4, h5, h6, h7, h8, h9, h10, h11, hargs⟩ := h c
  exact ⟨h0.trans ((final_eq m' c).trans (final_same (I c))),
    h1.trans ((newKeys_eq m' c).trans (newKeys_same (I c))),
    h2.trans ((newValues_eq m' c).trans (newValues_same (I c))),
    h3.trans ((q_eq m' c).trans (q_same (I c))),
    h4.trans ((kc_eq m' c).trans (kc_same (I c))),
    h5.trans ((lf_eq m' c).trans (lf_same (I c))),
    h6.trans ((i_eq m' c).trans (i_same (I c))),
    h7.trans ((g_eq m' c).trans (g_same (I c))),
    h8.trans ((wq_eq m' c).trans (wq_same (I c))),
    h9.trans ((wk_eq m' c).trans (wk_same (I c))),
    h10.trans ((wv_eq m' c).trans (wv_same (I c))),
    h11.trans ((wg_eq m' c).trans (wg_same (I c))), hargs⟩

end Cert.OddEquation
-- ==== Proof.SampleNorm.lean ====
/-
  What the arrays of the sample group's two output projections hold: the layer norm of the merged rows.
-/
module

public import proofs.«01_k».proof.Proof.OddSpec
public import proofs.«01_k».proof.Proof.Gen.Kernel4Ideal.Frame
public import Idealize.ShloMosaic.Lib.Pipeline.ValueKit
public import Idealize.ShloMosaic.Lib.Pointwise
public import Idealize.ShloMosaic.Lib.Pointwise.IndexVar
public import Idealize.ShloMosaic.Lib.WordCmp

@[expose] public section

set_option maxRecDepth 16384

noncomputable section

namespace Cert.Kernel4Ideal.Norm

open Idealize.ShloMosaic Idealize.ShloMosaic.TcCoe Idealize.ShloMosaic.WordCmp
open Cert.Kernel4Ideal Cert.Kernel4Ideal.Gen Cert.Odd

variable (n : Fin 4) (x : Vec Ideal S256x512 .f32) (wx : Vec Ideal S512x1024 .bf16) (y : Vec Ideal S256x512 .f32) (wy : Vec Ideal S512x1024 .bf16)
  (h : Vec Ideal S256x1024 .f32) (g b : Vec Ideal S1x1024 .f32)

/-- A block's row of the residual and the two branches' products. -/
def mergedRow (r : Fin 256) (j : Fin 1024) : EReal :=
  Ideal.ofBits .f32 0x3FB504F3#32 * h (ix2 r j) + ((∑ k : Fin 512, x (ix2 r k) * wx (ix2 k j)) + ∑ k : Fin 512, y (ix2 r k) * wy (ix2 k j))

theorem scaled_apply (r : Fin 256) (j : Fin 1024) : k0_pay2 x wx y wy h g (ix2 r j)
    = (mergedRow x wx y wy h r j - mean (mergedRow x wx y wy h r)) * Ideal.rsqrt (mean (fun k => (mergedRow x wx y wy h r k - mean (mergedRow x wx y wy h r))
        * (mergedRow x wx y wy h r k - mean (mergedRow x wx y wy h r))) + Ideal.ofBits .f32 0x3727C5AC#32) * g (ix2 0 j) := by
  pointwise [k0_pay2]
  rfl

/-- No row is before the first. -/
theorem counted : ∀ (n : Fin 4) (r : Fin 256), IntOp.cmpi CmpIPredicate.sge (IntOp.addi (Scalar.muli (BitVec.ofNat 32 n.val) 256#32) (BitVec.ofNat 32 r.val)) 0#32
    = 1#1 := by decide +kernel

theorem select_on (u v : EReal) : Scalar.select 1#1 u v = u := if_pos rfl

theorem block_apply (r : Fin 256) (j : Fin 1024) : k0_pay1 (BitVec.ofNat 32 n.val) (k0_pay2 x wx y wy h g) b (ix2 r j)
    = layerNorm (mergedRow x wx y wy h r) (fun k => g (ix2 0 k)) (fun k => b (ix2 0 k)) j := by
  have e : ∀ s : FVec Ideal S256x1024 .f32, k0_pay1 (BitVec.ofNat 32 n.val) s b (ix2 r j) = s (ix2 r j) + b (ix2 0 j) := fun s => by
    pointwise [k0_pay1]
    rw [counted n r, select_on]
  rw [e, scaled_apply]
  rfl

/-- The operands of an output projection: two branches' rows, their weights, the residual's rows, gain and offset. -/
structure Holds (A B : Fin 1024 → Fin 512 → EReal) (W : Fin 1024 → Fin 1024 → EReal) (H : Fin 1024 → Fin 1024 → EReal) (G O : Fin 1024 → EReal)
    (a b : S1024x512.Idx → Ideal .f32) (h : S1024x1024.Idx → Ideal .f32) (wa wb : S512x1024.Idx → Ideal .bf16) (g o : S1x1024.Idx → Ideal .f32) : Prop where
  first : ∀ R k, a (ix2 R k) = A R k
  second : ∀ R k, b (ix2 R k) = B R k
  rows : ∀ R k, h (ix2 R k) = H R k
  upper : ∀ k j, wa (ix2 k j) = W ⟨k.val, by omega⟩ j
  lower : ∀ k j, wb (ix2 k j) = W ⟨512 + k.val, by omega⟩ j
  gain : ∀ k, g (ix2 0 k) = G k
  offset : ∀ k, o (ix2 0 k) = O k

variable {A B : Fin 1024 → Fin 512 → EReal} {W : Fin 1024 → Fin 1024 → EReal} {H : Fin 1024 → Fin 1024 → EReal} {G O : Fin 1024 → EReal}

/-- The layer's output at row `R` of all sequences under one another. -/
def nextAt (A B : Fin 1024 → Fin 512 → EReal) (W : Fin 1024 → Fin 1024 → EReal) (H : Fin 1024 → Fin 1024 → EReal) (G O : Fin 1024 → EReal)
    (R : Fin 1024) (j : Fin 1024) : EReal := layerNorm (merged (A R) (B R) W (H R)) G O j

/-- The array's row under row `r` of block `t`. -/
def rowAt (t : ℕ) (ht : t < 4) (r : Fin 256) : Fin 1024 := ⟨256 * t + r.val, by omega⟩

variable {n x wx y wy h g b} in
/-- A block whose operands are the arrays' entries under it holds the layer's output under it. -/
theorem block_of (t : ℕ) (ht : t < 4) (r : Fin 256) (j : Fin 1024) (hx : ∀ k, x (ix2 r k) = A (rowAt t ht r) k) (hy : ∀ k, y (ix2 r k) = B (rowAt t ht r) k)
    (hh : ∀ k, h (ix2 r k) = H (rowAt t ht r) k) (hwx : ∀ k j, wx (ix2 k j) = W ⟨k.val, by omega⟩ j) (hwy : ∀ k j, wy (ix2 k j) = W ⟨512 + k.val, by omega⟩ j)
    (hg : ∀ k, g (ix2 0 k) = G k) (hb : ∀ k, b (ix2 0 k) = O k) :
    k0_pay1 (BitVec.ofNat 32 n.val) (k0_pay2 x wx y wy h g) b (ix2 r j) = nextAt A B W H G O (rowAt t ht r) j := by
  have eM : mergedRow x wx y wy h r = merged (A (rowAt t ht r)) (B (rowAt t ht r)) W (H (rowAt t ht r)) := by
    funext j; rw [mergedRow, merged]; simp only [hx, hy, hh, hwx, hwy]
  rw [block_apply, nextAt, eM, show (fun k => g (ix2 0 k)) = G from funext hg, show (fun k => b (ix2 0 k)) = O from funext hb]

section Arrays
variable {V : (c : Dev nD) → (b : Ref sig .tc) → Buf (Elt Ideal) ((c : Thread nD τ).loc b)} {c : Dev nD}

theorem at0 (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = t.val ∧ win0_7.index t 1 = 0)
    ∧ (grid0.coords t 1).val = t.val % 4 := by
  revert t; decide +kernel

theorem at2 (t : Fin cfg2.N) : (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = 0 ∧ win2_3.index t 1 = 0) ∧ (win2_4.index t 0 = 0 ∧ win2_4.index t 1 = 0)
    ∧ (win2_5.index t 0 = 0 ∧ win2_5.index t 1 = 0) ∧ (win2_6.index t 0 = 0 ∧ win2_6.index t 1 = 0) ∧ (win2_7.index t 0 = t.val ∧ win2_7.index t 1 = 0)
    ∧ (grid2.coords t 1).val = t.val % 4 := by
  revert t; decide +kernel

section Region0
variable (Q : Holds A B W H G O (V c main_v11) (V c main_v12) (V c main_v0) (V c main_v3) (V c main_v6) (V c main_v8) (V c main_v10))

include Q in
/-- A block of the operands' rows. -/
theorem rows0 (t : Fin cfg0.N) (r : Fin 256) : (∀ k, iblk0 V c 0 t (ix2 r k) = A (rowAt t.val t.isLt r) k) ∧ (∀ k, iblk0 V c 1 t (ix2 r k) = B (rowAt t.val t.isLt r) k)
    ∧ ∀ k, iblk0 V c 2 t (ix2 r k) = H (rowAt t.val t.isLt r) k :=
  ⟨fun k => by rw [← Q.first]; blk_ext [iblk0, rowAt, at0 t], fun k => by rw [← Q.second]; blk_ext [iblk0, rowAt, at0 t],
    fun k => by rw [← Q.rows]; blk_ext [iblk0, rowAt, at0 t]⟩

include Q in
/-- The operands that every block reads whole. -/
theorem whole0 (t : Fin cfg0.N) : (∀ k j, iblk0 V c 3 t (ix2 k j) = W ⟨k.val, by omega⟩ j) ∧ (∀ k j, iblk0 V c 4 t (ix2 k j) = W ⟨512 + k.val, by omega⟩ j)
    ∧ (∀ k, iblk0 V c 5 t (ix2 0 k) = G k) ∧ ∀ k, iblk0 V c 6 t (ix2 0 k) = O k :=
  ⟨fun k j => by rw [← Q.upper]; blk_ext [iblk0, at0 t], fun k j => by rw [← Q.lower]; blk_ext [iblk0, at0 t],
    fun k => by rw [← Q.gain]; blk_ext [iblk0, at0 t], fun k => by rw [← Q.offset]; blk_ext [iblk0, at0 t]⟩

include Q in
/-- The even layer's output projection. -/
theorem even_array (R : Fin 1024) (j : Fin 1024) : (dat0 V c).arrAt 7 cfg0.N (ix2 R j) = nextAt A B W H G O R j := by
  have key := (dat0 V c).arrAt_eq_of_covers 7 (fun i => nextAt A B W H G O (i 0) (i 1)) (by decide +kernel) (fun t hf y => by
    have e0 : (win0_7.blk t).view.emb y 0 = rowAt t.val t.isLt (y 0) := by apply Fin.ext; blk_simp [at0 t]; show _ = 256 * t.val + (y 0).val; omega
    have e1 : (win0_7.blk t).view.emb y 1 = y 1 := by apply Fin.ext; blk_simp [at0 t]
    have q := rows0 Q t (y 0)
    have q' := whole0 Q t
    have e := block_of (n := ⟨t.val % 4, Nat.mod_lt _ (by decide)⟩) t.val t.isLt (y 0) (y 1) q.1 q.2.1 q.2.2 q'.1 q'.2.1 q'.2.2.1 q'.2.2.2
    rw [after0_7]; frame_out
    show _ = nextAt A B W H G O ((win0_7.blk t).view.emb y 0) ((win0_7.blk t).view.emb y 1)
    rw [e0, e1, (at0 t).2.2.2.2.2.2.2.2]
    exact Eq.trans (congrArg (fun i => k0_pay1 (BitVec.ofNat 32 (t.val % 4)) (k0_pay2 (iblk0 V c 0 t) (iblk0 V c 3 t) (iblk0 V c 1 t) (iblk0 V c 4 t) (iblk0 V c 2 t) (iblk0 V c 5 t)) (iblk0 V c 6 t) i)
      (by funext a; fin_cases a <;> rfl)) e)
  rw [key]; rfl

end Region0

section Region2
variable (Q : Holds A B W H G O (V c main_v27) (V c main_v28) (V c main_v13) (V c main_v19) (V c main_v22) (V c main_v24) (V c main_v26))

include Q in
/-- A block of the operands' rows. -/
theorem rows2 (t : Fin cfg2.N) (r : Fin 256) : (∀ k, iblk2 V c 0 t (ix2 r k) = A (rowAt t.val t.isLt r) k) ∧ (∀ k, iblk2 V c 1 t (ix2 r k) = B (rowAt t.val t.isLt r) k)
    ∧ ∀ k, iblk2 V c 2 t (ix2 r k) = H (rowAt t.val t.isLt r) k :=
  ⟨fun k => by rw [← Q.first]; blk_ext [iblk2, rowAt, at2 t], fun k => by rw [← Q.second]; blk_ext [iblk2, rowAt, at2 t],
    fun k => by rw [← Q.rows]; blk_ext [iblk2, rowAt, at2 t]⟩

include Q in
/-- The operands that every block reads whole. -/
theorem whole2 (t : Fin cfg2.N) : (∀ k j, iblk2 V c 3 t (ix2 k j) = W ⟨k.val, by omega⟩ j) ∧ (∀ k j, iblk2 V c 4 t (ix2 k j) = W ⟨512 + k.val, by omega⟩ j)
    ∧ (∀ k, iblk2 V c 5 t (ix2 0 k) = G k) ∧ ∀ k, iblk2 V c 6 t (ix2 0 k) = O k :=
  ⟨fun k j => by rw [← Q.upper]; blk_ext [iblk2, at2 t], fun k j => by rw [← Q.lower]; blk_ext [iblk2, at2 t],
    fun k => by rw [← Q.gain]; blk_ext [iblk2, at2 t], fun k => by rw [← Q.offset]; blk_ext [iblk2, at2 t]⟩

include Q in
/-- The odd layer's output projection. -/
theorem odd_array (R : Fin 1024) (j : Fin 1024) : (dat2 V c).arrAt 7 cfg2.N (ix2 R j) = nextAt A B W H G O R j := by
  have key := (dat2 V c).arrAt_eq_of_covers 7 (fun i => nextAt A B W H G O (i 0) (i 1)) (by decide +kernel) (fun t hf y => by
    have e0 : (win2_7.blk t).view.emb y 0 = rowAt t.val t.isLt (y 0) := by apply Fin.ext; blk_simp [at2 t]; show _ = 256 * t.val + (y 0).val; omega
    have e1 : (win2_7.blk t).view.emb y 1 = y 1 := by apply Fin.ext; blk_simp [at2 t]
    have q := rows2 Q t (y 0)
    have q' := whole2 Q t
    have e := block_of (n := ⟨t.val % 4, Nat.mod_lt _ (by decide)⟩) t.val t.isLt (y 0) (y 1) q.1 q.2.1 q.2.2 q'.1 q'.2.1 q'.2.2.1 q'.2.2.2
    rw [after2_7]; frame_out
    show _ = nextAt A B W H G O ((win2_7.blk t).view.emb y 0) ((win2_7.blk t).view.emb y 1)
    rw [e0, e1, (at2 t).2.2.2.2.2.2.2.2]
    exact Eq.trans (congrArg (fun i => k2_pay1 (BitVec.ofNat 32 (t.val % 4)) (k2_pay2 (iblk2 V c 0 t) (iblk2 V c 3 t) (iblk2 V c 1 t) (iblk2 V c 4 t) (iblk2 V c 2 t) (iblk2 V c 5 t)) (iblk2 V c 6 t) i)
      (by funext a; fin_cases a <;> rfl)) e)
  rw [key]; rfl

end Region2

end Arrays

end Cert.Kernel4Ideal.Norm
-- ==== Proof.SampleProj.lean ====
/-
  What the arrays of the sample group's first input projection hold: the six column blocks of the product of the rows with
  the weights, and the logarithms of the forget gates, zero beyond the heads' lanes. Nothing here needs the entries to be
  finite: both sides of a product are the same sums of extended reals.
-/
module

public import proofs.«01_k».proof.Proof.SampleNorm
public import proofs.«01_k».proof.Proof.Softmax
public import proofs.«01_k».proof.Proof.Gen.Kernel3Ideal.Frame
public import Idealize.ShloMosaic.Lib.Pipeline.ValueKit

@[expose] public section

set_option maxRecDepth 16384

noncomputable section

namespace Cert.Kernel3Ideal.Proj

open Idealize.ShloMosaic Idealize.ShloMosaic.TcCoe
open Cert.Kernel3Ideal Cert.Kernel3Ideal.Gen Idealize.ShloMosaic.WordCmp

/-- The logarithm of the logistic function at an extended real, in the form that does not overflow. -/
def logSigE (z : EReal) : EReal := min z 0 - Ideal.log1p (Ideal.exp (0 - max z (-z)))

theorem pay_apply (x : Vec Ideal S256x1024 .f32) (w : Vec Ideal S1024x512 .bf16) (r : Fin 256) (l : Fin 512) :
    k0_pay4 x w (ix2 r l) = ∑ k : Fin 1024, x (ix2 r k) * w (ix2 k l) := by
  pointwise [k0_pay4, k0_pay3]

theorem gate_apply (n : Fin 4) (x : Vec Ideal S256x1024 .f32) (w : Vec Ideal S1024x128 .bf16) (b : Vec Ideal S1x128 .f32)
    (r : Fin 256) (l : Fin 128) :
    k0_pay2 (BitVec.ofNat 32 n.val) (k0_pay3 x) w b (ix2 r l)
      = if l.val < 8 then logSigE ((∑ k : Fin 1024, x (ix2 r k) * w (ix2 k l)) + b (ix2 0 l)) else 0 := by
  have e : ∀ (n : Fin 4) (r : Fin 256), IntOp.cmpi CmpIPredicate.sge (IntOp.addi (Scalar.muli (BitVec.ofNat 32 n.val) 256#32) (BitVec.ofNat 32 r.val)) 0#32
      = BitVec.ofBool (decide True) := by decide +kernel
  have e' : ∀ l : Fin 128, IntOp.cmpi CmpIPredicate.slt (BitVec.ofNat 32 l.val) 8#32 = BitVec.ofBool (decide (l.val < 8)) := by decide +kernel
  pointwise [k0_pay2, k0_pay3]
  rw [e n r, e' l, andi_ofBool, ← Bool.decide_and]
  by_cases h : l.val < 8
  · rw [if_pos h, Scalar.select]; exact if_pos ((ofBool_decide_eq_one_iff _).2 ⟨trivial, h⟩)
  · rw [if_neg h, Scalar.select]; exact if_neg (fun h' => h ((ofBool_decide_eq_one_iff _).1 h').2)

theorem rows_cast (i : grid0.Coords) (x0 : Vec Ideal S256x1024 .f32) (x1 : Vec Ideal S1024x3072 .bf16) (x2 : Vec Ideal S1024x128 .bf16) (x3 : Vec Ideal S1x128 .f32) :
    k0_pay9 i x0 x1 x2 x3 = k0_pay3 x0 := by
  exact congrArg k0_pay3 (View.ld_unit_lit (Val := Elt Ideal) (S := S256x1024) (e := .f32) _ x0 (by decide))

section Arrays
variable {m : (ℓ : Loc nD τ sig) → Buf (Elt Ideal) ℓ} {c : Dev nD}

/-- The operands of the projections: rows `A`, weights `W`, gate weights `Wf` and gate bias `b`. -/
structure Operands (m : (ℓ : Loc nD τ sig) → Buf (Elt Ideal) ℓ) (c : Dev nD)
    (A : Fin 1024 → Fin 1024 → EReal) (W : Fin 1024 → Fin 3072 → EReal) (Wf : Fin 1024 → Fin 128 → EReal) (b : Fin 128 → EReal) : Prop where
  rows : ∀ R k, V m c main_v0 (ix2 R k) = A R k
  weights : ∀ k j, V m c main_v3 (ix2 k j) = W k j
  gateWeights : ∀ k l, V m c main_v6 (ix2 k l) = Wf k l
  bias : ∀ l, V m c main_v9 (ix2 0 l) = b l

variable {A : Fin 1024 → Fin 1024 → EReal} {W : Fin 1024 → Fin 3072 → EReal} {Wf : Fin 1024 → Fin 128 → EReal} {b : Fin 128 → EReal}
  (H : Operands m c A W Wf b)

/-- The entry of the product of the rows with the weights whose column starts at `o`. -/
def column (A : Fin 1024 → Fin 1024 → EReal) (W : Fin 1024 → Fin 3072 → EReal) (o : ℕ) (ho : o ≤ 2560) (R : Fin 1024) (l : Fin 512) : EReal :=
  ∑ k : Fin 1024, A R k * W k ⟨o + l.val, by omega⟩

/-- The logarithm of the forget gate of row `R` and head `l`. -/
def gateOf (A : Fin 1024 → Fin 1024 → EReal) (Wf : Fin 1024 → Fin 128 → EReal) (b : Fin 128 → EReal) (R : Fin 1024) (l : Fin 128) : EReal :=
  if l.val < 8 then logSigE ((∑ k : Fin 1024, A R k * Wf k l) + b l) else 0

theorem idxIn (t : Fin cfg0.N) : (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (grid0.coords t 1).val = t.val % 4 := by
  revert t; decide +kernel

theorem idxOut (t : Fin cfg0.N) : (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) := by
  revert t; decide +kernel

/-- The array's row under row `r` of block `t`. -/
def rowAt (t : Fin cfg0.N) (r : Fin 256) : Fin 1024 := ⟨256 * t.val + r.val, by have : t.val < 4 := t.isLt; omega⟩

include H in
theorem blk_rows (t : Fin cfg0.N) (r : Fin 256) (k : Fin 1024) : iblk m c 0 t (ix2 r k) = A (rowAt t r) k := by
  rw [← H.rows, rowAt]; blk_ext [iblk, idxIn t]

include H in
theorem blk_weights (t : Fin cfg0.N) (k : Fin 1024) (j : Fin 3072) : iblk m c 1 t (ix2 k j) = W k j := by
  rw [← H.weights]; blk_ext [iblk, idxIn t]

include H in
theorem blk_gateWeights (t : Fin cfg0.N) (k : Fin 1024) (l : Fin 128) : iblk m c 2 t (ix2 k l) = Wf k l := by
  rw [← H.gateWeights]; blk_ext [iblk, idxIn t]

include H in
theorem blk_bias (t : Fin cfg0.N) (l : Fin 128) : iblk m c 3 t (ix2 0 l) = b l := by
  rw [← H.bias]; blk_ext [iblk, idxIn t]

include H in
/-- One block of one column block. -/
theorem block (t : Fin cfg0.N) (o : ℕ) (ho : o ≤ 2560) (w : Vec Ideal S1024x512 .bf16)
    (hw : ∀ k l, w (ix2 k l) = iblk m c 1 t (ix2 k ⟨o + l.val, by omega⟩)) (r : Fin 256) (l : Fin 512) :
    k0_pay4 (iblk m c 0 t) w (ix2 r l) = column A W o ho (rowAt t r) l := by
  refine (pay_apply _ _ r l).trans ?_
  rw [column]
  refine Finset.sum_congr rfl fun k _ => ?_
  rw [hw, blk_rows H, blk_weights H]

include H in
/-- One block of the gates. -/
theorem gate_block (t : Fin cfg0.N) (r : Fin 256) (l : Fin 128) :
    k0_pay2 (BitVec.ofNat 32 (t.val % 4)) (k0_pay3 (iblk m c 0 t)) (iblk m c 2 t) (iblk m c 3 t) (ix2 r l) = gateOf A Wf b (rowAt t r) l := by
  rw [gateOf]
  refine (gate_apply ⟨t.val % 4, by omega⟩ (iblk m c 0 t) (iblk m c 2 t) (iblk m c 3 t) r l).trans ?_
  rw [blk_bias H, Finset.sum_congr rfl fun k _ => by rw [blk_rows H, blk_gateWeights H]]

include H in
/-- The same at the array's index under `y`. -/
theorem block_at (t : Fin cfg0.N) (o : ℕ) (ho : o ≤ 2560) (w : Vec Ideal S1024x512 .bf16)
    (hw : ∀ k l, w (ix2 k l) = iblk m c 1 t (ix2 k ⟨o + l.val, by omega⟩)) (y : S256x512.Idx) (i : S1024x512.Idx)
    (h0 : (i 0).val = t.val * 256 + (y 0).val) (h1 : (i 1).val = (y 1).val) :
    k0_pay4 (iblk m c 0 t) w y = column A W o ho (i 0) (i 1) := by
  have e0 : i 0 = rowAt t (y 0) := Fin.ext (by rw [h0]; show _ = 256 * t.val + (y 0).val; omega)
  have e1 : i 1 = y 1 := Fin.ext h1
  rw [e0, e1]
  exact Eq.trans (congrArg (fun i => k0_pay4 (iblk m c 0 t) w i) (by funext a; fin_cases a <;> rfl)) (block H t o ho w hw (y 0) (y 1))

include H in
theorem u_array (R : Fin 1024) (L : Fin 512) : (dats m 0 c).arrAt 4 cfg0.N (ix2 R L) = column A W 0 (by decide) R L := by
  rw [(dats m 0 c).arrAt_eq_of_covers 4 (fun i => column A W 0 (by decide) (i 0) (i 1)) (by decide +kernel) fun t _ y => by
    rw [after0_4]; frame_out
    exact block_at H t 0 (by decide) (View.ld (iblk m c 1 t) r0_1) (fun k l => by pointwise) y
      ((win0_4.blk t).view.emb y) (by blk_simp [idxOut t]) (by blk_simp [idxOut t])]
  rfl

include H in
theorem ga_array (R : Fin 1024) (L : Fin 512) : (dats m 0 c).arrAt 5 cfg0.N (ix2 R L) = column A W 512 (by decide) R L := by
  rw [(dats m 0 c).arrAt_eq_of_covers 5 (fun i => column A W 512 (by decide) (i 0) (i 1)) (by decide +kernel) fun t _ y => by
    rw [after0_5]; frame_out
    exact block_at H t 512 (by decide) (View.ld (iblk m c 1 t) r0_3) (fun k l => by pointwise) y
      ((win0_5.blk t).view.emb y) (by blk_simp [idxOut t]) (by blk_simp [idxOut t])]
  rfl

include H in
theorem q_array (R : Fin 1024) (L : Fin 512) : (dats m 0 c).arrAt 6 cfg0.N (ix2 R L) = column A W 1024 (by decide) R L := by
  rw [(dats m 0 c).arrAt_eq_of_covers 6 (fun i => column A W 1024 (by decide) (i 0) (i 1)) (by decide +kernel) fun t _ y => by
    rw [after0_6]; frame_out
    exact block_at H t 1024 (by decide) (View.ld (iblk m c 1 t) r0_4) (fun k l => by pointwise) y
      ((win0_6.blk t).view.emb y) (by blk_simp [idxOut t]) (by blk_simp [idxOut t])]
  rfl

include H in
theorem k_array (R : Fin 1024) (L : Fin 512) : (dats m 0 c).arrAt 7 cfg0.N (ix2 R L) = column A W 1536 (by decide) R L := by
  rw [(dats m 0 c).arrAt_eq_of_covers 7 (fun i => column A W 1536 (by decide) (i 0) (i 1)) (by decide +kernel) fun t _ y => by
    rw [after0_7]; frame_out
    exact block_at H t 1536 (by decide) (View.ld (iblk m c 1 t) r0_5) (fun k l => by pointwise) y
      ((win0_7.blk t).view.emb y) (by blk_simp [idxOut t]) (by blk_simp [idxOut t])]
  rfl

include H in
theorem v_array (R : Fin 1024) (L : Fin 512) : (dats m 0 c).arrAt 8 cfg0.N (ix2 R L) = column A W 2048 (by decide) R L := by
  rw [(dats m 0 c).arrAt_eq_of_covers 8 (fun i => column A W 2048 (by decide) (i 0) (i 1)) (by decide +kernel) fun t _ y => by
    rw [after0_8]; frame_out
    exact block_at H t 2048 (by decide) (View.ld (iblk m c 1 t) r0_6) (fun k l => by pointwise) y
      ((win0_8.blk t).view.emb y) (by blk_simp [idxOut t]) (by blk_simp [idxOut t])]
  rfl

include H in
theorem gb_array (R : Fin 1024) (L : Fin 512) : (dats m 0 c).arrAt 9 cfg0.N (ix2 R L) = column A W 2560 (by decide) R L := by
  rw [(dats m 0 c).arrAt_eq_of_covers 9 (fun i => column A W 2560 (by decide) (i 0) (i 1)) (by decide +kernel) fun t _ y => by
    rw [after0_9]; frame_out; rw [rows_cast]
    exact block_at H t 2560 (by decide) (View.ld (iblk m c 1 t) r0_7) (fun k l => by pointwise) y
      ((win0_9.blk t).view.emb y) (by blk_simp [idxOut t]) (by blk_simp [idxOut t])]
  rfl

include H in
theorem lf_array (R : Fin 1024) (l : Fin 128) : (dats m 0 c).arrAt 10 cfg0.N (ix2 R l) = gateOf A Wf b R l := by
  have key := (dats m 0 c).arrAt_eq_of_covers 10 (fun i => gateOf A Wf b (i 0) (i 1)) (by decide +kernel) (fun t hf y => by
    have ht : t.val < 4 := t.isLt
    have hr : (y 0).val < 256 := (y 0).isLt
    have e0 : (win0_10.blk t).view.emb y 0 = rowAt t (y 0) := by apply Fin.ext; blk_simp [idxOut t]; show _ = 256 * t.val + (y 0).val; omega
    have e1 : (win0_10.blk t).view.emb y 1 = y 1 := by apply Fin.ext; blk_simp [idxOut t]
    rw [after0_10]; frame_out
    show _ = gateOf A Wf b ((win0_10.blk t).view.emb y 0) ((win0_10.blk t).view.emb y 1)
    rw [e0, e1, (idxIn t).2.2.2.2, rows_cast]
    exact Eq.trans (congrArg (fun i => k0_pay2 (BitVec.ofNat 32 (t.val % 4)) (k0_pay3 (iblk m c 0 t)) (iblk m c 2 t) (iblk m c 3 t) i) (by funext a; fin_cases a <;> rfl)) (gate_block H t (y 0) (y 1)))
  rw [key]; rfl

end Arrays

end Cert.Kernel3Ideal.Proj
-- ==== Proof.SampleOdd.lean ====
/-
  What the arrays of the sample group's second input projection hold: column blocks of the product of the rows with the
  weights, and the forget gate's complement and logarithm.
-/
module

public import proofs.«01_k».proof.Proof.SampleNorm

@[expose] public section

set_option maxRecDepth 16384

noncomputable section

namespace Cert.Kernel4Ideal.Odd

open Idealize.ShloMosaic Idealize.ShloMosaic.TcCoe
open Cert.Kernel4Ideal Cert.Kernel4Ideal.Gen Cert.Kernel4Ideal.Norm Cert.Odd

theorem wide_apply (x : Vec Ideal S256x1024 .f32) (w : Vec Ideal S1024x512 .bf16) (r : Fin 256) (l : Fin 512) :
    k1_pay7 x w (ix2 r l) = ∑ k : Fin 1024, x (ix2 r k) * w (ix2 k l) := by
  pointwise [k1_pay7, k1_pay4]

theorem narrow_apply (x : Vec Ideal S256x1024 .f32) (w : Vec Ideal S1024x128 .bf16) (r : Fin 256) (l : Fin 128) :
    k1_pay1 (k1_pay4 x) w (ix2 r l) = ∑ k : Fin 1024, x (ix2 r k) * w (ix2 k l) := by
  pointwise [k1_pay1, k1_pay4]

theorem lower_apply (x y : Vec Ideal S1x512 .f32) (l : Fin 512) : k1_pay5 x y (ix2 0 l) = lower (x (ix2 0 l)) (y (ix2 0 l)) := by
  pointwise [k1_pay5]
  rfl

theorem rest_apply (x y : Vec Ideal S1x512 .f32) (l : Fin 512) : k1_pay8 x y (ix2 0 l) = 1 - lower (x (ix2 0 l)) (y (ix2 0 l)) := by
  have e : ∀ s : FVec Ideal S1x512 .f32, subf (broadcast S1x512 (Scalar.ofBits (F := Ideal) .f32 0x3F800000#32)) s (ix2 0 l) = 1 - s (ix2 0 l) := fun s => by pointwise
  rw [← lower_apply]; exact e _

theorem grow_apply (x : Vec Ideal S256x1024 .f32) (w : Vec Ideal S1024x512 .bf16) (r : Fin 256) (l : Fin 512) :
    k1_pay9 x w (ix2 r l) = 1 + Ideal.exp (0 - k1_pay7 x w (ix2 r l)) := by
  rw [wide_apply]
  pointwise [k1_pay9, k1_pay4]

theorem pad_apply (i : grid1.Coords) (n : Fin 4) (hn : (i 1).val = n.val) (r : Fin 256) : k1_pay6 i (ix2 r 0) = 1#1 := by
  rw [← counted n r, ← hn]
  pointwise [k1_pay6]

variable (u v : FVec Ideal S1x512 .f32) (p : IVec S256x1 1) (e : FVec Ideal S256x512 .f32)

theorem complement_apply (r : Fin 256) (l : Fin 512) : k1_pay12 u p v e k1_pay10 (ix2 r l)
    = Scalar.select (p (ix2 r 0)) (1 - (u (ix2 0 l) + v (ix2 0 l) * Ideal.div 1 (e (ix2 r l)))) 0 := by
  pointwise [k1_pay12, k1_pay11, k1_pay10]

theorem log_apply (r : Fin 256) (l : Fin 512) : k1_pay13 u p v e k1_pay10 (ix2 r l)
    = Scalar.select (p (ix2 r 0)) (Ideal.log (u (ix2 0 l) + v (ix2 0 l) * Ideal.div 1 (e (ix2 r l)))) 0 := by
  pointwise [k1_pay13, k1_pay11, k1_pay10]

section Arrays
variable {V : (c : Dev nD) → (b : Ref sig .tc) → Buf (Elt Ideal) ((c : Thread nD τ).loc b)} {c : Dev nD}

theorem rows_cast (i : grid1.Coords) (x0 : Vec Ideal S256x1024 .f32) (x1 : Vec Ideal S1024x3328 .bf16) (x2 : Vec Ideal S2x512 .f32) :
    k1_pay17 i x0 x1 x2 = k1_pay4 x0 :=
  congrArg k1_pay4 (View.ld_unit_lit (Val := Elt Ideal) (S := S256x1024) (e := .f32) _ x0 (by decide))

theorem gate_cast (f : FVec Ideal S1x512 .f32 → IVec S256x1 1 → FVec Ideal S1x512 .f32 → FVec Ideal S256x512 .f32 → FVec Ideal S256x512 .f32 → FVec Ideal S256x512 .f32)
    (i : grid1.Coords) (x0 : Vec Ideal S256x1024 .f32) (x1 : Vec Ideal S1024x3328 .bf16) (x2 : Vec Ideal S2x512 .f32) :
    f (k1_pay18 i x0 x1 x2) (k1_pay19 i x0 x1 x2) (k1_pay20 i x0 x1 x2) (k1_pay21 i x0 x1 x2) (k1_pay22 i x0 x1 x2)
      = f (k1_pay5 (View.ld x2 r1_1) (View.ld x2 r1_2)) (k1_pay6 i) (k1_pay8 (View.ld x2 r1_1) (View.ld x2 r1_2)) (k1_pay9 x0 (View.ld x1 r1_5)) k1_pay10 :=
  congrArg (fun z => f (k1_pay5 (View.ld x2 r1_1) (View.ld x2 r1_2)) (k1_pay6 i) (k1_pay8 (View.ld x2 r1_1) (View.ld x2 r1_2)) (k1_pay9 z (View.ld x1 r1_5)) k1_pay10)
    (View.ld_unit_lit (Val := Elt Ideal) (S := S256x1024) (e := .f32) _ x0 (by decide))

/-- The operands of the odd layer's projection: rows, weights and the two layers' gate parameters. -/
structure Operands (V : (c : Dev nD) → (b : Ref sig .tc) → Buf (Elt Ideal) ((c : Thread nD τ).loc b)) (c : Dev nD)
    (H : Fin 1024 → Fin 1024 → EReal) (W : Fin 1024 → Fin 3328 → EReal) (P : Fin 2 → Fin 512 → EReal) : Prop where
  rows : ∀ R k, V c main_v13 (ix2 R k) = H R k
  weights : ∀ k j, V c main_v15 (ix2 k j) = W k j
  params : ∀ a l, V c main_arg7 (ix2 a l) = P a l

variable {H : Fin 1024 → Fin 1024 → EReal} {W : Fin 1024 → Fin 3328 → EReal} {P : Fin 2 → Fin 512 → EReal} (Q : Operands V c H W P)

theorem at1 (t : Fin cfg1.N) : (win1_0.index t 0 = t.val ∧ win1_0.index t 1 = 0) ∧ (win1_1.index t 0 = 0 ∧ win1_1.index t 1 = 0)
    ∧ (win1_2.index t 0 = 0 ∧ win1_2.index t 1 = 0) ∧ (grid1.coords t 1).val = t.val % 4 := by
  revert t; decide +kernel

theorem out1 (t : Fin cfg1.N) : (win1_3.index t 0 = t.val ∧ win1_3.index t 1 = 0) ∧ (win1_4.index t 0 = t.val ∧ win1_4.index t 1 = 0)
    ∧ (win1_5.index t 0 = t.val ∧ win1_5.index t 1 = 0) ∧ (win1_6.index t 0 = t.val ∧ win1_6.index t 1 = 0)
    ∧ (win1_7.index t 0 = t.val ∧ win1_7.index t 1 = 0) ∧ (win1_8.index t 0 = t.val ∧ win1_8.index t 1 = 0)
    ∧ (win1_9.index t 0 = t.val ∧ win1_9.index t 1 = 0) ∧ (win1_10.index t 0 = t.val ∧ win1_10.index t 1 = 0)
    ∧ (win1_11.index t 0 = t.val ∧ win1_11.index t 1 = 0) := by
  revert t; decide +kernel

include Q in
theorem blk_rows (t : Fin cfg1.N) (r : Fin 256) (k : Fin 1024) : iblk1 V c 0 t (ix2 r k) = H (rowAt t.val t.isLt r) k := by
  rw [← Q.rows]; blk_ext [iblk1, rowAt, at1 t]

include Q in
theorem blk_weights (t : Fin cfg1.N) (k : Fin 1024) (j : Fin 3328) : iblk1 V c 1 t (ix2 k j) = W k j := by
  rw [← Q.weights]; blk_ext [iblk1, at1 t]

include Q in
theorem blk_params (t : Fin cfg1.N) (a : Fin 2) (l : Fin 512) : iblk1 V c 2 t (ix2 a l) = P a l := by
  rw [← Q.params]; blk_ext [iblk1, at1 t]

/-- The entry of the column block that starts at `o`. -/
def column (H : Fin 1024 → Fin 1024 → EReal) (W : Fin 1024 → Fin 3328 → EReal) (w o : ℕ) (ho : o + w ≤ 3328) (R : Fin 1024) (l : Fin w) : EReal :=
  product (H R) W ⟨o + l.val, by omega⟩

/-- The forget gate at row `R`. -/
def gateAt (H : Fin 1024 → Fin 1024 → EReal) (W : Fin 1024 → Fin 3328 → EReal) (P : Fin 2 → Fin 512 → EReal) (R : Fin 1024) (l : Fin 512) : EReal :=
  forget (lower (P 0 l) (P 1 l)) (column H W 512 512 (by decide) R l)

include Q in
/-- One block of a column block, 512 wide. -/
theorem wide_block (t : Fin cfg1.N) (o : ℕ) (ho : o + 512 ≤ 3328) (w : Vec Ideal S1024x512 .bf16)
    (hw : ∀ k l, w (ix2 k l) = iblk1 V c 1 t (ix2 k ⟨o + l.val, by omega⟩)) (r : Fin 256) (l : Fin 512) :
    k1_pay7 (iblk1 V c 0 t) w (ix2 r l) = column H W 512 o ho (rowAt t.val t.isLt r) l := by
  rw [wide_apply, column, product]
  exact Finset.sum_congr rfl fun k _ => by rw [hw, blk_rows Q, blk_weights Q]

include Q in
/-- The same at the array's index under `y`. -/
theorem wide_at (t : Fin cfg1.N) (o : ℕ) (ho : o + 512 ≤ 3328) (w : Vec Ideal S1024x512 .bf16)
    (hw : ∀ k l, w (ix2 k l) = iblk1 V c 1 t (ix2 k ⟨o + l.val, by omega⟩)) (y : S256x512.Idx) (i : S1024x512.Idx)
    (h0 : (i 0).val = t.val * 256 + (y 0).val) (h1 : (i 1).val = (y 1).val) :
    k1_pay7 (iblk1 V c 0 t) w y = column H W 512 o ho (i 0) (i 1) := by
  have e0 : i 0 = rowAt t.val t.isLt (y 0) := Fin.ext (by rw [h0]; show _ = 256 * t.val + (y 0).val; omega)
  have e1 : i 1 = y 1 := Fin.ext h1
  rw [e0, e1]
  exact Eq.trans (congrArg (fun i => k1_pay7 (iblk1 V c 0 t) w i) (by funext a; fin_cases a <;> rfl)) (wide_block Q t o ho w hw (y 0) (y 1))

include Q in
/-- One block of a column block, 128 wide. -/
theorem narrow_block (t : Fin cfg1.N) (o : ℕ) (ho : o + 128 ≤ 3328) (w : Vec Ideal S1024x128 .bf16)
    (hw : ∀ k l, w (ix2 k l) = iblk1 V c 1 t (ix2 k ⟨o + l.val, by omega⟩)) (r : Fin 256) (l : Fin 128) :
    k1_pay1 (k1_pay4 (iblk1 V c 0 t)) w (ix2 r l) = column H W 128 o ho (rowAt t.val t.isLt r) l := by
  rw [narrow_apply, column, product]
  exact Finset.sum_congr rfl fun k _ => by rw [hw, blk_rows Q, blk_weights Q]

include Q in
/-- The same at the array's index under `y`. -/
theorem narrow_at (t : Fin cfg1.N) (o : ℕ) (ho : o + 128 ≤ 3328) (w : Vec Ideal S1024x128 .bf16)
    (hw : ∀ k l, w (ix2 k l) = iblk1 V c 1 t (ix2 k ⟨o + l.val, by omega⟩)) (y : S256x128.Idx) (i : S1024x128.Idx)
    (h0 : (i 0).val = t.val * 256 + (y 0).val) (h1 : (i 1).val = (y 1).val) :
    k1_pay1 (k1_pay4 (iblk1 V c 0 t)) w y = column H W 128 o ho (i 0) (i 1) := by
  have e0 : i 0 = rowAt t.val t.isLt (y 0) := Fin.ext (by rw [h0]; show _ = 256 * t.val + (y 0).val; omega)
  have e1 : i 1 = y 1 := Fin.ext h1
  rw [e0, e1]
  exact Eq.trans (congrArg (fun i => k1_pay1 (k1_pay4 (iblk1 V c 0 t)) w i) (by funext a; fin_cases a <;> rfl)) (narrow_block Q t o ho w hw (y 0) (y 1))

include Q in
/-- One block of the forget gate. -/
theorem gate_block (t : Fin cfg1.N) (r : Fin 256) (l : Fin 512) (u v : Vec Ideal S1x512 .f32) (w : Vec Ideal S1024x512 .bf16)
    (hu : ∀ l, u (ix2 0 l) = iblk1 V c 2 t (ix2 0 l)) (hv : ∀ l, v (ix2 0 l) = iblk1 V c 2 t (ix2 1 l))
    (hw : ∀ k l, w (ix2 k l) = iblk1 V c 1 t (ix2 k ⟨512 + l.val, by omega⟩)) :
    k1_pay5 u v (ix2 0 l) + k1_pay8 u v (ix2 0 l) * Ideal.div 1 (k1_pay9 (iblk1 V c 0 t) w (ix2 r l)) = gateAt H W P (rowAt t.val t.isLt r) l := by
  rw [lower_apply, rest_apply, grow_apply, hu, hv, blk_params Q, blk_params Q, wide_block Q t 512 (by decide) w hw r l]
  rfl

include Q in
/-- What the gate's blocks hold: `f` of the gate. -/
theorem masked_block (t : Fin cfg1.N) (f : EReal → EReal) (s : FVec Ideal S256x512 .f32) (u v : Vec Ideal S1x512 .f32) (w : Vec Ideal S1024x512 .bf16)
    (hs : ∀ r l, s (ix2 r l) = Scalar.select (k1_pay6 (grid1.coords t) (ix2 r 0))
      (f (k1_pay5 u v (ix2 0 l) + k1_pay8 u v (ix2 0 l) * Ideal.div 1 (k1_pay9 (iblk1 V c 0 t) w (ix2 r l)))) 0)
    (hu : ∀ l, u (ix2 0 l) = iblk1 V c 2 t (ix2 0 l)) (hv : ∀ l, v (ix2 0 l) = iblk1 V c 2 t (ix2 1 l))
    (hw : ∀ k l, w (ix2 k l) = iblk1 V c 1 t (ix2 k ⟨512 + l.val, by omega⟩)) (r : Fin 256) (l : Fin 512) :
    s (ix2 r l) = f (gateAt H W P (rowAt t.val t.isLt r) l) := by
  rw [hs, gate_block Q t r l u v w hu hv hw, pad_apply _ ⟨t.val % 4, Nat.mod_lt _ (by decide)⟩ (at1 t).2.2.2, select_on]

/-- `f` of the forget gate at row `R`. -/
def masked (f : EReal → EReal) (H : Fin 1024 → Fin 1024 → EReal) (W : Fin 1024 → Fin 3328 → EReal) (P : Fin 2 → Fin 512 → EReal) (R : Fin 1024) (l : Fin 512) : EReal :=
  f (gateAt H W P R l)

include Q in
/-- The same at the array's index under `y`. -/
theorem masked_at (t : Fin cfg1.N) (f : EReal → EReal) (s : FVec Ideal S256x512 .f32) (u v : Vec Ideal S1x512 .f32) (w : Vec Ideal S1024x512 .bf16)
    (hs : ∀ r l, s (ix2 r l) = Scalar.select (k1_pay6 (grid1.coords t) (ix2 r 0))
      (f (k1_pay5 u v (ix2 0 l) + k1_pay8 u v (ix2 0 l) * Ideal.div 1 (k1_pay9 (iblk1 V c 0 t) w (ix2 r l)))) 0)
    (hu : ∀ l, u (ix2 0 l) = iblk1 V c 2 t (ix2 0 l)) (hv : ∀ l, v (ix2 0 l) = iblk1 V c 2 t (ix2 1 l))
    (hw : ∀ k l, w (ix2 k l) = iblk1 V c 1 t (ix2 k ⟨512 + l.val, by omega⟩)) (y : S256x512.Idx) (i : S1024x512.Idx)
    (h0 : (i 0).val = t.val * 256 + (y 0).val) (h1 : (i 1).val = (y 1).val) :
    s y = masked f H W P (i 0) (i 1) := by
  have e0 : i 0 = rowAt t.val t.isLt (y 0) := Fin.ext (by rw [h0]; show _ = 256 * t.val + (y 0).val; omega)
  have e1 : i 1 = y 1 := Fin.ext h1
  rw [e0, e1]
  exact Eq.trans (congrArg s (by funext a; fin_cases a <;> rfl)) (masked_block Q t f s u v w hs hu hv hw (y 0) (y 1))

include Q in
theorem q_array (R : Fin 1024) (L : Fin 512) : (dat1 V c).arrAt 3 cfg1.N (ix2 R L) = column H W 512 0 (by decide) R L := by
  rw [(dat1 V c).arrAt_eq_of_covers 3 (fun i => column H W 512 0 (by decide) (i 0) (i 1)) (by decide +kernel) fun t _ y => by
    rw [after1_3]; frame_out
    exact wide_at Q t 0 (by decide) (View.ld (iblk1 V c 1 t) r1_3) (fun k l => by pointwise) y
      ((win1_3.blk t).view.emb y) (by blk_simp [out1 t]) (by blk_simp [out1 t])]
  rfl

include Q in
theorem i_array (R : Fin 1024) (L : Fin 512) : (dat1 V c).arrAt 6 cfg1.N (ix2 R L) = column H W 512 1024 (by decide) R L := by
  rw [(dat1 V c).arrAt_eq_of_covers 6 (fun i => column H W 512 1024 (by decide) (i 0) (i 1)) (by decide +kernel) fun t _ y => by
    rw [after1_6]; frame_out; rw [rows_cast]
    exact wide_at Q t 1024 (by decide) (View.ld (iblk1 V c 1 t) r1_6) (fun k l => by pointwise) y
      ((win1_6.blk t).view.emb y) (by blk_simp [out1 t]) (by blk_simp [out1 t])]
  rfl

include Q in
theorem g_array (R : Fin 1024) (L : Fin 512) : (dat1 V c).arrAt 7 cfg1.N (ix2 R L) = column H W 512 1536 (by decide) R L := by
  rw [(dat1 V c).arrAt_eq_of_covers 7 (fun i => column H W 512 1536 (by decide) (i 0) (i 1)) (by decide +kernel) fun t _ y => by
    rw [after1_7]; frame_out; rw [rows_cast]
    exact wide_at Q t 1536 (by decide) (View.ld (iblk1 V c 1 t) r1_7) (fun k l => by pointwise) y
      ((win1_7.blk t).view.emb y) (by blk_simp [out1 t]) (by blk_simp [out1 t])]
  rfl

include Q in
theorem wq_array (R : Fin 1024) (L : Fin 512) : (dat1 V c).arrAt 8 cfg1.N (ix2 R L) = column H W 512 2048 (by decide) R L := by
  rw [(dat1 V c).arrAt_eq_of_covers 8 (fun i => column H W 512 2048 (by decide) (i 0) (i 1)) (by decide +kernel) fun t _ y => by
    rw [after1_8]; frame_out; rw [rows_cast]
    exact wide_at Q t 2048 (by decide) (View.ld (iblk1 V c 1 t) r1_8) (fun k l => by pointwise) y
      ((win1_8.blk t).view.emb y) (by blk_simp [out1 t]) (by blk_simp [out1 t])]
  rfl

include Q in
theorem wk_array (R : Fin 1024) (L : Fin 128) : (dat1 V c).arrAt 9 cfg1.N (ix2 R L) = column H W 128 2560 (by decide) R L := by
  rw [(dat1 V c).arrAt_eq_of_covers 9 (fun i => column H W 128 2560 (by decide) (i 0) (i 1)) (by decide +kernel) fun t _ y => by
    rw [after1_9]; frame_out; rw [rows_cast]
    exact narrow_at Q t 2560 (by decide) (View.ld (iblk1 V c 1 t) r1_9) (fun k l => by pointwise) y
      ((win1_9.blk t).view.emb y) (by blk_simp [out1 t]) (by blk_simp [out1 t])]
  rfl

include Q in
theorem wv_array (R : Fin 1024) (L : Fin 128) : (dat1 V c).arrAt 10 cfg1.N (ix2 R L) = column H W 128 2688 (by decide) R L := by
  rw [(dat1 V c).arrAt_eq_of_covers 10 (fun i => column H W 128 2688 (by decide) (i 0) (i 1)) (by decide +kernel) fun t _ y => by
    rw [after1_10]; frame_out; rw [rows_cast]
    exact narrow_at Q t 2688 (by decide) (View.ld (iblk1 V c 1 t) r1_11) (fun k l => by pointwise) y
      ((win1_10.blk t).view.emb y) (by blk_simp [out1 t]) (by blk_simp [out1 t])]
  rfl

include Q in
theorem wg_array (R : Fin 1024) (L : Fin 512) : (dat1 V c).arrAt 11 cfg1.N (ix2 R L) = column H W 512 2816 (by decide) R L := by
  rw [(dat1 V c).arrAt_eq_of_covers 11 (fun i => column H W 512 2816 (by decide) (i 0) (i 1)) (by decide +kernel) fun t _ y => by
    rw [after1_11]; frame_out; rw [rows_cast]
    exact wide_at Q t 2816 (by decide) (View.ld (iblk1 V c 1 t) r1_12) (fun k l => by pointwise) y
      ((win1_11.blk t).view.emb y) (by blk_simp [out1 t]) (by blk_simp [out1 t])]
  rfl

include Q in
theorem kc_array (R : Fin 1024) (L : Fin 512) : (dat1 V c).arrAt 4 cfg1.N (ix2 R L) = masked (fun z => 1 - z) H W P R L := by
  rw [(dat1 V c).arrAt_eq_of_covers 4 (fun i => masked (fun z => 1 - z) H W P (i 0) (i 1)) (by decide +kernel) fun t _ y => by
    rw [after1_4]; frame_out; rw [gate_cast k1_pay12]
    exact masked_at Q t (fun z => 1 - z) _ (View.ld (iblk1 V c 2 t) r1_1) (View.ld (iblk1 V c 2 t) r1_2) (View.ld (iblk1 V c 1 t) r1_5)
      (fun r l => complement_apply _ _ _ _ r l) (fun l => by pointwise) (fun l => by pointwise) (fun k l => by pointwise) y
      ((win1_4.blk t).view.emb y) (by blk_simp [out1 t]) (by blk_simp [out1 t])]
  rfl

include Q in
theorem lf_array (R : Fin 1024) (L : Fin 512) : (dat1 V c).arrAt 5 cfg1.N (ix2 R L) = masked Ideal.log H W P R L := by
  rw [(dat1 V c).arrAt_eq_of_covers 5 (fun i => masked Ideal.log H W P (i 0) (i 1)) (by decide +kernel) fun t _ y => by
    rw [after1_5]; frame_out; rw [gate_cast k1_pay13]
    exact masked_at Q t Ideal.log _ (View.ld (iblk1 V c 2 t) r1_1) (View.ld (iblk1 V c 2 t) r1_2) (View.ld (iblk1 V c 1 t) r1_5)
      (fun r l => log_apply _ _ _ _ r l) (fun l => by pointwise) (fun l => by pointwise) (fun k l => by pointwise) y
      ((win1_5.blk t).view.emb y) (by blk_simp [out1 t]) (by blk_simp [out1 t])]
  rfl

end Arrays

end Cert.Kernel4Ideal.Odd
-- ==== Proof.SampleKernel.lean ====
/-
  The sample group's results of the second kernel's calls: its host lines' operands, the three calls one after the other, and the arrays they leave.
-/
module

public import proofs.«01_k».proof.Proof.SampleOdd
public import Idealize.ShloMosaic.Lib.StableHlo.ReadAt

@[expose] public section

set_option maxRecDepth 16384

noncomputable section

namespace Cert.Kernel4Ideal.Value

open Idealize.ShloMosaic Idealize.ShloMosaic.TcCoe Idealize.ShloMosaic.StableHlo
open Cert.Kernel4Ideal Cert.Kernel4Ideal.Gen Cert.Kernel4Ideal.Norm Cert.Kernel4Ideal.Odd Cert.Odd

/-- The rows of all sequences under one another. -/
def flat {d : ℕ} (a : Fin 128 → Fin 8 → Fin d → EReal) (R : Fin 1024) (k : Fin d) : EReal := a ⟨R.val / 8, by omega⟩ ⟨R.val % 8, by omega⟩ k

/-- The arguments hold the branches' rows `A0`, `A1`, `A8`, `A9`, the layer's input `H`, the output projections' weights `WE`, `WL`, the norms' gains and
    offsets, the odd layer's weights `WP`, its gate parameters `P` and the window's cached keys and values `CK`, `CV`. -/
structure Inputs (m : (ℓ : Loc nD τ sig) → Buf (Elt Ideal) ℓ) (c : Dev nD) (A0 A1 A8 A9 : Fin 128 → Fin 8 → Fin 512 → EReal) (H : Fin 128 → Fin 8 → Fin 1024 → EReal)
    (WE WL : Fin 1024 → Fin 1024 → EReal) (G4 O5 G11 O12 : Fin 1024 → EReal) (WP : Fin 1024 → Fin 3328 → EReal) (P : Fin 2 → Fin 512 → EReal)
    (CK CV : Fin 128 → Fin 128 → Fin 2 → Fin 64 → EReal) : Prop where
  i0 : ∀ n s k, m ((c : Thread nD τ).loc main_arg0) (ix3 n s k) = A0 n s k
  i1 : ∀ n s k, m ((c : Thread nD τ).loc main_arg1) (ix3 n s k) = A1 n s k
  i2 : ∀ n s k, m ((c : Thread nD τ).loc main_arg2) (ix3 n s k) = H n s k
  i3 : ∀ k j, m ((c : Thread nD τ).loc main_arg3) (ix3 0 k j) = WE k j
  i4 : ∀ k, m ((c : Thread nD τ).loc main_arg4) (ix2 0 k) = G4 k
  i5 : ∀ k, m ((c : Thread nD τ).loc main_arg5) (ix2 0 k) = O5 k
  i6 : ∀ k j, m ((c : Thread nD τ).loc main_arg6) (ix3 0 k j) = WP k j
  i7 : ∀ a l, m ((c : Thread nD τ).loc main_arg7) (ix2 a l) = P a l
  i8 : ∀ n s k, m ((c : Thread nD τ).loc main_arg10) (ix3 n s k) = A8 n s k
  i9 : ∀ n s k, m ((c : Thread nD τ).loc main_arg11) (ix3 n s k) = A9 n s k
  i10 : ∀ k j, m ((c : Thread nD τ).loc main_arg12) (ix3 0 k j) = WL k j
  i11 : ∀ k, m ((c : Thread nD τ).loc main_arg13) (ix2 0 k) = G11 k
  i12 : ∀ k, m ((c : Thread nD τ).loc main_arg14) (ix2 0 k) = O12 k
  keys : ∀ n s a d, m ((c : Thread nD τ).loc main_arg8) (ix5 0 n s a d) = CK n s a d
  values : ∀ n s a d, m ((c : Thread nD τ).loc main_arg9) (ix5 0 n s a d) = CV n s a d

variable {m : (ℓ : Loc nD τ sig) → Buf (Elt Ideal) ℓ} {ρ : Dev nD → PrngReg} {c : Dev nD}
  {A0 A1 A8 A9 : Fin 128 → Fin 8 → Fin 512 → EReal} {H : Fin 128 → Fin 8 → Fin 1024 → EReal}
  {WE WL : Fin 1024 → Fin 1024 → EReal} {G4 O5 G11 O12 : Fin 1024 → EReal} {WP : Fin 1024 → Fin 3328 → EReal} {P : Fin 2 → Fin 512 → EReal}
  {CK CV : Fin 128 → Fin 128 → Fin 2 → Fin 64 → EReal}
  (I : Inputs m c A0 A1 A8 A9 H WE WL G4 O5 G11 O12 WP P CK CV)

include I in
theorem even_holds : Holds (flat A0) (flat A1) WE (flat H) G4 O5
    (V1 m ρ c main_v11) (V1 m ρ c main_v12) (V1 m ρ c main_v0) (V1 m ρ c main_v3) (V1 m ρ c main_v6) (V1 m ρ c main_v8) (V1 m ρ c main_v10) where
  first R k := by
    rw [flat, ← I.i0]
    show W1 m ρ c (Proc.devRef .tc main_v11) (ix2 R k) = _
    unfold W1
    after_reads_at
  second R k := by
    rw [flat, ← I.i1]
    show W1 m ρ c (Proc.devRef .tc main_v12) (ix2 R k) = _
    unfold W1
    after_reads_at
  rows R k := by
    rw [flat, ← I.i2]
    show W1 m ρ c (Proc.devRef .tc main_v0) (ix2 R k) = _
    unfold W1
    after_reads_at
  upper k j := by
    rw [← I.i3]
    show W1 m ρ c (Proc.devRef .tc main_v3) (ix2 k j) = _
    unfold W1
    after_reads_at
  lower k j := by
    rw [← I.i3]
    show W1 m ρ c (Proc.devRef .tc main_v6) (ix2 k j) = _
    unfold W1
    after_reads_at
  gain k := by
    rw [← I.i4]
    show W1 m ρ c (Proc.devRef .tc main_v8) (ix2 0 k) = _
    unfold W1
    after_reads_at
  offset k := by
    rw [← I.i5]
    show W1 m ρ c (Proc.devRef .tc main_v10) (ix2 0 k) = _
    unfold W1
    after_reads_at

/-- The odd layer's input. -/
def oddIn (A0 A1 : Fin 128 → Fin 8 → Fin 512 → EReal) (H : Fin 128 → Fin 8 → Fin 1024 → EReal) (WE : Fin 1024 → Fin 1024 → EReal) (G4 O5 : Fin 1024 → EReal) :
    Fin 1024 → Fin 1024 → EReal := nextAt (flat A0) (flat A1) WE (flat H) G4 O5

include I in
theorem at_in (R : Fin 1024) (k : Fin 1024) : W2 m ρ c (Proc.devRef .tc main_v13) (ix2 R k) = oddIn A0 A1 H WE G4 O5 R k :=
  (congrFun (W2_arr m ρ c 7) _).trans (even_array (even_holds I) R k)

include I in
theorem odd_operands : Operands (V3 m ρ) c (oddIn A0 A1 H WE G4 O5) WP P where
  rows R k := (congrFun (W3_of m ρ c main_v13 (by decide)) _).trans (at_in I R k)
  weights k j := by
    rw [← I.i6]
    show W3 m ρ c (Proc.devRef .tc main_v15) (ix2 k j) = _
    unfold W3
    after_reads_at
    exact congrFun (W2_args m ρ c main_arg6 (by decide)) _
  params a l := (congrFun (W3_args m ρ c main_arg7 (by decide)) _).trans (I.i7 a l)

include I in
theorem odd_holds : Holds (flat A8) (flat A9) WL (oddIn A0 A1 H WE G4 O5) G11 O12
    (V5 m ρ c main_v27) (V5 m ρ c main_v28) (V5 m ρ c main_v13) (V5 m ρ c main_v19) (V5 m ρ c main_v22) (V5 m ρ c main_v24) (V5 m ρ c main_v26) where
  first R k := by
    rw [flat, ← I.i8]
    show W5 m ρ c (Proc.devRef .tc main_v27) (ix2 R k) = _
    unfold W5
    after_reads_at
    exact congrFun (W4_args m ρ c main_arg10 (by decide)) _
  second R k := by
    rw [flat, ← I.i9]
    show W5 m ρ c (Proc.devRef .tc main_v28) (ix2 R k) = _
    unfold W5
    after_reads_at
    exact congrFun (W4_args m ρ c main_arg11 (by decide)) _
  rows R k := (congrFun ((W5_of m ρ c main_v13 (by decide)).trans ((W4_of m ρ c main_v13 (by decide)).trans (W3_of m ρ c main_v13 (by decide)))) _).trans (at_in I R k)
  upper k j := by
    rw [← I.i10]
    show W5 m ρ c (Proc.devRef .tc main_v19) (ix2 k j) = _
    unfold W5
    after_reads_at
    exact congrFun (W4_args m ρ c main_arg12 (by decide)) _
  lower k j := by
    rw [← I.i10]
    show W5 m ρ c (Proc.devRef .tc main_v22) (ix2 k j) = _
    unfold W5
    after_reads_at
    exact congrFun (W4_args m ρ c main_arg12 (by decide)) _
  gain k := by
    rw [← I.i11]
    show W5 m ρ c (Proc.devRef .tc main_v24) (ix2 0 k) = _
    unfold W5
    after_reads_at
    exact congrFun (W4_args m ρ c main_arg13 (by decide)) _
  offset k := by
    rw [← I.i12]
    show W5 m ρ c (Proc.devRef .tc main_v26) (ix2 0 k) = _
    unfold W5
    after_reads_at
    exact congrFun (W4_args m ρ c main_arg14 (by decide)) _

/-- Row `t` of sequence `n` among the rows under one another. -/
def rowIn (n : Fin 128) (t : ℕ) (ht : t < 8) : Fin 1024 := ⟨n.val * 8 + t, by omega⟩

include I in
theorem out_final (n : Fin 128) (t : Fin 8) (j : Fin 1024) : W7 m ρ c (Proc.devRef .tc main_v40) (ix3 n t j)
    = nextAt (flat A8) (flat A9) WL (oddIn A0 A1 H WE G4 O5) G11 O12 (rowIn n t.val t.isLt) j := by
  unfold W7
  after_reads_at
  exact (congrFun (W6_arr m ρ c 7) _).trans (odd_array (odd_holds I) (rowIn n t.val t.isLt) j)

/-- An array that the odd layer's projection leaves stays until the last host lines. -/
theorem kept (r : Ref sig .tc) (h1 : r ∉ hostOps2_W) (h2 : ∀ w : Fin cfg2.W, Pipeline.arrRef spec2 w = r → (cfg2.win w).isOut = false) :
    W6 m ρ c (Proc.devRef .tc r) = W4 m ρ c (Proc.devRef .tc r) := (W6_of m ρ c r h2).trans (W5_of m ρ c r h1)

variable (n : Fin 128) (t : Fin 8) (l : Fin 512)

include I in
theorem out_q : W7 m ρ c (Proc.devRef .tc main_v41) (ix3 n t l) = column (oddIn A0 A1 H WE G4 O5) WP 512 0 (by decide) (rowIn n t.val t.isLt) l := by
  unfold W7
  after_reads_at
  exact (congrFun ((kept main_v16_0 (by decide) (by decide)).trans (W4_arr m ρ c 3)) _).trans (q_array (odd_operands I) (rowIn n t.val t.isLt) l)
include I in
theorem out_k : W7 m ρ c (Proc.devRef .tc main_v42) (ix3 n t l) = masked (fun z => 1 - z) (oddIn A0 A1 H WE G4 O5) WP P (rowIn n t.val t.isLt) l := by
  unfold W7
  after_reads_at
  exact (congrFun ((kept main_v16_1 (by decide) (by decide)).trans (W4_arr m ρ c 4)) _).trans (kc_array (odd_operands I) (rowIn n t.val t.isLt) l)
include I in
theorem out_lf : W7 m ρ c (Proc.devRef .tc main_v43) (ix3 n t l) = masked Ideal.log (oddIn A0 A1 H WE G4 O5) WP P (rowIn n t.val t.isLt) l := by
  unfold W7
  after_reads_at
  exact (congrFun ((kept main_v16_2 (by decide) (by decide)).trans (W4_arr m ρ c 5)) _).trans (lf_array (odd_operands I) (rowIn n t.val t.isLt) l)
include I in
theorem out_i : W7 m ρ c (Proc.devRef .tc main_v44) (ix3 n t l) = column (oddIn A0 A1 H WE G4 O5) WP 512 1024 (by decide) (rowIn n t.val t.isLt) l := by
  unfold W7
  after_reads_at
  exact (congrFun ((kept main_v16_3 (by decide) (by decide)).trans (W4_arr m ρ c 6)) _).trans (i_array (odd_operands I) (rowIn n t.val t.isLt) l)
include I in
theorem out_g : W7 m ρ c (Proc.devRef .tc main_v45) (ix3 n t l) = column (oddIn A0 A1 H WE G4 O5) WP 512 1536 (by decide) (rowIn n t.val t.isLt) l := by
  unfold W7
  after_reads_at
  exact (congrFun ((kept main_v16_4 (by decide) (by decide)).trans (W4_arr m ρ c 7)) _).trans (g_array (odd_operands I) (rowIn n t.val t.isLt) l)
include I in
theorem out_wq : W7 m ρ c (Proc.devRef .tc main_v46) (ix3 n t l) = column (oddIn A0 A1 H WE G4 O5) WP 512 2048 (by decide) (rowIn n t.val t.isLt) l := by
  unfold W7
  after_reads_at
  exact (congrFun ((kept main_v16_5 (by decide) (by decide)).trans (W4_arr m ρ c 8)) _).trans (wq_array (odd_operands I) (rowIn n t.val t.isLt) l)
include I in
theorem out_wg : W7 m ρ c (Proc.devRef .tc main_v47) (ix3 n t l) = column (oddIn A0 A1 H WE G4 O5) WP 512 2816 (by decide) (rowIn n t.val t.isLt) l := by
  unfold W7
  after_reads_at
  exact (congrFun ((kept main_v16_8 (by decide) (by decide)).trans (W4_arr m ρ c 11)) _).trans (wg_array (odd_operands I) (rowIn n t.val t.isLt) l)

variable (a : Fin 2) (d : Fin 64)

include I in
/-- The window keeps the cached keys but for the oldest. -/
theorem out_oldKeys (s : Fin 120) : W7 m ρ c (Proc.devRef .tc main_v35) (ix5 0 n ⟨s.val, by omega⟩ a d) = CK n ⟨8 + s.val, by omega⟩ a d := by
  rw [← I.keys]
  unfold W7
  after_reads_at
  rw [dif_pos (show 8 + s.val < 128 by omega)]
  after_reads_at
  exact congrFun (W6_args m ρ c main_arg8 (by decide)) _
include I in
theorem out_newKeys : W7 m ρ c (Proc.devRef .tc main_v35) (ix5 0 n ⟨120 + t.val, by omega⟩ a d)
    = column (oddIn A0 A1 H WE G4 O5) WP 128 2560 (by decide) (rowIn n t.val t.isLt) ⟨a.val * 64 + d.val, by omega⟩ := by
  unfold W7
  after_reads_at
  rw [dif_neg (show ¬ 8 + (120 + t.val) < 128 by omega)]
  after_reads_at
  have e : 8 + (120 + t.val) - 128 = t.val := by omega
  simp only [e]
  exact (congrFun ((kept main_v16_6 (by decide) (by decide)).trans (W4_arr m ρ c 9)) _).trans (wk_array (odd_operands I) (rowIn n t.val t.isLt) _)
include I in
/-- The window keeps the cached values but for the oldest. -/
theorem out_oldValues (s : Fin 120) : W7 m ρ c (Proc.devRef .tc main_v39) (ix5 0 n ⟨s.val, by omega⟩ a d) = CV n ⟨8 + s.val, by omega⟩ a d := by
  rw [← I.values]
  unfold W7
  after_reads_at
  rw [dif_pos (show 8 + s.val < 128 by omega)]
  after_reads_at
  exact congrFun (W6_args m ρ c main_arg9 (by decide)) _
include I in
theorem out_newValues : W7 m ρ c (Proc.devRef .tc main_v39) (ix5 0 n ⟨120 + t.val, by omega⟩ a d)
    = column (oddIn A0 A1 H WE G4 O5) WP 128 2688 (by decide) (rowIn n t.val t.isLt) ⟨a.val * 64 + d.val, by omega⟩ := by
  unfold W7
  after_reads_at
  rw [dif_neg (show ¬ 8 + (120 + t.val) < 128 by omega)]
  after_reads_at
  have e : 8 + (120 + t.val) - 128 = t.val := by omega
  simp only [e]
  exact (congrFun ((kept main_v16_7 (by decide) (by decide)).trans (W4_arr m ρ c 10)) _).trans (wv_array (odd_operands I) (rowIn n t.val t.isLt) _)

end Cert.Kernel4Ideal.Value
-- ==== Proof.SampleProjKernel.lean ====
/-
  The sample group's call of the first input projection: its host lines' operands, the run, and the results its last
  lines read off the call's arrays.
-/
module

public import proofs.«01_k».proof.Proof.SampleProj
public import proofs.«01_k».proof.Proof.SampleKernel

@[expose] public section

set_option maxRecDepth 16384

noncomputable section

namespace Cert.Kernel3Ideal.Value

open Idealize.ShloMosaic Idealize.ShloMosaic.TcCoe Idealize.ShloMosaic.StableHlo
open Cert.Kernel3Ideal Cert.Kernel3Ideal.Gen Cert.Kernel3Ideal.Proj
open Cert.Kernel4Ideal.Value (flat rowIn)

/-- Lines one list after another. -/
theorem after_two {F : FTy → Type} [FloatOps F] (l l' : List (HloOp τ sig (Elt F))) (V : Valuation τ sig (Elt F)) :
    StableHlo.after (l ++ l') V = StableHlo.after l' (StableHlo.after l V) := by
  induction l generalizing V with
  | nil => rfl
  | cons a l ih => rw [List.cons_append, StableHlo.after_cons, StableHlo.after_cons, ih]

section Run
variable {F : FTy → Type} [FloatOps F] (m : (ℓ : Loc nD τ sig) → Buf (Elt F) ℓ) (ρ : Dev nD → PrngReg) (c : Dev nD)

/-- What the lines before the call leave, one group of them after another. -/
theorem entry_eq : V0 m c = StableHlo.after hostOps0_3 (StableHlo.after hostOps0_2 (StableHlo.after hostOps0_1 (StableHlo.after hostOps0 (fun b => m (c, b))))) := by
  rw [V0, List.flatten_cons, List.flatten_cons, List.flatten_cons, List.flatten_cons, List.flatten_nil, List.append_nil, after_two, after_two, after_two]

/-- The arrays once the call has ended. -/
def left : Valuation τ sig (Elt F) := Pipeline.withArrays spec0 c (V0 m c) fun w => (dats m 0 c).arrAt w cfg0.N

theorem left_arr (w : Fin 11) : left m c (Proc.devRef .tc (Pipeline.arrRef spec0 w)) = (dats m 0 c).arrAt w cfg0.N :=
  Pipeline.withArrays_arr spec0 (by decide) c _ _ w

/-- The arrays once the last lines have run. -/
def final : Valuation τ sig (Elt F) := StableHlo.after hostOps1 (left m c)

/-- Every array the call does not stage ends at what the last lines leave. -/
theorem run : θ_run defs (onTc (τ := τ) (main (F := F))) ⟨m, fun _ => 0, ρ⟩ (fun r => ∀ c : Dev nD, ∀ b ∈ Pipeline.restRefs sig spec0,
    r.2.mem ((c.tc : Thread nD τ).loc b) = final m c (Proc.devRef .tc b)) :=
  (θ_run defs _ _).mono (fun r h c b hb => ((h c).2 b hb).trans (by
    unfold Pipeline.afterTail₀
    rw [List.flatten_cons, List.flatten_nil, List.append_nil]
    rfl)) (run_main m ρ)

end Run

/-- The arguments hold the rows `X`, the cached positions `C`, the weights `W` and the gates' bias `B`. -/
structure Inputs (m : (ℓ : Loc nD τ sig) → Buf (Elt Ideal) ℓ) (c : Dev nD) (X : Fin 128 → Fin 8 → Fin 1024 → EReal)
    (C : Fin 128 → Fin 15 → Fin 512 → EReal) (W : Fin 1024 → Fin 3080 → EReal) (B : Fin 8 → EReal) : Prop where
  rows : ∀ n s k, m ((c : Thread nD τ).loc main_arg0) (ix3 n s k) = X n s k
  cached : ∀ n s l, m ((c : Thread nD τ).loc main_arg1) (ix4 0 n s l) = C n s l
  weights : ∀ k j, m ((c : Thread nD τ).loc main_arg2) (ix3 0 k j) = W k j
  bias : ∀ h, m ((c : Thread nD τ).loc main_arg3) (ix2 0 h) = B h

/-- The first six column blocks of the weights. -/
def mainW (W : Fin 1024 → Fin 3080 → EReal) (k : Fin 1024) (j : Fin 3072) : EReal := W k ⟨j.val, by omega⟩
/-- The gates' weights, zero beyond the heads. -/
def gateW (W : Fin 1024 → Fin 3080 → EReal) (k : Fin 1024) (l : Fin 128) : EReal := if h : l.val < 8 then W k ⟨3072 + l.val, by omega⟩ else 0
/-- The gates' bias, zero beyond the heads. -/
def gateB (B : Fin 8 → EReal) (l : Fin 128) : EReal := if h : l.val < 8 then B ⟨l.val, h⟩ else 0

variable {m : (ℓ : Loc nD τ sig) → Buf (Elt Ideal) ℓ} {c : Dev nD} {X : Fin 128 → Fin 8 → Fin 1024 → EReal}
  {C : Fin 128 → Fin 15 → Fin 512 → EReal} {W : Fin 1024 → Fin 3080 → EReal} {B : Fin 8 → EReal} (I : Inputs m c X C W B)

theorem no_pad : (sitofp (F := Ideal) .f32 (constantI S_ 32 0#32) : FVec Ideal S_ .f32) (Shape.Idx.first h_S_) = 0 := by
  show (((0 : ℤ) : ℝ) : EReal) = 0
  simp

include I in
theorem operands : Operands m c (flat X) (mainW W) (gateW W) (gateB B) where
  rows R k := by
    rw [flat, ← I.rows]
    show V0 m c (Proc.devRef .tc main_v0) (ix2 R k) = _
    rw [entry_eq]
    after_reads_at
  weights k j := by
    rw [mainW, ← I.weights]
    show V0 m c (Proc.devRef .tc main_v3) (ix2 k j) = _
    rw [entry_eq]
    after_reads_at
  gateWeights k l := by
    rw [gateW]
    show V0 m c (Proc.devRef .tc main_v6) (ix2 k l) = _
    rw [entry_eq]
    after_reads_at
    split
    · exact I.weights k _
    · exact no_pad
  bias l := by
    rw [gateB]
    show V0 m c (Proc.devRef .tc main_v9) (ix2 0 l) = _
    rw [entry_eq]
    after_reads_at
    split
    · exact I.bias _
    · exact no_pad

variable (n : Fin 128) (t : Fin 8) (l : Fin 512)

/-- A column block of the projections. -/
def col (X : Fin 128 → Fin 8 → Fin 1024 → EReal) (W : Fin 1024 → Fin 3080 → EReal) (o : ℕ) (ho : o ≤ 2560) (n : Fin 128) (t : Fin 8) (l : Fin 512) : EReal :=
  column (flat X) (mainW W) o ho (rowIn n t.val t.isLt) l

include I in
theorem out_ga : final m c (Proc.devRef .tc main_v23) (ix3 n t l) = col X W 512 (by decide) n t l := by
  unfold final
  after_reads_at
  exact (congrFun (left_arr m c 5) _).trans (ga_array (operands I) (rowIn n t.val t.isLt) l)
include I in
theorem out_q : final m c (Proc.devRef .tc main_v24) (ix3 n t l) = col X W 1024 (by decide) n t l := by
  unfold final
  after_reads_at
  exact (congrFun (left_arr m c 6) _).trans (q_array (operands I) (rowIn n t.val t.isLt) l)
include I in
theorem out_gb : final m c (Proc.devRef .tc main_v25) (ix3 n t l) = col X W 2560 (by decide) n t l := by
  unfold final
  after_reads_at
  exact (congrFun (left_arr m c 9) _).trans (gb_array (operands I) (rowIn n t.val t.isLt) l)

variable (h : Fin 8) (d : Fin 64)

include I in
theorem out_k : final m c (Proc.devRef .tc main_v17) (ix5 0 n t h d) = col X W 1536 (by decide) n t ⟨h.val * 64 + d.val, by omega⟩ := by
  unfold final
  after_reads_at
  exact (congrFun (left_arr m c 7) _).trans (k_array (operands I) (rowIn n t.val t.isLt) ⟨h.val * 64 + d.val, by omega⟩)
include I in
theorem out_v : final m c (Proc.devRef .tc main_v19) (ix5 0 n t h d) = col X W 2048 (by decide) n t ⟨h.val * 64 + d.val, by omega⟩ := by
  unfold final
  after_reads_at
  exact (congrFun (left_arr m c 8) _).trans (v_array (operands I) (rowIn n t.val t.isLt) ⟨h.val * 64 + d.val, by omega⟩)
include I in
theorem out_lf : final m c (Proc.devRef .tc main_v22) (ix4 0 n t h) = gateOf (flat X) (gateW W) (gateB B) (rowIn n t.val t.isLt) ⟨h.val, by omega⟩ := by
  unfold final
  after_reads_at
  exact (congrFun (left_arr m c 10) _).trans (lf_array (operands I) (rowIn n t.val t.isLt) ⟨h.val, by omega⟩)

include I in
/-- The pool keeps the cached positions but for the oldest. -/
theorem out_old (s : Fin 7) : final m c (Proc.devRef .tc main_v15) (ix4 0 n ⟨s.val, by omega⟩ l) = C n ⟨8 + s.val, by omega⟩ l := by
  rw [← I.cached]
  unfold final
  after_reads_at
  rw [dif_pos (show 8 + s.val < 15 by omega)]
  after_reads_at
  unfold left
  rw [Pipeline.withArrays_of_ne spec0 c _ _ main_arg1 (by decide)]
  exact congrFun (V_main_arg1 m c) _
include I in
theorem out_new : final m c (Proc.devRef .tc main_v15) (ix4 0 n ⟨7 + t.val, by omega⟩ l) = col X W 0 (by decide) n t l := by
  unfold final
  after_reads_at
  rw [dif_neg (show ¬ 8 + (7 + t.val) < 15 by omega)]
  after_reads_at
  have e : 8 + (7 + t.val) - 15 = t.val := by omega
  simp only [e]
  exact (congrFun (left_arr m c 4) _).trans (u_array (operands I) (rowIn n t.val t.isLt) l)

end Cert.Kernel3Ideal.Value
-- ==== Proof.SampleProjRef.lean ====
/-
  The sample group's reference for the first input projection: its stages, and their entries.
-/
module

public import proofs.«01_k».proof.Proof.SampleProj
public import proofs.«01_k».proof.Proof.Gen.Reference3Ideal.Run
public import Idealize.ShloMosaic.Lib.Pointwise
public import Idealize.ShloMosaic.Lib.Pointwise.IndexVar

@[expose] public section

set_option maxRecDepth 16384

noncomputable section

namespace Cert.Reference3Ideal.Stages

open Idealize.ShloMosaic Idealize.ShloMosaic.TcCoe Idealize.ShloMosaic.StableHlo
open Cert.Reference3Ideal Cert.Reference3Ideal.Gen Cert.Kernel3Ideal.Proj

abbrev Columns : Type := FVec Ideal S128x8x3080 .f32
abbrev Part : Type := FVec Ideal S128x8x512 .f32
abbrev Gates : Type := FVec Ideal S128x8x8 .f32

/-- The projections of the rows. -/
def proj (x : FVec Ideal S128x8x1024 .f32) (W : FVec Ideal S1x1024x3080 .f32) : Columns :=
  Host.dotGeneral dot_S128x8x1024_S1024x3080_S128x8x3080_2_0_01_1_n_n none x (shapeCast _ W shapeCasts_S1x1024x3080_S1024x3080)

def part0 (z : Columns) : Part := extractStridedSlice S128x8x512 ![0, 0, 0] z slices_S128x8x3080_S128x8x512_0_0_0
def part512 (z : Columns) : Part := extractStridedSlice S128x8x512 ![0, 0, 512] z slices_S128x8x3080_S128x8x512_0_0_512
def part1024 (z : Columns) : Part := extractStridedSlice S128x8x512 ![0, 0, 1024] z slices_S128x8x3080_S128x8x512_0_0_1024
def part1536 (z : Columns) : Part := extractStridedSlice S128x8x512 ![0, 0, 1536] z slices_S128x8x3080_S128x8x512_0_0_1536
def part2048 (z : Columns) : Part := extractStridedSlice S128x8x512 ![0, 0, 2048] z slices_S128x8x3080_S128x8x512_0_0_2048
def part2560 (z : Columns) : Part := extractStridedSlice S128x8x512 ![0, 0, 2560] z slices_S128x8x3080_S128x8x512_0_0_2560

/-- The eight heads of the keys or values. -/
def heads (y : Part) : FVec Ideal S1x128x8x8x64 .f32 :=
  broadcastInDim S1x128x8x8x64 ![1, 2, 3, 4] bcast_S128x8x8x64_S1x128x8x8x64_1_2_3_4 (shapeCast _ y shapeCasts_S128x8x512_S128x8x8x64)

/-- The cached positions and the new ones after them. -/
def longer (x : FVec Ideal S1x128x15x512 .f32) (u : Part) : FVec Ideal S128x23x512 .f32 :=
  concatenate S128x23x512 1 [⟨S128x15x512, shapeCast _ x shapeCasts_S1x128x15x512_S128x15x512⟩, ⟨S128x8x512, u⟩] concatenates_S128x15x512_S128x8x512_S128x23x512_d1

/-- The last fifteen of them. -/
def pool (x : FVec Ideal S1x128x15x512 .f32) (u : Part) : FVec Ideal S1x128x15x512 .f32 :=
  broadcastInDim S1x128x15x512 ![1, 2, 3] bcast_S128x15x512_S1x128x15x512_1_2_3 (extractStridedSlice S128x15x512 ![0, 8, 0] (longer x u) slices_S128x23x512_S128x15x512_0_8_0)

/-- The forget gates before the logistic function. -/
def preGate (b : FVec Ideal S1x8 .f32) (z : Columns) : Gates :=
  addf (extractStridedSlice S128x8x8 ![0, 0, 3072] z slices_S128x8x3080_S128x8x8_0_0_3072)
    (broadcastInDim S128x8x8 ![0, 1, 2] bcast_S1x1x8_S128x8x8_0_1_2 (broadcastInDim S1x1x8 ![2] bcast_S8_S1x1x8_2 (shapeCast _ b shapeCasts_S1x8_S8)))

def nought : Gates := broadcastInDim S128x8x8 ![] bcast_S_S128x8x8 (constant S_ .f32 0x00000000#32)

/-- The logarithm of the logistic function, by that of the exponential's sum with one. -/
def logGate (x : Gates) : Gates :=
  Host.negf (select (cmpf .une (subf (Host.negf x) nought) (subf (Host.negf x) nought)) (addf (Host.negf x) nought)
    (addf (maximumf (Host.negf x) nought) (Host.log1p (Host.exp (Host.negf (Host.absf (subf (Host.negf x) nought)))))))

/-- With the layer's axis in front. -/
def layered (x : Gates) : FVec Ideal S1x128x8x8 .f32 := broadcastInDim S1x128x8x8 ![1, 2, 3] bcast_S128x8x8_S1x128x8x8_1_2_3 x

/-! ## Entries -/

theorem proj_apply (x : FVec Ideal S128x8x1024 .f32) (W : FVec Ideal S1x1024x3080 .f32) (n : Fin 128) (t : Fin 8) (j : Fin 3080) :
    proj x W (ix3 n t j) = ∑ k : Fin 1024, x (ix3 n t k) * W (ix3 0 k j) := by
  pointwise [proj]

theorem part0_apply (z : Columns) (n : Fin 128) (t : Fin 8) (l : Fin 512) : part0 z (ix3 n t l) = z (ix3 n t ⟨0 + l.val, by omega⟩) := by
  pointwise [part0]
theorem part512_apply (z : Columns) (n : Fin 128) (t : Fin 8) (l : Fin 512) : part512 z (ix3 n t l) = z (ix3 n t ⟨512 + l.val, by omega⟩) := by
  pointwise [part512]
theorem part1024_apply (z : Columns) (n : Fin 128) (t : Fin 8) (l : Fin 512) : part1024 z (ix3 n t l) = z (ix3 n t ⟨1024 + l.val, by omega⟩) := by
  pointwise [part1024]
theorem part1536_apply (z : Columns) (n : Fin 128) (t : Fin 8) (l : Fin 512) : part1536 z (ix3 n t l) = z (ix3 n t ⟨1536 + l.val, by omega⟩) := by
  pointwise [part1536]
theorem part2048_apply (z : Columns) (n : Fin 128) (t : Fin 8) (l : Fin 512) : part2048 z (ix3 n t l) = z (ix3 n t ⟨2048 + l.val, by omega⟩) := by
  pointwise [part2048]
theorem part2560_apply (z : Columns) (n : Fin 128) (t : Fin 8) (l : Fin 512) : part2560 z (ix3 n t l) = z (ix3 n t ⟨2560 + l.val, by omega⟩) := by
  pointwise [part2560]

theorem heads_apply (y : Part) (n : Fin 128) (t h : Fin 8) (d : Fin 64) : heads y (ix5 0 n t h d) = y (ix3 n t ⟨h.val * 64 + d.val, by omega⟩) := by
  pointwise [heads]

theorem pool_old (x : FVec Ideal S1x128x15x512 .f32) (u : Part) (n : Fin 128) (s : Fin 7) (l : Fin 512) :
    pool x u (ix4 0 n ⟨s.val, by omega⟩ l) = x (ix4 0 n ⟨8 + s.val, by omega⟩ l) := by
  pointwise [pool, longer]
  rw [dif_pos (by omega)]
theorem pool_new (x : FVec Ideal S1x128x15x512 .f32) (u : Part) (n : Fin 128) (t : Fin 8) (l : Fin 512) :
    pool x u (ix4 0 n ⟨7 + t.val, by omega⟩ l) = u (ix3 n t l) := by
  have e : 8 + (7 + t.val) - 15 = t.val := by omega
  pointwise [pool, longer]
  rw [dif_neg (by omega)]
  simp only [e]

theorem preGate_apply (b : FVec Ideal S1x8 .f32) (z : Columns) (n : Fin 128) (t h : Fin 8) :
    preGate b z (ix3 n t h) = z (ix3 n t ⟨3072 + h.val, by omega⟩) + b (ix2 0 h) := by
  pointwise [preGate]

theorem layered_apply (x : Gates) (n : Fin 128) (t h : Fin 8) : layered x (ix4 0 n t h) = x (ix3 n t h) := by
  pointwise [layered]

/-- The two forms of the logistic function's logarithm agree at every extended real. -/
theorem softplus_eq (z : EReal) : -(max (-z) 0 + Ideal.log1p (Ideal.exp (-(max (-z) (- -z))))) = logSigE z := by
  have one : Ideal.log1p (Ideal.exp ⊥) = 0 := by
    rw [Cert.Num.exp_bot, Ideal.log1p, add_zero, ← EReal.coe_one]
    show (if (1 : ℝ) ≤ 0 then (⊥ : EReal) else ((Real.log 1 : ℝ) : EReal)) = 0
    rw [if_neg (by norm_num), Real.log_one, EReal.coe_zero]
  rw [neg_neg, max_comm (-z) z, logSigE, zero_sub]
  induction z using EReal.rec with
  | bot => rw [EReal.neg_bot, max_eq_right bot_le, EReal.neg_top, one]; simp
  | top => rw [EReal.neg_top, max_eq_left bot_le, EReal.neg_top, one]; simp
  | coe z =>
    rw [← EReal.coe_neg, ← EReal.coe_strictMono.monotone.map_max, ← EReal.coe_neg, Cert.Num.log1p_exp_coe, ← EReal.coe_zero,
      ← EReal.coe_strictMono.monotone.map_max, ← EReal.coe_strictMono.monotone.map_min, ← EReal.coe_add, ← EReal.coe_neg, ← EReal.coe_sub]
    congr 1
    rw [neg_add, ← min_neg_neg, neg_neg, neg_zero]; ring

theorem logGate_apply (x : Gates) (n : Fin 128) (t h : Fin 8) : logGate x (ix3 n t h) = logSigE (x (ix3 n t h)) := by
  pointwise [logGate, nought]
  rw [if_neg (by simp), ← softplus_eq]
  rfl

end Cert.Reference3Ideal.Stages
-- ==== Proof.SampleRun.lean ====
/-
  The launched program's run: every weakly fair execution ends with each array at the contents that the sample group's three calls and
  the host lines between them leave.
-/
module

public import proofs.«01_k».proof.Proof.Gen.Kernel4Ideal.Frame

@[expose] public section

set_option maxRecDepth 16384

noncomputable section

namespace Cert.Kernel4Ideal.Run

open Idealize.ShloMosaic Idealize.ShloMosaic.TcCoe Idealize.ShloMosaic.Tactic
open Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every array outside the scopes ends at the last boundary's contents. -/
theorem run : θ_run defs (onTc (τ := τ) (main (F := F))) ⟨m, fun _ => 0, ρ⟩ (fun r => ∀ c : Dev nD, ∀ b ∈ Pipeline.ucRefs τ sig,
    r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c b hb => h c b hb)

end Cert.Kernel4Ideal.Run
-- ==== Proof.SampleRef.lean ====
/-
  The sample group's reference: the two layers' output projections and norms, the odd layer's projections and its forget gate.
-/
module

public import proofs.«01_k».proof.Proof.OddSpec
public import proofs.«01_k».proof.Proof.RunningSum
public import proofs.«01_k».proof.Proof.Gen.Reference4Ideal.Run
public import Idealize.ShloMosaic.Lib.Pointwise
public import Idealize.ShloMosaic.Lib.Pointwise.IndexVar
public import Idealize.ShloMosaic.Lib.WordCmp

@[expose] public section

set_option maxRecDepth 16384

noncomputable section

namespace Cert.Reference4Ideal.Stages

open Idealize.ShloMosaic Idealize.ShloMosaic.TcCoe Idealize.ShloMosaic.StableHlo Idealize.ShloMosaic.WordCmp
open Cert.Reference4Ideal Cert.Reference4Ideal.Gen Cert.Odd

abbrev Half : Type := FVec Ideal S128x8x512 .f32
abbrev Rows : Type := FVec Ideal S128x8x1024 .f32
abbrev Square : Type := FVec Ideal S1x1024x1024 .f32
abbrev Params : Type := FVec Ideal S1x1024 .f32
abbrev Columns : Type := FVec Ideal S128x8x3328 .f32
abbrev Pair : Type := FVec Ideal S2x512 .f32
abbrev Part : Type := FVec Ideal S128x8x512 .f32

/-- Two branches' rows beside one another. -/
def beside (x y : Half) : FVec Ideal S128x8x1024 .f32 :=
  concatenate S128x8x1024 2 [⟨S128x8x512, x⟩, ⟨S128x8x512, y⟩] concatenates_S128x8x512_S128x8x512_S128x8x1024_d2

/-- The scaled residual and the output projection. -/
def sumRows (x y : Half) (W : Square) (h : Rows) : Rows :=
  addf (mulf (broadcastInDim S128x8x1024 ![] bcast_S_S128x8x1024 (constant S_ .f32 0x3FB504F3#32)) h)
    (Host.dotGeneral dot_S128x8x1024_S1024x1024_S128x8x1024_2_0_01_1_n_n none (beside x y) (shapeCast _ W shapeCasts_S1x1024x1024_S1024x1024))

/-- The rows' means. -/
def means (x : Rows) : FVec Ideal S128x8x1 .f32 :=
  Host.divf (broadcastInDim S128x8x1 ![0, 1] bcast_S128x8_S128x8x1_0_1 (Host.reduceAdd x (constant S_ .f32 0x00000000#32) reducesTo_S128x8x1024_S128x8_d2 h_S_))
    (broadcastInDim S128x8x1 ![] bcast_S_S128x8x1 (constant S_ .f32 0x44800000#32))

/-- The rows with their means taken off. -/
def centred (x : Rows) : Rows := subf x (broadcastInDim S128x8x1024 ![0, 1, 2] bcast_S128x8x1_S128x8x1024_0_1_2 (means x))

/-- A gain or an offset at every row. -/
def spread (g : Params) : Rows :=
  broadcastInDim S128x8x1024 ![0, 1, 2] bcast_S1x1x1024_S128x8x1024_0_1_2 (broadcastInDim S1x1x1024 ![2] bcast_S1024_S1x1x1024_2 (shapeCast _ g shapeCasts_S1x1024_S1024))

/-- Centred rows over their deviation, with gain and offset. -/
def scaled (d : Rows) (g b : Params) : Rows :=
  addf (mulf (mulf d (broadcastInDim S128x8x1024 ![0, 1, 2] bcast_S128x8x1_S128x8x1024_0_1_2
    (Host.rsqrt (addf (means (mulf d d)) (broadcastInDim S128x8x1 ![] bcast_S_S128x8x1 (constant S_ .f32 0x3727C5AC#32)))))) (spread g)) (spread b)

/-- A layer's end. -/
def next (x y : Half) (W : Square) (h : Rows) (g b : Params) : Rows := scaled (centred (sumRows x y W h)) g b

/-- All columns of the odd layer's projections. -/
def proj (h : Rows) (W : FVec Ideal S1x1024x3328 .f32) : Columns :=
  Host.dotGeneral dot_S128x8x1024_S1024x3328_S128x8x3328_2_0_01_1_n_n none h (shapeCast _ W shapeCasts_S1x1024x3328_S1024x3328)

/-- The powers of the gate's parameters below the larger one. -/
def powers (a : Pair) : Pair :=
  Host.exp (subf a (broadcastInDim S2x512 ![0, 1] bcast_S1x512_S2x512_0_1 (broadcastInDim S1x512 ![1] bcast_S512_S1x512_1
    (maximumf (broadcastInDim S512 ![] bcast_S_S512 (constant S_ .f32 0xFF800000#32)) (Host.reduce FloatOps.maximumf a (constant S_ .f32 0xFF800000#32) reducesTo_S2x512_S512_d0 h_S_)))))

/-- The two layers' shares. -/
def shares (e : Pair) : Pair :=
  Host.divf e (broadcastInDim S2x512 ![0, 1] bcast_S1x512_S2x512_0_1 (broadcastInDim S1x512 ![1] bcast_S512_S1x512_1
    (Host.reduceAdd e (constant S_ .f32 0x00000000#32) reducesTo_S2x512_S512_d0 h_S_)))

/-- The shares' running sums. -/
def sums (s : Pair) : Pair :=
  Host.reduceWindowAdd ![2, 1] ![1, 1] ![1, 0] ![0, 0] s (broadcastInDim S_ ![] bcast_S_S_ (constant S_ .f32 0x00000000#32)) reduceWindows_S2x512_S2x512_w2s1p1_0_w1s1p0_0 h_S_

/-- The lower bound that sums and shares give the second layer. -/
def bound (u s : Pair) : FVec Ideal S512 .f32 :=
  shapeCast _ (extractStridedSlice S1x512 ![1, 0] (subf u (broadcastInDim S2x512 ![0, 1] bcast_S1x512_S2x512_0_1 (broadcastInDim S1x512 ![1] bcast_S512_S1x512_1
    (shapeCast _ (extractStridedSlice S1x512 ![0, 0] s slices_S2x512_S1x512_0_0) shapeCasts_S1x512_S512)))) slices_S2x512_S1x512_1_0) shapeCasts_S1x512_S512

/-- The parameters' lower bound. -/
def lowest (a : Pair) : FVec Ideal S512 .f32 := bound (sums (shares (powers a))) (shares (powers a))

/-- The forget gate above its lower bound. -/
def gate (l : FVec Ideal S512 .f32) (z : Columns) : Part :=
  addf (broadcastInDim S128x8x512 ![0, 1, 2] bcast_S1x1x512_S128x8x512_0_1_2 (broadcastInDim S1x1x512 ![2] bcast_S512_S1x1x512_2 l))
    (mulf (broadcastInDim S128x8x512 ![0, 1, 2] bcast_S1x1x512_S128x8x512_0_1_2 (broadcastInDim S1x1x512 ![2] bcast_S512_S1x1x512_2
        (subf (broadcastInDim S512 ![] bcast_S_S512 (constant S_ .f32 0x3F800000#32)) l)))
      (Host.divf (broadcastInDim S128x8x512 ![] bcast_S_S128x8x512 (constant S_ .f32 0x3F800000#32))
        (addf (broadcastInDim S128x8x512 ![] bcast_S_S128x8x512 (constant S_ .f32 0x3F800000#32))
          (Host.exp (Host.negf (extractStridedSlice S128x8x512 ![0, 0, 512] z slices_S128x8x3328_S128x8x512_0_0_512))))))

/-- What the gate does not forget. -/
def rest (f : Part) : Part := subf (broadcastInDim S128x8x512 ![] bcast_S_S128x8x512 (constant S_ .f32 0x3F800000#32)) f

theorem beside_first (x y : Half) (n : Fin 128) (t : Fin 8) (k : Fin 512) : beside x y (ix3 n t ⟨k.val, by omega⟩) = x (ix3 n t k) := by
  pointwise [beside]

theorem beside_second (x y : Half) (n : Fin 128) (t : Fin 8) (k : Fin 512) : beside x y (ix3 n t ⟨512 + k.val, by omega⟩) = y (ix3 n t k) := by
  pointwise [beside]

theorem sum_halves (f : Fin 1024 → EReal) : ∑ k, f k = (∑ k : Fin 512, f ⟨k.val, by omega⟩) + ∑ k : Fin 512, f ⟨512 + k.val, by omega⟩ :=
  Fin.sum_univ_add (a := 512) (b := 512) f

theorem sumRows_of (B : FVec Ideal S128x8x1024 .f32) (W : Square) (h : Rows) (n : Fin 128) (t : Fin 8) (j : Fin 1024) :
    addf (mulf (broadcastInDim S128x8x1024 ![] bcast_S_S128x8x1024 (constant S_ .f32 0x3FB504F3#32)) h)
      (Host.dotGeneral dot_S128x8x1024_S1024x1024_S128x8x1024_2_0_01_1_n_n none B (shapeCast _ W shapeCasts_S1x1024x1024_S1024x1024)) (ix3 n t j)
      = Ideal.ofBits .f32 0x3FB504F3#32 * h (ix3 n t j) + ∑ k : Fin 1024, B (ix3 n t k) * W (ix3 0 k j) := by
  pointwise

theorem sumRows_apply (x y : Half) (W : Square) (h : Rows) (n : Fin 128) (t : Fin 8) (j : Fin 1024) :
    sumRows x y W h (ix3 n t j) = merged (fun k => x (ix3 n t k)) (fun k => y (ix3 n t k)) (fun k j => W (ix3 0 k j)) (fun k => h (ix3 n t k)) j := by
  rw [sumRows, sumRows_of, sum_halves, merged]
  simp only [beside_first, beside_second]

theorem means_apply (x : Rows) (n : Fin 128) (t : Fin 8) : means x (ix3 n t 0) = mean fun k => x (ix3 n t k) := by
  pointwise [means, mean]

theorem centred_apply (x : Rows) (n : Fin 128) (t : Fin 8) (j : Fin 1024) : centred x (ix3 n t j) = x (ix3 n t j) - mean fun k => x (ix3 n t k) := by
  rw [← means_apply]
  pointwise [centred]

theorem scaled_of (d e : Rows) (g b : Params) (n : Fin 128) (t : Fin 8) (j : Fin 1024) :
    addf (mulf (mulf d (broadcastInDim S128x8x1024 ![0, 1, 2] bcast_S128x8x1_S128x8x1024_0_1_2
      (Host.rsqrt (addf (means e) (broadcastInDim S128x8x1 ![] bcast_S_S128x8x1 (constant S_ .f32 0x3727C5AC#32)))))) (spread g)) (spread b) (ix3 n t j)
      = d (ix3 n t j) * Ideal.rsqrt ((mean fun k => e (ix3 n t k)) + Ideal.ofBits .f32 0x3727C5AC#32) * g (ix2 0 j) + b (ix2 0 j) := by
  rw [← means_apply]
  pointwise [spread]

theorem next_apply (x y : Half) (W : Square) (h : Rows) (g b : Params) (n : Fin 128) (t : Fin 8) (j : Fin 1024) :
    next x y W h g b (ix3 n t j) = layerNorm (merged (fun k => x (ix3 n t k)) (fun k => y (ix3 n t k)) (fun k j => W (ix3 0 k j)) (fun k => h (ix3 n t k)))
      (fun k => g (ix2 0 k)) (fun k => b (ix2 0 k)) j := by
  rw [next, scaled, scaled_of, layerNorm]
  have e : ∀ k, mulf (centred (sumRows x y W h)) (centred (sumRows x y W h)) (ix3 n t k)
      = centred (sumRows x y W h) (ix3 n t k) * centred (sumRows x y W h) (ix3 n t k) := fun _ => rfl
  simp only [e, centred_apply, sumRows_apply]

theorem proj_apply (h : Rows) (W : FVec Ideal S1x1024x3328 .f32) (n : Fin 128) (t : Fin 8) (j : Fin 3328) :
    proj h W (ix3 n t j) = product (fun k => h (ix3 n t k)) (fun k j => W (ix3 0 k j)) j := by
  pointwise [proj, product]

theorem neg_inf : Ideal.ofBits FTy.f32 4286578688#32 = ⊥ := by simp [Ideal.ofBits, Ideal.ieee]

theorem larger (a : Pair) (l : Fin 512) : Host.reduce FloatOps.maximumf a (constant S_ .f32 0xFF800000#32) reducesTo_S2x512_S512_d0 h_S_ (ix1 l)
    = max (a (ix2 0 l)) (a (ix2 1 l)) := by
  rw [Host.reduce_eq_fold]
  refine (Shape.ReducesTo.fold_fiber_r2_a0 _ _ _ _ _).trans ?_
  show Finset.univ.fold max (Ideal.ofBits FTy.f32 4286578688#32) _ = _
  rw [neg_inf]
  have u : (Finset.univ : Finset (Fin 2)) = {0, 1} := by decide
  refine (congrArg (fun s => Finset.fold max ⊥ _ s) u).trans ?_
  rw [Finset.fold_insert (by decide), Finset.fold_singleton, max_eq_left bot_le]
  rfl

theorem powers_of (a : Pair) (r : FVec Ideal S512 .f32) (i : Fin 2) (l : Fin 512) :
    Host.exp (subf a (broadcastInDim S2x512 ![0, 1] bcast_S1x512_S2x512_0_1 (broadcastInDim S1x512 ![1] bcast_S512_S1x512_1
      (maximumf (broadcastInDim S512 ![] bcast_S_S512 (constant S_ .f32 0xFF800000#32)) r)))) (ix2 i l) = Ideal.exp (a (ix2 i l) - r (ix1 l)) := by
  pointwise
  rw [neg_inf, max_eq_right bot_le]

theorem shares_apply (e : Pair) (i : Fin 2) (l : Fin 512) : shares e (ix2 i l) = Ideal.div (e (ix2 i l)) (e (ix2 0 l) + e (ix2 1 l)) := by
  pointwise [shares]
  rw [Fin.sum_univ_two]

theorem sums_apply (s : Pair) (l : Fin 512) : sums s (ix2 1 l) = s (ix2 0 l) + s (ix2 1 l) := by
  have e : broadcastInDim S_ ![] bcast_S_S_ (constant (F := Ideal) S_ .f32 0x00000000#32) (Shape.Idx.first h_S_) = (0 : EReal) := by
    simp [broadcastInDim, constant]
  rw [sums, Host.reduceWindowAdd, Ideal.hostReduceWindowAdd_def, e]
  exact Cert.Num.window_two s _ l

theorem bound_apply (u s : Pair) (l : Fin 512) : bound u s (ix1 l) = u (ix2 1 l) - s (ix2 0 l) := by
  pointwise [bound]

theorem lowest_apply (a : Pair) (l : Fin 512) : lowest a (ix1 l) = lower (a (ix2 0 l)) (a (ix2 1 l)) := by
  have p : ∀ i, powers a (ix2 i l) = Ideal.exp (a (ix2 i l) - max (a (ix2 0 l)) (a (ix2 1 l))) := fun i => by rw [powers, powers_of, larger]
  rw [lowest, bound_apply, sums_apply, shares_apply, shares_apply, p, p, lower]

theorem gate_apply (v : FVec Ideal S512 .f32) (z : Columns) (n : Fin 128) (t : Fin 8) (l : Fin 512) :
    gate v z (ix3 n t l) = forget (v (ix1 l)) (z (ix3 n t ⟨512 + l.val, by omega⟩)) := by
  pointwise [gate, forget]
  rw [zero_sub]

theorem rest_apply (f : Part) (n : Fin 128) (t : Fin 8) (l : Fin 512) : rest f (ix3 n t l) = 1 - f (ix3 n t l) := by
  pointwise [rest]

theorem log_apply (f : Part) (n : Fin 128) (t : Fin 8) (l : Fin 512) : Host.log f (ix3 n t l) = Ideal.log (f (ix3 n t l)) := by
  pointwise

end Cert.Reference4Ideal.Stages
-- ==== Proof.SampleResults.lean ====
/-
  The sample group's reference's results as the stages applied to its arguments, and their entries.
-/
module

public import proofs.«01_k».proof.Proof.SampleRef

@[expose] public section

set_option maxRecDepth 16384

noncomputable section

namespace Cert.Reference4Ideal.Stages

open Idealize.ShloMosaic Idealize.ShloMosaic.TcCoe Idealize.ShloMosaic.StableHlo
open Cert.Reference4Ideal Cert.Reference4Ideal.Gen Cert.Odd

def part0 (z : Columns) : Part := extractStridedSlice S128x8x512 ![0, 0, 0] z slices_S128x8x3328_S128x8x512_0_0_0
def part1024 (z : Columns) : Part := extractStridedSlice S128x8x512 ![0, 0, 1024] z slices_S128x8x3328_S128x8x512_0_0_1024
def part1536 (z : Columns) : Part := extractStridedSlice S128x8x512 ![0, 0, 1536] z slices_S128x8x3328_S128x8x512_0_0_1536
def part2048 (z : Columns) : Part := extractStridedSlice S128x8x512 ![0, 0, 2048] z slices_S128x8x3328_S128x8x512_0_0_2048
def part2816 (z : Columns) : Part := extractStridedSlice S128x8x512 ![0, 0, 2816] z slices_S128x8x3328_S128x8x512_0_0_2816

def keyCols (z : Columns) : FVec Ideal S128x8x128 .f32 := extractStridedSlice S128x8x128 ![0, 0, 2560] z slices_S128x8x3328_S128x8x128_0_0_2560
def valueCols (z : Columns) : FVec Ideal S128x8x128 .f32 := extractStridedSlice S128x8x128 ![0, 0, 2688] z slices_S128x8x3328_S128x8x128_0_0_2688

/-- The two heads of the keys or values. -/
def heads (x : FVec Ideal S128x8x128 .f32) : FVec Ideal S128x8x2x64 .f32 := shapeCast _ x shapeCasts_S128x8x128_S128x8x2x64

abbrev Cache : Type := FVec Ideal S1x128x128x2x64 .f32

/-- The cached positions and the new ones after them. -/
def after (x : Cache) (y : FVec Ideal S128x8x2x64 .f32) : FVec Ideal S128x136x2x64 .f32 :=
  concatenate S128x136x2x64 1 [⟨S128x128x2x64, shapeCast _ x shapeCasts_S1x128x128x2x64_S128x128x2x64⟩, ⟨S128x8x2x64, y⟩] concatenates_S128x128x2x64_S128x8x2x64_S128x136x2x64_d1

/-- The last window's positions. -/
def window (x : Cache) (y : FVec Ideal S128x8x2x64 .f32) : Cache :=
  broadcastInDim S1x128x128x2x64 ![1, 2, 3, 4] bcast_S128x128x2x64_S1x128x128x2x64_1_2_3_4 (extractStridedSlice S128x128x2x64 ![0, 8, 0, 0] (after x y) slices_S128x136x2x64_S128x128x2x64_0_8_0_0)

section Results
variable (m : (ℓ : Loc nD τ sig) → Buf (Elt Ideal) ℓ) (c : Dev nD)

/-- The odd layer's input. -/
def oddRows : Rows := next (m ((c.tc : Thread nD τ).loc main_arg0)) (m ((c.tc : Thread nD τ).loc main_arg1)) (m ((c.tc : Thread nD τ).loc main_arg3)) (m ((c.tc : Thread nD τ).loc main_arg2)) (m ((c.tc : Thread nD τ).loc main_arg4)) (m ((c.tc : Thread nD τ).loc main_arg5))

/-- The odd layer's projections. -/
def oddCols : Columns := proj (oddRows m c) (m ((c.tc : Thread nD τ).loc main_arg6))

theorem final_eq : Cert.Reference4Ideal.Value.res_main_v114 m c = next (m ((c.tc : Thread nD τ).loc main_arg10)) (m ((c.tc : Thread nD τ).loc main_arg11)) (m ((c.tc : Thread nD τ).loc main_arg12)) (oddRows m c) (m ((c.tc : Thread nD τ).loc main_arg13)) (m ((c.tc : Thread nD τ).loc main_arg14)) := by
  unfold Cert.Reference4Ideal.Value.res_main_v114
  rfl

theorem newKeys_eq : Cert.Reference4Ideal.Value.res_main_v116 m c = window (m ((c.tc : Thread nD τ).loc main_arg8)) (heads (keyCols (oddCols m c))) := by
  unfold Cert.Reference4Ideal.Value.res_main_v116
  rfl

theorem newValues_eq : Cert.Reference4Ideal.Value.res_main_v118 m c = window (m ((c.tc : Thread nD τ).loc main_arg9)) (heads (valueCols (oddCols m c))) := by
  unfold Cert.Reference4Ideal.Value.res_main_v118
  rfl

theorem q_eq : Cert.Reference4Ideal.Value.res_main_v51 m c = part0 (oddCols m c) := by
  unfold Cert.Reference4Ideal.Value.res_main_v51
  rfl

theorem kc_eq : Cert.Reference4Ideal.Value.res_main_v120 m c = rest (gate (lowest (m ((c.tc : Thread nD τ).loc main_arg7))) (oddCols m c)) := by
  unfold Cert.Reference4Ideal.Value.res_main_v120
  rfl

theorem lf_eq : Cert.Reference4Ideal.Value.res_main_v121 m c = Host.log (gate (lowest (m ((c.tc : Thread nD τ).loc main_arg7))) (oddCols m c)) := by
  unfold Cert.Reference4Ideal.Value.res_main_v121
  rfl

theorem i_eq : Cert.Reference4Ideal.Value.res_main_v53 m c = part1024 (oddCols m c) := by
  unfold Cert.Reference4Ideal.Value.res_main_v53
  rfl

theorem g_eq : Cert.Reference4Ideal.Value.res_main_v54 m c = part1536 (oddCols m c) := by
  unfold Cert.Reference4Ideal.Value.res_main_v54
  rfl

theorem wq_eq : Cert.Reference4Ideal.Value.res_main_v55 m c = part2048 (oddCols m c) := by
  unfold Cert.Reference4Ideal.Value.res_main_v55
  rfl

theorem wg_eq : Cert.Reference4Ideal.Value.res_main_v58 m c = part2816 (oddCols m c) := by
  unfold Cert.Reference4Ideal.Value.res_main_v58
  rfl

end Results

theorem part0_apply (z : Columns) (n : Fin 128) (t : Fin 8) (l : Fin 512) : part0 z (ix3 n t l) = z (ix3 n t ⟨0 + l.val, by omega⟩) := by
  pointwise [part0]
theorem part1024_apply (z : Columns) (n : Fin 128) (t : Fin 8) (l : Fin 512) : part1024 z (ix3 n t l) = z (ix3 n t ⟨1024 + l.val, by omega⟩) := by
  pointwise [part1024]
theorem part1536_apply (z : Columns) (n : Fin 128) (t : Fin 8) (l : Fin 512) : part1536 z (ix3 n t l) = z (ix3 n t ⟨1536 + l.val, by omega⟩) := by
  pointwise [part1536]
theorem part2048_apply (z : Columns) (n : Fin 128) (t : Fin 8) (l : Fin 512) : part2048 z (ix3 n t l) = z (ix3 n t ⟨2048 + l.val, by omega⟩) := by
  pointwise [part2048]
theorem part2816_apply (z : Columns) (n : Fin 128) (t : Fin 8) (l : Fin 512) : part2816 z (ix3 n t l) = z (ix3 n t ⟨2816 + l.val, by omega⟩) := by
  pointwise [part2816]
theorem keyCols_apply (z : Columns) (n : Fin 128) (t : Fin 8) (l : Fin 128) : keyCols z (ix3 n t l) = z (ix3 n t ⟨2560 + l.val, by omega⟩) := by
  pointwise [keyCols]
theorem valueCols_apply (z : Columns) (n : Fin 128) (t : Fin 8) (l : Fin 128) : valueCols z (ix3 n t l) = z (ix3 n t ⟨2688 + l.val, by omega⟩) := by
  pointwise [valueCols]
theorem heads_apply (x : FVec Ideal S128x8x128 .f32) (n : Fin 128) (t : Fin 8) (a : Fin 2) (d : Fin 64) :
    heads x (ix4 n t a d) = x (ix3 n t ⟨a.val * 64 + d.val, by omega⟩) := by
  pointwise [heads]
theorem window_old (x : Cache) (y : FVec Ideal S128x8x2x64 .f32) (n : Fin 128) (s : Fin 120) (a : Fin 2) (d : Fin 64) :
    window x y (ix5 0 n ⟨s.val, by omega⟩ a d) = x (ix5 0 n ⟨8 + s.val, by omega⟩ a d) := by
  pointwise [window, after]
  rw [dif_pos (by omega)]
theorem window_new (x : Cache) (y : FVec Ideal S128x8x2x64 .f32) (n : Fin 128) (t : Fin 8) (a : Fin 2) (d : Fin 64) :
    window x y (ix5 0 n ⟨120 + t.val, by omega⟩ a d) = y (ix4 n t a d) := by
  have e : 8 + (120 + t.val) - 128 = t.val := by omega
  pointwise [window, after]
  rw [dif_neg (by omega)]
  simp only [e]

end Cert.Reference4Ideal.Stages
-- ==== Proof.SampleEquation.lean ====
/-
  The sample group's calls of the output projections and the odd layer's projection leave the reference's arrays,
  whatever the arguments hold.
-/
module

public import proofs.«01_k».proof.Proof.SampleKernel
public import proofs.«01_k».proof.Proof.SampleRun
public import proofs.«01_k».proof.Proof.SampleResults
public import proofs.«01_k».proof.Defs

@[expose] public section

set_option maxRecDepth 16384

noncomputable section

namespace Cert.SampleEquation

open Idealize.ShloMosaic Idealize.ShloMosaic.TcCoe
open Cert.Kernel4Ideal.Value (Inputs flat rowIn oddIn out_final out_oldKeys out_newKeys out_oldValues out_newValues out_q out_k out_lf out_i out_g out_wq out_wg)
open Cert.Kernel4Ideal.Norm (nextAt)
open Cert.Kernel4Ideal.Odd (column masked gateAt)
open Cert.Kernel4Ideal.Gen (W7)
open Cert.Reference4Ideal.Stages Cert.Odd

theorem rowIn_mod (n : Fin 128) (t : ℕ) (ht : t < 8) : (rowIn n t ht).val % 8 = t := by
  show (n.val * 8 + t) % 8 = t
  omega

theorem flat_rowIn {d : ℕ} (A : Fin 128 → Fin 8 → Fin d → EReal) (n : Fin 128) (t : ℕ) (ht : t < 8) : flat A (rowIn n t ht) = A n ⟨t, ht⟩ := by
  funext k
  have q : (⟨(rowIn n t ht).val / 8, by omega⟩ : Fin 128) = n := Fin.ext (by show (n.val * 8 + t) / 8 = n.val; omega)
  have r : (⟨(rowIn n t ht).val % 8, by omega⟩ : Fin 8) = ⟨t, ht⟩ := Fin.ext (rowIn_mod n t ht)
  rw [flat, q, r]

/-- Positions and features of an array of sequences. -/
abbrev entries {d : ℕ} {φ : FTy} (x : FVec Ideal ⟨3, ![128, 8, d]⟩ φ) : Fin 128 → Fin 8 → Fin d → EReal := fun n s k => x (ix3 n s k)
/-- Entries of one layer's weights. -/
abbrev table {a b : ℕ} (x : FVec Ideal ⟨3, ![1, a, b]⟩ .f32) : Fin a → Fin b → EReal := fun k j => x (ix3 0 k j)
/-- Entries of one layer's parameters. -/
abbrev line {a : ℕ} (x : FVec Ideal ⟨2, ![1, a]⟩ .f32) : Fin a → EReal := fun k => x (ix2 0 k)

/-- A layer's end at a position is the kernel's at its row. -/
theorem next_row (x y : Half) (W : Square) (h : Rows) (g b : Params) (A : Fin 1024 → Fin 1024 → EReal)
    (hA : ∀ n (t : Fin 8), A (rowIn n t.val t.isLt) = fun k => h (ix3 n t k)) (n : Fin 128) (t : Fin 8) (j : Fin 1024) :
    next x y W h g b (ix3 n t j) = nextAt (flat (entries x)) (flat (entries y)) (table W) A (line g) (line b) (rowIn n t.val t.isLt) j := by
  rw [next_apply, nextAt, flat_rowIn, flat_rowIn, hA]

/-- A column of the projections at a position is the kernel's at its row. -/
theorem proj_row (h : Rows) (W : FVec Ideal Cert.Reference4Ideal.S1x1024x3328 .f32) (A : Fin 1024 → Fin 1024 → EReal)
    (hA : ∀ n (t : Fin 8) k, h (ix3 n t k) = A (rowIn n t.val t.isLt) k) (n : Fin 128) (t : Fin 8) (w o : ℕ) (ho : o + w ≤ 3328) (l : Fin w) :
    proj h W (ix3 n t ⟨o + l.val, by omega⟩) = column A (table W) w o ho (rowIn n t.val t.isLt) l := by
  rw [proj_apply, column]
  simp only [hA]

/-- An index of a window is that of an old position or of a new one. -/
theorem window_cases {x y : Cache} (old : ∀ (n : Fin 128) (s : Fin 120) (a : Fin 2) (d : Fin 64), x (ix5 0 n ⟨s.val, by omega⟩ a d) = y (ix5 0 n ⟨s.val, by omega⟩ a d))
    (new : ∀ (n : Fin 128) (t : Fin 8) (a : Fin 2) (d : Fin 64), x (ix5 0 n ⟨120 + t.val, by omega⟩ a d) = y (ix5 0 n ⟨120 + t.val, by omega⟩ a d)) : x = y := by
  have key : ∀ (n s : Fin 128) (a : Fin 2) (d : Fin 64), x (ix5 0 n s a d) = y (ix5 0 n s a d) := fun n s a d => by
    by_cases h : s.val < 120
    · exact old n ⟨s.val, h⟩ a d
    · have e : s = ⟨120 + (⟨s.val - 120, by omega⟩ : Fin 8).val, by have := s.isLt; show 120 + (s.val - 120) < 128; omega⟩ := Fin.ext (by show s.val = 120 + (s.val - 120); omega)
      rw [e]
      exact new n ⟨s.val - 120, by omega⟩ a d
  funext i
  have e : i 0 = (0 : Fin 1) := Subsingleton.elim (α := Fin 1) _ _
  rw [eq_ix5 i, e]
  exact key (i 1) (i 2) (i 3) (i 4)

section Equal

variable {m : (ℓ : Loc Cert.Kernel4Ideal.nD Cert.Kernel4Ideal.τ Cert.Kernel4Ideal.sig) → Buf (Elt Ideal) ℓ} {ρ : Dev Cert.Kernel4Ideal.nD → PrngReg} {c : Dev Cert.Kernel4Ideal.nD}
  {a0 a1 a8 a9 : Half} {a2 : Rows} {a3 a10 : Square} {a4 a5 a11 a12 : Params} {a6 : FVec Ideal Cert.Reference4Ideal.S1x1024x3328 .f32} {a7 : Pair} {k8 v9 : Cache}

/-- The kernel's arguments are the reference's. -/
theorem inputs (e0 : a0 = m ((c : Thread Cert.Kernel4Ideal.nD Cert.Kernel4Ideal.τ).loc Cert.Kernel4Ideal.main_arg0))
    (e1 : a1 = m ((c : Thread Cert.Kernel4Ideal.nD Cert.Kernel4Ideal.τ).loc Cert.Kernel4Ideal.main_arg1))
    (e2 : a2 = m ((c : Thread Cert.Kernel4Ideal.nD Cert.Kernel4Ideal.τ).loc Cert.Kernel4Ideal.main_arg2))
    (e3 : a3 = m ((c : Thread Cert.Kernel4Ideal.nD Cert.Kernel4Ideal.τ).loc Cert.Kernel4Ideal.main_arg3))
    (e4 : a4 = m ((c : Thread Cert.Kernel4Ideal.nD Cert.Kernel4Ideal.τ).loc Cert.Kernel4Ideal.main_arg4))
    (e5 : a5 = m ((c : Thread Cert.Kernel4Ideal.nD Cert.Kernel4Ideal.τ).loc Cert.Kernel4Ideal.main_arg5))
    (e6 : a6 = m ((c : Thread Cert.Kernel4Ideal.nD Cert.Kernel4Ideal.τ).loc Cert.Kernel4Ideal.main_arg6))
    (e7 : a7 = m ((c : Thread Cert.Kernel4Ideal.nD Cert.Kernel4Ideal.τ).loc Cert.Kernel4Ideal.main_arg7))
    (e8 : k8 = m ((c : Thread Cert.Kernel4Ideal.nD Cert.Kernel4Ideal.τ).loc Cert.Kernel4Ideal.main_arg8))
    (e9 : v9 = m ((c : Thread Cert.Kernel4Ideal.nD Cert.Kernel4Ideal.τ).loc Cert.Kernel4Ideal.main_arg9))
    (e10 : a8 = m ((c : Thread Cert.Kernel4Ideal.nD Cert.Kernel4Ideal.τ).loc Cert.Kernel4Ideal.main_arg10))
    (e11 : a9 = m ((c : Thread Cert.Kernel4Ideal.nD Cert.Kernel4Ideal.τ).loc Cert.Kernel4Ideal.main_arg11))
    (e12 : a10 = m ((c : Thread Cert.Kernel4Ideal.nD Cert.Kernel4Ideal.τ).loc Cert.Kernel4Ideal.main_arg12))
    (e13 : a11 = m ((c : Thread Cert.Kernel4Ideal.nD Cert.Kernel4Ideal.τ).loc Cert.Kernel4Ideal.main_arg13))
    (e14 : a12 = m ((c : Thread Cert.Kernel4Ideal.nD Cert.Kernel4Ideal.τ).loc Cert.Kernel4Ideal.main_arg14)) :
    Inputs m c (entries a0) (entries a1) (entries a8) (entries a9) (entries a2) (table a3) (table a10) (line a4) (line a5) (line a11) (line a12) (table a6) (fun i l => a7 (ix2 i l)) (fun n s a d => k8 (ix5 0 n s a d)) (fun n s a d => v9 (ix5 0 n s a d)) where
  i0 _ _ _ := (congrFun e0 _).symm
  i1 _ _ _ := (congrFun e1 _).symm
  i2 _ _ _ := (congrFun e2 _).symm
  i3 _ _ := (congrFun e3 _).symm
  i4 _ := (congrFun e4 _).symm
  i5 _ := (congrFun e5 _).symm
  i6 _ _ := (congrFun e6 _).symm
  i7 _ _ := (congrFun e7 _).symm
  i8 _ _ _ := (congrFun e10 _).symm
  i9 _ _ _ := (congrFun e11 _).symm
  i10 _ _ := (congrFun e12 _).symm
  i11 _ := (congrFun e13 _).symm
  i12 _ := (congrFun e14 _).symm
  keys _ _ _ _ := (congrFun e8 _).symm
  values _ _ _ _ := (congrFun e9 _).symm

/-- The odd layer's input at a position. -/
theorem odd_row (a0 a1 : Half) (a2 : Rows) (a3 : Square) (a4 a5 : Params) (n : Fin 128) (t : Fin 8) (k : Fin 1024) : next a0 a1 a3 a2 a4 a5 (ix3 n t k)
    = oddIn (entries a0) (entries a1) (entries a2) (table a3) (line a4) (line a5) (rowIn n t.val t.isLt) k :=
  next_row a0 a1 a3 a2 a4 a5 _ (fun n t => flat_rowIn _ n t.val t.isLt) n t k

/-- The forget gate at a position. -/
theorem gate_row (a0 a1 : Half) (a2 : Rows) (a3 : Square) (a4 a5 : Params) (a6 : FVec Ideal Cert.Reference4Ideal.S1x1024x3328 .f32) (a7 : Pair) (n : Fin 128) (t : Fin 8) (l : Fin 512) :
    gate (lowest a7) (proj (next a0 a1 a3 a2 a4 a5) a6) (ix3 n t l)
      = gateAt (oddIn (entries a0) (entries a1) (entries a2) (table a3) (line a4) (line a5)) (table a6) (fun i l => a7 (ix2 i l)) (rowIn n t.val t.isLt) l := by
  rw [gate_apply, lowest_apply, gateAt, ← proj_row _ a6 _ (odd_row a0 a1 a2 a3 a4 a5)]

variable (I : Inputs m c (entries a0) (entries a1) (entries a8) (entries a9) (entries a2) (table a3) (table a10) (line a4) (line a5) (line a11) (line a12) (table a6) (fun i l => a7 (ix2 i l)) (fun n s a d => k8 (ix5 0 n s a d)) (fun n s a d => v9 (ix5 0 n s a d)))

include I

theorem final_same : next a8 a9 a10 (next a0 a1 a3 a2 a4 a5) a11 a12 = W7 m ρ c (Proc.devRef .tc Cert.Kernel4Ideal.main_v40) := by
  have key : ∀ (n : Fin 128) (t : Fin 8) (j : Fin 1024), next a8 a9 a10 (next a0 a1 a3 a2 a4 a5) a11 a12 (ix3 n t j)
      = W7 m ρ c (Proc.devRef .tc Cert.Kernel4Ideal.main_v40) (ix3 n t j) := fun n t j => by
    rw [out_final I]
    exact next_row a8 a9 a10 _ a11 a12 _ (fun n t => funext fun k => (odd_row a0 a1 a2 a3 a4 a5 n t k).symm) n t j
  funext i
  rw [eq_ix3 i]
  exact key _ _ _

theorem q_same : part0 (proj (next a0 a1 a3 a2 a4 a5) a6) = W7 m ρ c (Proc.devRef .tc Cert.Kernel4Ideal.main_v41) := by
  funext i
  rw [eq_ix3 i]
  exact ((part0_apply _ _ _ _).trans (proj_row _ a6 _ (odd_row a0 a1 a2 a3 a4 a5) _ _ 512 0 (by decide) _)).trans (out_q I _ _ _).symm

theorem i_same : part1024 (proj (next a0 a1 a3 a2 a4 a5) a6) = W7 m ρ c (Proc.devRef .tc Cert.Kernel4Ideal.main_v44) := by
  funext i
  rw [eq_ix3 i]
  exact ((part1024_apply _ _ _ _).trans (proj_row _ a6 _ (odd_row a0 a1 a2 a3 a4 a5) _ _ 512 1024 (by decide) _)).trans (out_i I _ _ _).symm

theorem g_same : part1536 (proj (next a0 a1 a3 a2 a4 a5) a6) = W7 m ρ c (Proc.devRef .tc Cert.Kernel4Ideal.main_v45) := by
  funext i
  rw [eq_ix3 i]
  exact ((part1536_apply _ _ _ _).trans (proj_row _ a6 _ (odd_row a0 a1 a2 a3 a4 a5) _ _ 512 1536 (by decide) _)).trans (out_g I _ _ _).symm

theorem wq_same : part2048 (proj (next a0 a1 a3 a2 a4 a5) a6) = W7 m ρ c (Proc.devRef .tc Cert.Kernel4Ideal.main_v46) := by
  funext i
  rw [eq_ix3 i]
  exact ((part2048_apply _ _ _ _).trans (proj_row _ a6 _ (odd_row a0 a1 a2 a3 a4 a5) _ _ 512 2048 (by decide) _)).trans (out_wq I _ _ _).symm

theorem wg_same : part2816 (proj (next a0 a1 a3 a2 a4 a5) a6) = W7 m ρ c (Proc.devRef .tc Cert.Kernel4Ideal.main_v47) := by
  funext i
  rw [eq_ix3 i]
  exact ((part2816_apply _ _ _ _).trans (proj_row _ a6 _ (odd_row a0 a1 a2 a3 a4 a5) _ _ 512 2816 (by decide) _)).trans (out_wg I _ _ _).symm

theorem kc_same : rest (gate (lowest a7) (proj (next a0 a1 a3 a2 a4 a5) a6)) = W7 m ρ c (Proc.devRef .tc Cert.Kernel4Ideal.main_v42) := by
  have key : ∀ (n : Fin 128) (t : Fin 8) (l : Fin 512), rest (gate (lowest a7) (proj (next a0 a1 a3 a2 a4 a5) a6)) (ix3 n t l)
      = W7 m ρ c (Proc.devRef .tc Cert.Kernel4Ideal.main_v42) (ix3 n t l) := fun n t l => by
    rw [rest_apply, gate_row, out_k I, masked]
  funext i
  rw [eq_ix3 i]
  exact key _ _ _

theorem lf_same : Host.log (gate (lowest a7) (proj (next a0 a1 a3 a2 a4 a5) a6)) = W7 m ρ c (Proc.devRef .tc Cert.Kernel4Ideal.main_v43) := by
  have key : ∀ (n : Fin 128) (t : Fin 8) (l : Fin 512), Host.log (gate (lowest a7) (proj (next a0 a1 a3 a2 a4 a5) a6)) (ix3 n t l)
      = W7 m ρ c (Proc.devRef .tc Cert.Kernel4Ideal.main_v43) (ix3 n t l) := fun n t l => by
    rw [log_apply, gate_row, out_lf I, masked]
  funext i
  rw [eq_ix3 i]
  exact key _ _ _

theorem newKeys_same : window k8 (heads (keyCols (proj (next a0 a1 a3 a2 a4 a5) a6))) = W7 m ρ c (Proc.devRef .tc Cert.Kernel4Ideal.main_v35) :=
  window_cases (fun n s a d => (window_old _ _ n s a d).trans (out_oldKeys I n a d s).symm) fun n t a d => by
    rw [window_new, heads_apply, keyCols_apply, out_newKeys I]
    exact proj_row _ a6 _ (odd_row a0 a1 a2 a3 a4 a5) n t 128 2560 (by decide) ⟨a.val * 64 + d.val, by omega⟩

theorem newValues_same : window v9 (heads (valueCols (proj (next a0 a1 a3 a2 a4 a5) a6))) = W7 m ρ c (Proc.devRef .tc Cert.Kernel4Ideal.main_v39) :=
  window_cases (fun n s a d => (window_old _ _ n s a d).trans (out_oldValues I n a d s).symm) fun n t a d => by
    rw [window_new, heads_apply, valueCols_apply, out_newValues I]
    exact proj_row _ a6 _ (odd_row a0 a1 a2 a3 a4 a5) n t 128 2688 (by decide) ⟨a.val * 64 + d.val, by omega⟩

end Equal

theorem algebraic : Cert.algebraic_Kernel4Ideal_Reference4Ideal (hKernel4Ideal := Cert.Kernel4Ideal.Gen.facts) (hReference4Ideal := Cert.Reference4Ideal.Gen.facts) := by
  intro m g m' g' _ hag
  have I := fun c : Dev Cert.Kernel4Ideal.nD => inputs (m := m) (c := c) ((hag c).1) ((hag c).2.1) ((hag c).2.2.1) ((hag c).2.2.2.1) ((hag c).2.2.2.2.1) ((hag c).2.2.2.2.2.1) ((hag c).2.2.2.2.2.2.1) ((hag c).2.2.2.2.2.2.2.1) ((hag c).2.2.2.2.2.2.2.2.1) ((hag c).2.2.2.2.2.2.2.2.2.1) ((hag c).2.2.2.2.2.2.2.2.2.2.1) ((hag c).2.2.2.2.2.2.2.2.2.2.2.1) ((hag c).2.2.2.2.2.2.2.2.2.2.2.2.1) ((hag c).2.2.2.2.2.2.2.2.2.2.2.2.2.1) ((hag c).2.2.2.2.2.2.2.2.2.2.2.2.2.2)
  refine ⟨_, _, _, _, _, _, _, _, _, _, (θ_run _ _ _).mono (fun r h c => ⟨h c _ (Cert.Kernel4Ideal.Gen.mem_uc Cert.Kernel4Ideal.main_v40 (by decide)), h c _ (Cert.Kernel4Ideal.Gen.mem_uc Cert.Kernel4Ideal.main_v35 (by decide)), h c _ (Cert.Kernel4Ideal.Gen.mem_uc Cert.Kernel4Ideal.main_v39 (by decide)), h c _ (Cert.Kernel4Ideal.Gen.mem_uc Cert.Kernel4Ideal.main_v41 (by decide)), h c _ (Cert.Kernel4Ideal.Gen.mem_uc Cert.Kernel4Ideal.main_v42 (by decide)), h c _ (Cert.Kernel4Ideal.Gen.mem_uc Cert.Kernel4Ideal.main_v43 (by decide)), h c _ (Cert.Kernel4Ideal.Gen.mem_uc Cert.Kernel4Ideal.main_v44 (by decide)), h c _ (Cert.Kernel4Ideal.Gen.mem_uc Cert.Kernel4Ideal.main_v45 (by decide)), h c _ (Cert.Kernel4Ideal.Gen.mem_uc Cert.Kernel4Ideal.main_v46 (by decide)), h c _ (Cert.Kernel4Ideal.Gen.mem_uc Cert.Kernel4Ideal.main_v47 (by decide)),
      (h c _ (Cert.Kernel4Ideal.Gen.mem_uc Cert.Kernel4Ideal.main_arg0 (by decide))).trans (Cert.Kernel4Ideal.Gen.W7_main_arg0 m g c),
      (h c _ (Cert.Kernel4Ideal.Gen.mem_uc Cert.Kernel4Ideal.main_arg1 (by decide))).trans (Cert.Kernel4Ideal.Gen.W7_main_arg1 m g c),
      (h c _ (Cert.Kernel4Ideal.Gen.mem_uc Cert.Kernel4Ideal.main_arg2 (by decide))).trans (Cert.Kernel4Ideal.Gen.W7_main_arg2 m g c),
      (h c _ (Cert.Kernel4Ideal.Gen.mem_uc Cert.Kernel4Ideal.main_arg3 (by decide))).trans (Cert.Kernel4Ideal.Gen.W7_main_arg3 m g c),
      (h c _ (Cert.Kernel4Ideal.Gen.mem_uc Cert.Kernel4Ideal.main_arg4 (by decide))).trans (Cert.Kernel4Ideal.Gen.W7_main_arg4 m g c),
      (h c _ (Cert.Kernel4Ideal.Gen.mem_uc Cert.Kernel4Ideal.main_arg5 (by decide))).trans (Cert.Kernel4Ideal.Gen.W7_main_arg5 m g c),
      (h c _ (Cert.Kernel4Ideal.Gen.mem_uc Cert.Kernel4Ideal.main_arg6 (by decide))).trans (Cert.Kernel4Ideal.Gen.W7_main_arg6 m g c),
      (h c _ (Cert.Kernel4Ideal.Gen.mem_uc Cert.Kernel4Ideal.main_arg7 (by decide))).trans (Cert.Kernel4Ideal.Gen.W7_main_arg7 m g c),
      (h c _ (Cert.Kernel4Ideal.Gen.mem_uc Cert.Kernel4Ideal.main_arg8 (by decide))).trans (Cert.Kernel4Ideal.Gen.W7_main_arg8 m g c),
      (h c _ (Cert.Kernel4Ideal.Gen.mem_uc Cert.Kernel4Ideal.main_arg9 (by decide))).trans (Cert.Kernel4Ideal.Gen.W7_main_arg9 m g c),
      (h c _ (Cert.Kernel4Ideal.Gen.mem_uc Cert.Kernel4Ideal.main_arg10 (by decide))).trans (Cert.Kernel4Ideal.Gen.W7_main_arg10 m g c),
      (h c _ (Cert.Kernel4Ideal.Gen.mem_uc Cert.Kernel4Ideal.main_arg11 (by decide))).trans (Cert.Kernel4Ideal.Gen.W7_main_arg11 m g c),
      (h c _ (Cert.Kernel4Ideal.Gen.mem_uc Cert.Kernel4Ideal.main_arg12 (by decide))).trans (Cert.Kernel4Ideal.Gen.W7_main_arg12 m g c),
      (h c _ (Cert.Kernel4Ideal.Gen.mem_uc Cert.Kernel4Ideal.main_arg13 (by decide))).trans (Cert.Kernel4Ideal.Gen.W7_main_arg13 m g c),
      (h c _ (Cert.Kernel4Ideal.Gen.mem_uc Cert.Kernel4Ideal.main_arg14 (by decide))).trans (Cert.Kernel4Ideal.Gen.W7_main_arg14 m g c)⟩) (Cert.Kernel4Ideal.Run.run m g), ?_⟩
  refine (θ_run _ _ _).mono (fun r h c => ?_) (Cert.Reference4Ideal.Value.run (F := Ideal) m' g')
  obtain ⟨h0, h1, h2, h3, h4, h5, h6, h7, h8, h9, hargs⟩ := h c
  exact ⟨h0.trans ((final_eq m' c).trans (final_same (I c))),
    h1.trans ((newKeys_eq m' c).trans (newKeys_same (I c))),
    h2.trans ((newValues_eq m' c).trans (newValues_same (I c))),
    h3.trans ((q_eq m' c).trans (q_same (I c))),
    h4.trans ((kc_eq m' c).trans (kc_same (I c))),
    h5.trans ((lf_eq m' c).trans (lf_same (I c))),
    h6.trans ((i_eq m' c).trans (i_same (I c))),
    h7.trans ((g_eq m' c).trans (g_same (I c))),
    h8.trans ((wq_eq m' c).trans (wq_same (I c))),
    h9.trans ((wg_eq m' c).trans (wg_same (I c))), hargs⟩

end Cert.SampleEquation
-- ==== Proof.SampleProjEquation.lean ====
/-
  The sample group's call of the first input projection leaves the reference's arrays, whatever the arguments hold.
-/
module

public import proofs.«01_k».proof.Proof.SampleProjKernel
public import proofs.«01_k».proof.Proof.SampleProjRef
public import proofs.«01_k».proof.Proof.SampleEquation

@[expose] public section

set_option maxRecDepth 16384

noncomputable section

namespace Cert.SampleProjEquation

open Idealize.ShloMosaic Idealize.ShloMosaic.TcCoe
open Cert.Kernel3Ideal.Value (Inputs final col mainW gateW gateB out_old out_new out_k out_v out_lf out_ga out_q out_gb)
open Cert.Kernel3Ideal.Proj (column gateOf)
open Cert.Kernel4Ideal.Value (flat rowIn)
open Cert.SampleEquation (flat_rowIn entries table line)
open Cert.Reference3Ideal.Stages

/-- Entries of the cached positions. -/
abbrev slots (x : FVec Ideal Cert.Reference3Ideal.S1x128x15x512 .f32) : Fin 128 → Fin 15 → Fin 512 → EReal := fun n s l => x (ix4 0 n s l)

/-- A column of the projections at a position is the kernel's at its row. -/
theorem proj_row (x : FVec Ideal Cert.Reference3Ideal.S128x8x1024 .f32) (W : FVec Ideal Cert.Reference3Ideal.S1x1024x3080 .f32)
    (o : ℕ) (ho : o ≤ 2560) (n : Fin 128) (t : Fin 8) (l : Fin 512) :
    proj x W (ix3 n t ⟨o + l.val, by omega⟩) = col (entries x) (table W) o ho n t l := by
  rw [proj_apply, col, column, flat_rowIn]
  rfl

/-- A gate at a position is the kernel's at its row. -/
theorem gate_row (x : FVec Ideal Cert.Reference3Ideal.S128x8x1024 .f32) (W : FVec Ideal Cert.Reference3Ideal.S1x1024x3080 .f32)
    (b : FVec Ideal Cert.Reference3Ideal.S1x8 .f32) (n : Fin 128) (t h : Fin 8) :
    logGate (preGate b (proj x W)) (ix3 n t h) = gateOf (flat (entries x)) (gateW (table W)) (gateB (line b)) (rowIn n t.val t.isLt) ⟨h.val, by omega⟩ := by
  rw [logGate_apply, preGate_apply, proj_apply, gateOf, if_pos h.isLt, flat_rowIn]
  simp only [gateW, gateB, dif_pos h.isLt]

section Equal

variable {m : (ℓ : Loc Cert.Kernel3Ideal.nD Cert.Kernel3Ideal.τ Cert.Kernel3Ideal.sig) → Buf (Elt Ideal) ℓ} {c : Dev Cert.Kernel3Ideal.nD}
  {x : FVec Ideal Cert.Reference3Ideal.S128x8x1024 .f32} {p : FVec Ideal Cert.Reference3Ideal.S1x128x15x512 .f32}
  {W : FVec Ideal Cert.Reference3Ideal.S1x1024x3080 .f32} {b : FVec Ideal Cert.Reference3Ideal.S1x8 .f32}

/-- The kernel's arguments are the reference's. -/
theorem inputs (e0 : x = m ((c : Thread Cert.Kernel3Ideal.nD Cert.Kernel3Ideal.τ).loc Cert.Kernel3Ideal.main_arg0))
    (e1 : p = m ((c : Thread Cert.Kernel3Ideal.nD Cert.Kernel3Ideal.τ).loc Cert.Kernel3Ideal.main_arg1))
    (e2 : W = m ((c : Thread Cert.Kernel3Ideal.nD Cert.Kernel3Ideal.τ).loc Cert.Kernel3Ideal.main_arg2))
    (e3 : b = m ((c : Thread Cert.Kernel3Ideal.nD Cert.Kernel3Ideal.τ).loc Cert.Kernel3Ideal.main_arg3)) :
    Inputs m c (entries x) (slots p) (table W) (line b) where
  rows _ _ _ := (congrFun e0 _).symm
  cached _ _ _ := (congrFun e1 _).symm
  weights _ _ := (congrFun e2 _).symm
  bias _ := (congrFun e3 _).symm

variable (I : Inputs m c (entries x) (slots p) (table W) (line b))

include I

theorem ga_same : part512 (proj x W) = final m c (Proc.devRef .tc Cert.Kernel3Ideal.main_v23) := by
  funext i
  rw [eq_ix3 i]
  exact ((part512_apply _ _ _ _).trans (proj_row x W 512 (by decide) _ _ _)).trans (out_ga I _ _ _).symm

theorem q_same : part1024 (proj x W) = final m c (Proc.devRef .tc Cert.Kernel3Ideal.main_v24) := by
  funext i
  rw [eq_ix3 i]
  exact ((part1024_apply _ _ _ _).trans (proj_row x W 1024 (by decide) _ _ _)).trans (out_q I _ _ _).symm

theorem gb_same : part2560 (proj x W) = final m c (Proc.devRef .tc Cert.Kernel3Ideal.main_v25) := by
  funext i
  rw [eq_ix3 i]
  exact ((part2560_apply _ _ _ _).trans (proj_row x W 2560 (by decide) _ _ _)).trans (out_gb I _ _ _).symm

theorem k_same : heads (part1536 (proj x W)) = final m c (Proc.devRef .tc Cert.Kernel3Ideal.main_v17) := by
  have key : ∀ (n : Fin 128) (t h : Fin 8) (d : Fin 64), heads (part1536 (proj x W)) (ix5 0 n t h d)
      = final m c (Proc.devRef .tc Cert.Kernel3Ideal.main_v17) (ix5 0 n t h d) := fun n t h d => by
    rw [heads_apply, part1536_apply, out_k I]
    exact proj_row x W 1536 (by decide) n t ⟨h.val * 64 + d.val, by omega⟩
  funext i
  have e : i 0 = (0 : Fin 1) := Subsingleton.elim (α := Fin 1) _ _
  rw [eq_ix5 i, e]
  exact key (i 1) (i 2) (i 3) (i 4)

theorem v_same : heads (part2048 (proj x W)) = final m c (Proc.devRef .tc Cert.Kernel3Ideal.main_v19) := by
  have key : ∀ (n : Fin 128) (t h : Fin 8) (d : Fin 64), heads (part2048 (proj x W)) (ix5 0 n t h d)
      = final m c (Proc.devRef .tc Cert.Kernel3Ideal.main_v19) (ix5 0 n t h d) := fun n t h d => by
    rw [heads_apply, part2048_apply, out_v I]
    exact proj_row x W 2048 (by decide) n t ⟨h.val * 64 + d.val, by omega⟩
  funext i
  have e : i 0 = (0 : Fin 1) := Subsingleton.elim (α := Fin 1) _ _
  rw [eq_ix5 i, e]
  exact key (i 1) (i 2) (i 3) (i 4)

theorem lf_same : layered (logGate (preGate b (proj x W))) = final m c (Proc.devRef .tc Cert.Kernel3Ideal.main_v22) := by
  have key : ∀ (n : Fin 128) (t h : Fin 8), layered (logGate (preGate b (proj x W))) (ix4 0 n t h)
      = final m c (Proc.devRef .tc Cert.Kernel3Ideal.main_v22) (ix4 0 n t h) := fun n t h => by
    rw [layered_apply, gate_row, out_lf I]
  funext i
  have e : i 0 = (0 : Fin 1) := Subsingleton.elim (α := Fin 1) _ _
  rw [eq_ix4 i, e]
  exact key (i 1) (i 2) (i 3)

theorem pool_same : pool p (part0 (proj x W)) = final m c (Proc.devRef .tc Cert.Kernel3Ideal.main_v15) := by
  have key : ∀ (n : Fin 128) (s : Fin 15) (l : Fin 512), pool p (part0 (proj x W)) (ix4 0 n s l)
      = final m c (Proc.devRef .tc Cert.Kernel3Ideal.main_v15) (ix4 0 n s l) := fun n s l => by
    by_cases h : s.val < 7
    · exact (pool_old _ _ n ⟨s.val, h⟩ l).trans (out_old I n l ⟨s.val, h⟩).symm
    · have e : s = ⟨7 + (⟨s.val - 7, by omega⟩ : Fin 8).val, by have := s.isLt; show 7 + (s.val - 7) < 15; omega⟩ := Fin.ext (by show s.val = 7 + (s.val - 7); omega)
      rw [e, pool_new, part0_apply, out_new I]
      exact proj_row x W 0 (by decide) n _ l
  funext i
  have e : i 0 = (0 : Fin 1) := Subsingleton.elim (α := Fin 1) _ _
  rw [eq_ix4 i, e]
  exact key (i 1) (i 2) (i 3)

end Equal

/-- An array no window of the call stages. -/
theorem unstaged (b : Ref Cert.Kernel3Ideal.sig .tc) (h : b ∈ Pipeline.restRefs Cert.Kernel3Ideal.sig Cert.Kernel3Ideal.spec0 := by exact Pipeline.mem_restRefs_of _ (by decide) (by decide)) :
    b ∈ Pipeline.restRefs Cert.Kernel3Ideal.sig Cert.Kernel3Ideal.spec0 := h

theorem algebraic : Cert.algebraic_Kernel3Ideal_Reference3Ideal (hKernel3Ideal := Cert.Kernel3Ideal.Gen.facts) (hReference3Ideal := Cert.Reference3Ideal.Gen.facts) := by
  intro m g m' g' _ hag
  have I := fun c : Dev Cert.Kernel3Ideal.nD => inputs (m := m) (c := c) ((hag c).1) ((hag c).2.1) ((hag c).2.2.1) ((hag c).2.2.2)
  refine ⟨_, _, _, _, _, _, _, (θ_run _ _ _).mono (fun r h c => ⟨h.1 c _ (unstaged Cert.Kernel3Ideal.main_v15), h.1 c _ (unstaged Cert.Kernel3Ideal.main_v17),
      h.1 c _ (unstaged Cert.Kernel3Ideal.main_v19), h.1 c _ (unstaged Cert.Kernel3Ideal.main_v22), h.1 c _ (unstaged Cert.Kernel3Ideal.main_v23),
      h.1 c _ (unstaged Cert.Kernel3Ideal.main_v24), h.1 c _ (unstaged Cert.Kernel3Ideal.main_v25), h.2 c⟩)
    (θ_run_and (Cert.Kernel3Ideal.Value.run m g) (Cert.Kernel3Ideal.Gen.unchanged m g)), ?_⟩
  refine (θ_run _ _ _).mono (fun r h c => ?_) (Cert.Reference3Ideal.Value.run (F := Ideal) m' g')
  obtain ⟨h0, h1, h2, h3, h4, h5, h6, hargs⟩ := h c
  exact ⟨h0.trans (pool_same (I c)), h1.trans (k_same (I c)), h2.trans (v_same (I c)), h3.trans (lf_same (I c)),
    h4.trans (ga_same (I c)), h5.trans (q_same (I c)), h6.trans (gb_same (I c)), hargs⟩

end Cert.SampleProjEquation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite
public import proofs.«01_k».proof.Proof.Equation
public import proofs.«01_k».proof.Proof.OddEquation
public import proofs.«01_k».proof.Proof.SampleProjEquation
public import proofs.«01_k».proof.Proof.SampleEquation
public import Idealize.ShloMosaic.Adequacy
public import Idealize.ShloMosaic.Init

@[expose] public section

noncomputable section

namespace Cert.Proof

open Idealize.ShloMosaic Idealize.SL.Sem Cert.Kernel

theorem no_semaphore : ∀ _ : SemLoc Cert.ReferenceIdeal.sig, False := by decide

/-- The reference runs, its arguments end unchanged, and it has no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2.2, funext fun s => (no_semaphore s.2).elim⟩) (Cert.ReferenceIdeal.Value.run (F := Ideal) m g)

theorem no_semaphore2 : ∀ _ : SemLoc Cert.Reference2Ideal.sig, False := by decide

/-- The same of the second reference. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0) :=
  (θ_run _ _ _).mono (fun r h => ⟨fun c => (h c).2.2.2.2.2.2.2.2.2.2.2.2, funext fun s => (no_semaphore2 s.2).elim⟩) (Cert.Reference2Ideal.Value.run (F := Ideal) m g)

theorem no_semaphore3 : ∀ _ : SemLoc Cert.Reference3Ideal.sig, False := by decide

/-- The same of the third reference. -/
theorem frame_reference3 : Cert.quiescent_Reference3Ideal (hReference3Ideal := Cert.Reference3Ideal.Gen.facts) := fun m g _ =>
  (θ_run _ _ _).mono (fun r h => ⟨fun c => (h c).2.2.2.2.2.2.2, funext fun s => (no_semaphore3 s.2).elim⟩) (Cert.Reference3Ideal.Value.run (F := Ideal) m g)

theorem no_semaphore4 : ∀ _ : SemLoc Cert.Reference4Ideal.sig, False := by decide

/-- The same of the fourth reference. -/
theorem frame_reference4 : Cert.quiescent_Reference4Ideal (hReference4Ideal := Cert.Reference4Ideal.Gen.facts) := fun m g _ =>
  (θ_run _ _ _).mono (fun r h => ⟨fun c => (h c).2.2.2.2.2.2.2.2.2.2, funext fun s => (no_semaphore4 s.2).elim⟩) (Cert.Reference4Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts,
  fun m g _ => Cert.Kernel.Gen.frame m g, fun m g _ => Cert.KernelIdeal.Gen.frame m g, fun m g _ => Cert.KernelIdeal.Gen.frame m g,
  fun m g _ => frame_reference m g, fun m g _ => frame_reference m g,
  fun m g _ => Cert.Kernel2.Gen.frame m g, fun m g _ => Cert.Kernel2Ideal.Gen.frame m g, fun m g _ => frame_reference2 m g,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  IdealRules.named_const.statement Cert.KernelIdeal.κ "mask" .f32 0xF149F2CA#32 ⊥ rfl,
  Cert.Equation.algebraic, trivial, Cert.OddEquation.algebraic, trivial, Cert.SampleProjEquation.algebraic, trivial, Cert.SampleEquation.algebraic⟩

end Cert.Proof

end
